-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 2048]⟩ ⟨2, ![2048, 2048]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 64]⟩ ⟨2, ![2048, 2048]⟩ 1 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = Layout.block ⟨2, ![2048, 64]⟩ ⟨2, ![2048, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x2048 : Shape := ⟨2, ![64, 2048]⟩
abbrev S2048x64 : Shape := ⟨2, ![2048, 64]⟩
abbrev S32x37 : Shape := ⟨2, ![32, 37]⟩
abbrev S_ : Shape := ⟨0, ![]⟩
abbrev S1 : Shape := ⟨1, ![1]⟩
abbrev S37 : Shape := ⟨1, ![37]⟩
abbrev S2048x2048 : Shape := ⟨2, ![2048, 2048]⟩
abbrev S8x1 : Shape := ⟨2, ![8, 1]⟩
abbrev S7x1 : Shape := ⟨2, ![7, 1]⟩
abbrev S1x1 : Shape := ⟨2, ![1, 1]⟩

abbrev nBuf : Space → Nat
  | .hbm => 29
  | .vmem => 4
  | .smem => 1
  | _ => 0

abbrev bufTy : (tb : Table) → Fin (tcTables nBuf tb) → BufTy
  | .hbm, ⟨0, _⟩ => ⟨S64x2048, .bf16⟩
  | .hbm, ⟨1, _⟩ => ⟨S2048x64, .bf16⟩
  | .hbm, ⟨2, _⟩ => ⟨S32x37, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S1, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S1, .i1⟩
  | .hbm, ⟨19, _⟩ => ⟨S1, .i1⟩
  | .hbm, ⟨20, _⟩ => ⟨S1, .i1⟩
  | .hbm, ⟨21, _⟩ => ⟨S_, .i1⟩
  | .hbm, ⟨22, _⟩ => ⟨S_, .i1⟩
  | .hbm, ⟨23, _⟩ => ⟨S37, .i32⟩
  | .hbm, ⟨24, _⟩ => ⟨S37, .i1⟩
  | .hbm, ⟨25, _⟩ => ⟨S_, .i32⟩
  | .hbm, ⟨26, _⟩ => ⟨S37, .i32⟩
  | .hbm, ⟨27, _⟩ => ⟨S37, .i32⟩
  | .hbm, ⟨28, _⟩ => ⟨S2048x64, .f32⟩
  | .local _ .vmem, ⟨0, _⟩ => ⟨S64x2048, .bf16⟩
  | .local _ .vmem, ⟨1, _⟩ => ⟨S2048x64, .bf16⟩
  | .local _ .vmem, ⟨2, _⟩ => ⟨S2048x64, .f32⟩
  | .local _ .vmem, ⟨3, _⟩ => ⟨S2048x2048, .bf16⟩
  | .local _ .smem, ⟨0, _⟩ => ⟨S37, .i32⟩
  | _, _ => ⟨S64x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_c : Ref sig .tc := ⟨.hbm, 9, rfl⟩
abbrev main_call0_v0 : Ref sig .tc := ⟨.hbm, 10, rfl⟩
abbrev main_call0_c_0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_c_1 : Ref sig .tc := ⟨.hbm, 15, rfl⟩
abbrev main_call0_c_2 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_c_3 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_c_4 : Ref sig .tc := ⟨.hbm, 25, rfl⟩
abbrev main_call0_v11 : Ref sig .tc := ⟨.hbm, 26, rfl⟩
abbrev main_v5 : Ref sig .tc := ⟨.hbm, 27, rfl⟩
abbrev main_v6 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_mult1 (v3 : BitVec 32) : BitVec 32 :=
  v3

def k0_off1 (v3 : BitVec 32) : Fin 2 → Nat :=
  let v4 : BitVec 32 := v3
  let v7 : Index := Scalar.indexCast v4
  let c0_2 : Index := 0#32
  ![v7.toNat, 0]

def k0_chk1 (v3 : BitVec 32) : Prop :=
  (64 ∣ (k0_mult1 v3).toNat) ∧
  (∀ a, (k0_off1 v3) a + S64x2048.size a ≤ S2048x2048.size a) ∧
  (∀ (hinb : ∀ a, (k0_off1 v3) a + S64x2048.size a ≤ S2048x2048.size a), (Rect.unit (s := S2048x2048) (k0_off1 v3) S64x2048.size hinb).PackedRows (EltTy.packing .bf16))
theorem k0_mult1_dvd : ∀ (v3 : BitVec 32) (k0_hw1 : k0_chk1 v3), 64 ∣ (k0_mult1 v3).toNat := fun v3 k0_hw1 => k0_hw1.1
theorem k0_off1_inb : ∀ (v3 : BitVec 32) (k0_hw1 : k0_chk1 v3), ∀ a, (k0_off1 v3) a + S64x2048.size a ≤ S2048x2048.size a := fun v3 k0_hw1 => k0_hw1.2.1
theorem k0_off1_packedbf16 : ∀ (v3 : BitVec 32) (k0_hw1 : k0_chk1 v3), (Rect.unit (s := S2048x2048) (k0_off1 v3) S64x2048.size (k0_off1_inb v3 k0_hw1)).PackedRows (EltTy.packing .bf16) := fun v3 k0_hw1 => k0_hw1.2.2 (k0_off1_inb v3 k0_hw1)

def k0_dev1 (v0 : BitVec 32) : Nat :=
  let c0_i32 : BitVec 32 := 0#32
  let c1_i32_3 : BitVec 32 := 1#32
  let v12 : BitVec 32 := Scalar.muli v0 c1_i32_3
  let v13 : BitVec 32 := Scalar.addi c0_i32 v12
  v13.toNat

def k0_dev2 (v1 : BitVec 32) : Nat :=
  let c0_i32_6 : BitVec 32 := 0#32
  let c1_i32_5 : BitVec 32 := 1#32
  let v14 : BitVec 32 := Scalar.muli v1 c1_i32_5
  let v15 : BitVec 32 := Scalar.addi c0_i32_6 v14
  v15.toNat

def k0_dev3 (v2 : BitVec 32) : Nat :=
  let c0_i32_9 : BitVec 32 := 0#32
  let c1_i32_8 : BitVec 32 := 1#32
  let v16 : BitVec 32 := Scalar.muli v2 c1_i32_8
  let v17 : BitVec 32 := Scalar.addi c0_i32_9 v16
  v17.toNat

def k0_mult2 (v18 : BitVec 32) : BitVec 32 :=
  let c0_i32_11 : BitVec 32 := 0#32
  let v19 : BitVec 32 := Scalar.addi v18 c0_i32_11
  v19

def k0_off2 (v18 : BitVec 32) : Fin 2 → Nat :=
  let c0_i32_11 : BitVec 32 := 0#32
  let v19 : BitVec 32 := Scalar.addi v18 c0_i32_11
  let v20 : BitVec 32 := v19
  let c0_i32_16 : BitVec 32 := 0#32
  ![v20.toNat, 0]
def k0_dev4 (v2 : BitVec 32) : Nat :=
  let c0_i32_15 : BitVec 32 := 0#32
  let c1_i32_14 : BitVec 32 := 1#32
  let v21 : BitVec 32 := Scalar.muli v2 c1_i32_14
  let v22 : BitVec 32 := Scalar.addi c0_i32_15 v21
  v22.toNat

def k0_chk4 (v2 : BitVec 32) : Prop :=
  ((k0_dev3 v2) < nD) ∧
  ((k0_dev4 v2) < nD)
theorem k0_dev3_lt : ∀ (v2 : BitVec 32) (k0_hw4 : k0_chk4 v2), (k0_dev3 v2) < nD := fun v2 k0_hw4 => k0_hw4.1
theorem k0_dev4_lt : ∀ (v2 : BitVec 32) (k0_hw4 : k0_chk4 v2), (k0_dev4 v2) < nD := fun v2 k0_hw4 => k0_hw4.2

def k0_mult3 (v29 : BitVec 32) : BitVec 32 :=
  let c0_i32_19 : BitVec 32 := 0#32
  let v30 : BitVec 32 := Scalar.addi v29 c0_i32_19
  v30

def k0_off3 (v29 : BitVec 32) : Fin 2 → Nat :=
  let c0_i32_19 : BitVec 32 := 0#32
  let v30 : BitVec 32 := Scalar.addi v29 c0_i32_19
  let v31 : BitVec 32 := v30
  let c0_i32_26 : BitVec 32 := 0#32
  ![v31.toNat, 0]
def k0_dev5 (v0 : BitVec 32) : Nat :=
  let c0_i32_25 : BitVec 32 := 0#32
  let c1_i32_24 : BitVec 32 := 1#32
  let v32 : BitVec 32 := Scalar.muli v0 c1_i32_24
  let v33 : BitVec 32 := Scalar.addi c0_i32_25 v32
  v33.toNat
def k0_mult4 (v40 : BitVec 32) : BitVec 32 :=
  let c0_i32_28 : BitVec 32 := 0#32
  let v41 : BitVec 32 := Scalar.addi v40 c0_i32_28
  v41

def k0_off4 (v40 : BitVec 32) : Fin 2 → Nat :=
  let c0_i32_28 : BitVec 32 := 0#32
  let v41 : BitVec 32 := Scalar.addi v40 c0_i32_28
  let v42 : BitVec 32 := v41
  let c0_i32_35 : BitVec 32 := 0#32
  ![v42.toNat, 0]
def k0_dev6 (v1 : BitVec 32) : Nat :=
  let c0_i32_34 : BitVec 32 := 0#32
  let c1_i32_33 : BitVec 32 := 1#32
  let v43 : BitVec 32 := Scalar.muli v1 c1_i32_33
  let v44 : BitVec 32 := Scalar.addi c0_i32_34 v43
  v44.toNat
def k0_mult5 (v51 : BitVec 32) : BitVec 32 :=
  let c0_i32_37 : BitVec 32 := 0#32
  let v52 : BitVec 32 := Scalar.addi v51 c0_i32_37
  v52

def k0_off5 (v51 : BitVec 32) : Fin 2 → Nat :=
  let c0_i32_37 : BitVec 32 := 0#32
  let v52 : BitVec 32 := Scalar.addi v51 c0_i32_37
  let v53 : BitVec 32 := v52
  let c0_i32_44 : BitVec 32 := 0#32
  ![v53.toNat, 0]

def k0_chk8 (v51 : BitVec 32) : Prop :=
  (64 ∣ (k0_mult5 v51).toNat) ∧
  (∀ a, (k0_off5 v51) a + S64x2048.size a ≤ S2048x2048.size a) ∧
  (∀ (hinb : ∀ a, (k0_off5 v51) a + S64x2048.size a ≤ S2048x2048.size a), (Rect.unit (s := S2048x2048) (k0_off5 v51) S64x2048.size hinb).WholeWords (EltTy.packing .bf16))
theorem k0_mult5_dvd : ∀ (v51 : BitVec 32) (k0_hw8 : k0_chk8 v51), 64 ∣ (k0_mult5 v51).toNat := fun v51 k0_hw8 => k0_hw8.1
theorem k0_off5_inb : ∀ (v51 : BitVec 32) (k0_hw8 : k0_chk8 v51), ∀ a, (k0_off5 v51) a + S64x2048.size a ≤ S2048x2048.size a := fun v51 k0_hw8 => k0_hw8.2.1
theorem k0_off5_wordsbf16 : ∀ (v51 : BitVec 32) (k0_hw8 : k0_chk8 v51), (Rect.unit (s := S2048x2048) (k0_off5 v51) S64x2048.size (k0_off5_inb v51 k0_hw8)).WholeWords (EltTy.packing .bf16) := fun v51 k0_hw8 => k0_hw8.2.2 (k0_off5_inb v51 k0_hw8)

def k0_mult6 (v60 : BitVec 32) : BitVec 32 :=
  let c0_i32_47 : BitVec 32 := 0#32
  let v61 : BitVec 32 := Scalar.addi v60 c0_i32_47
  v61

def k0_off6 (v60 : BitVec 32) : Fin 2 → Nat :=
  let c0_i32_47 : BitVec 32 := 0#32
  let v61 : BitVec 32 := Scalar.addi v60 c0_i32_47
  let v62 : BitVec 32 := v61
  let c0_i32_54 : BitVec 32 := 0#32
  ![v62.toNat, 0]
def k0_dev7 (v0 : BitVec 32) : Nat :=
  let c0_i32_53 : BitVec 32 := 0#32
  let c1_i32_52 : BitVec 32 := 1#32
  let v63 : BitVec 32 := Scalar.muli v0 c1_i32_52
  let v64 : BitVec 32 := Scalar.addi c0_i32_53 v63
  v64.toNat
def k0_mult7 (v71 : BitVec 32) : BitVec 32 :=
  let c0_i32_56 : BitVec 32 := 0#32
  let v72 : BitVec 32 := Scalar.addi v71 c0_i32_56
  v72

def k0_off7 (v71 : BitVec 32) : Fin 2 → Nat :=
  let c0_i32_56 : BitVec 32 := 0#32
  let v72 : BitVec 32 := Scalar.addi v71 c0_i32_56
  let v73 : BitVec 32 := v72
  let c0_i32_63 : BitVec 32 := 0#32
  ![v73.toNat, 0]

def k0_chk10 (v71 : BitVec 32) : Prop :=
  (64 ∣ (k0_mult7 v71).toNat) ∧
  (∀ a, (k0_off7 v71) a + S64x2048.size a ≤ S2048x2048.size a) ∧
  (∀ (hinb : ∀ a, (k0_off7 v71) a + S64x2048.size a ≤ S2048x2048.size a), (Rect.unit (s := S2048x2048) (k0_off7 v71) S64x2048.size hinb).WholeWords (EltTy.packing .bf16))
theorem k0_mult7_dvd : ∀ (v71 : BitVec 32) (k0_hw10 : k0_chk10 v71), 64 ∣ (k0_mult7 v71).toNat := fun v71 k0_hw10 => k0_hw10.1
theorem k0_off7_inb : ∀ (v71 : BitVec 32) (k0_hw10 : k0_chk10 v71), ∀ a, (k0_off7 v71) a + S64x2048.size a ≤ S2048x2048.size a := fun v71 k0_hw10 => k0_hw10.2.1
theorem k0_off7_wordsbf16 : ∀ (v71 : BitVec 32) (k0_hw10 : k0_chk10 v71), (Rect.unit (s := S2048x2048) (k0_off7 v71) S64x2048.size (k0_off7_inb v71 k0_hw10)).WholeWords (EltTy.packing .bf16) := fun v71 k0_hw10 => k0_hw10.2.2 (k0_off7_inb v71 k0_hw10)

def k0_mult8 (v80 : BitVec 32) : BitVec 32 :=
  let c0_i32_66 : BitVec 32 := 0#32
  let v81 : BitVec 32 := Scalar.addi v80 c0_i32_66
  v81

def k0_off8 (v80 : BitVec 32) : Fin 2 → Nat :=
  let c0_i32_66 : BitVec 32 := 0#32
  let v81 : BitVec 32 := Scalar.addi v80 c0_i32_66
  let v82 : BitVec 32 := v81
  let c0_i32_73 : BitVec 32 := 0#32
  ![v82.toNat, 0]
def k0_dev8 (v1 : BitVec 32) : Nat :=
  let c0_i32_72 : BitVec 32 := 0#32
  let c1_i32_71 : BitVec 32 := 1#32
  let v83 : BitVec 32 := Scalar.muli v1 c1_i32_71
  let v84 : BitVec 32 := Scalar.addi c0_i32_72 v83
  v84.toNat
def k0_mult9 (v91 : BitVec 32) : BitVec 32 :=
  let c0_i32_75 : BitVec 32 := 0#32
  let v92 : BitVec 32 := Scalar.addi v91 c0_i32_75
  v92

def k0_off9 (v91 : BitVec 32) : Fin 2 → Nat :=
  let c0_i32_75 : BitVec 32 := 0#32
  let v92 : BitVec 32 := Scalar.addi v91 c0_i32_75
  let v93 : BitVec 32 := v92
  let c0_i32_80 : BitVec 32 := 0#32
  ![v93.toNat, 0]

def k0_chk12 (v91 : BitVec 32) : Prop :=
  (64 ∣ (k0_mult9 v91).toNat) ∧
  (∀ a, (k0_off9 v91) a + S64x2048.size a ≤ S2048x2048.size a) ∧
  (∀ (hinb : ∀ a, (k0_off9 v91) a + S64x2048.size a ≤ S2048x2048.size a), (Rect.unit (s := S2048x2048) (k0_off9 v91) S64x2048.size hinb).WholeWords (EltTy.packing .bf16))
theorem k0_mult9_dvd : ∀ (v91 : BitVec 32) (k0_hw12 : k0_chk12 v91), 64 ∣ (k0_mult9 v91).toNat := fun v91 k0_hw12 => k0_hw12.1
theorem k0_off9_inb : ∀ (v91 : BitVec 32) (k0_hw12 : k0_chk12 v91), ∀ a, (k0_off9 v91) a + S64x2048.size a ≤ S2048x2048.size a := fun v91 k0_hw12 => k0_hw12.2.1
theorem k0_off9_wordsbf16 : ∀ (v91 : BitVec 32) (k0_hw12 : k0_chk12 v91), (Rect.unit (s := S2048x2048) (k0_off9 v91) S64x2048.size (k0_off9_inb v91 k0_hw12)).WholeWords (EltTy.packing .bf16) := fun v91 k0_hw12 => k0_hw12.2.2 (k0_off9_inb v91 k0_hw12)

def k0_mult10 (v100 : BitVec 32) : BitVec 32 :=
  let c0_i32_83 : BitVec 32 := 0#32
  let v101 : BitVec 32 := Scalar.addi v100 c0_i32_83
  v101

def k0_off10 (v100 : BitVec 32) : Fin 2 → Nat :=
  let c0_i32_83 : BitVec 32 := 0#32
  let v101 : BitVec 32 := Scalar.addi v100 c0_i32_83
  let v102 : BitVec 32 := v101
  let c0_i32_90 : BitVec 32 := 0#32
  ![v102.toNat, 0]
def k0_dev9 (v0 : BitVec 32) : Nat :=
  let c0_i32_89 : BitVec 32 := 0#32
  let c1_i32_88 : BitVec 32 := 1#32
  let v103 : BitVec 32 := Scalar.muli v0 c1_i32_88
  let v104 : BitVec 32 := Scalar.addi c0_i32_89 v103
  v104.toNat
def k0_mult11 (v111 : BitVec 32) : BitVec 32 :=
  let c0_i32_92 : BitVec 32 := 0#32
  let v112 : BitVec 32 := Scalar.addi v111 c0_i32_92
  v112

def k0_off11 (v111 : BitVec 32) : Fin 2 → Nat :=
  let c0_i32_92 : BitVec 32 := 0#32
  let v112 : BitVec 32 := Scalar.addi v111 c0_i32_92
  let v113 : BitVec 32 := v112
  let c0_i32_99 : BitVec 32 := 0#32
  ![v113.toNat, 0]
def k0_dev10 (v1 : BitVec 32) : Nat :=
  let c0_i32_98 : BitVec 32 := 0#32
  let c1_i32_97 : BitVec 32 := 1#32
  let v114 : BitVec 32 := Scalar.muli v1 c1_i32_97
  let v115 : BitVec 32 := Scalar.addi c0_i32_98 v114
  v115.toNat
def k0_mult12 (v122 : BitVec 32) : BitVec 32 :=
  let c0_i32_101 : BitVec 32 := 0#32
  let v123 : BitVec 32 := Scalar.addi v122 c0_i32_101
  v123

def k0_off12 (v122 : BitVec 32) : Fin 2 → Nat :=
  let c0_i32_101 : BitVec 32 := 0#32
  let v123 : BitVec 32 := Scalar.addi v122 c0_i32_101
  let v124 : BitVec 32 := v123
  let c0_i32_108 : BitVec 32 := 0#32
  ![v124.toNat, 0]

def k0_chk15 (v122 : BitVec 32) : Prop :=
  (64 ∣ (k0_mult12 v122).toNat) ∧
  (∀ a, (k0_off12 v122) a + S64x2048.size a ≤ S2048x2048.size a) ∧
  (∀ (hinb : ∀ a, (k0_off12 v122) a + S64x2048.size a ≤ S2048x2048.size a), (Rect.unit (s := S2048x2048) (k0_off12 v122) S64x2048.size hinb).WholeWords (EltTy.packing .bf16))
theorem k0_mult12_dvd : ∀ (v122 : BitVec 32) (k0_hw15 : k0_chk15 v122), 64 ∣ (k0_mult12 v122).toNat := fun v122 k0_hw15 => k0_hw15.1
theorem k0_off12_inb : ∀ (v122 : BitVec 32) (k0_hw15 : k0_chk15 v122), ∀ a, (k0_off12 v122) a + S64x2048.size a ≤ S2048x2048.size a := fun v122 k0_hw15 => k0_hw15.2.1
theorem k0_off12_wordsbf16 : ∀ (v122 : BitVec 32) (k0_hw15 : k0_chk15 v122), (Rect.unit (s := S2048x2048) (k0_off12 v122) S64x2048.size (k0_off12_inb v122 k0_hw15)).WholeWords (EltTy.packing .bf16) := fun v122 k0_hw15 => k0_hw15.2.2 (k0_off12_inb v122 k0_hw15)

def k0_mult13 (v131 : BitVec 32) : BitVec 32 :=
  let c0_i32_111 : BitVec 32 := 0#32
  let v132 : BitVec 32 := Scalar.addi v131 c0_i32_111
  v132

def k0_off13 (v131 : BitVec 32) : Fin 2 → Nat :=
  let c0_i32_111 : BitVec 32 := 0#32
  let v132 : BitVec 32 := Scalar.addi v131 c0_i32_111
  let v133 : BitVec 32 := v132
  let c0_i32_117 : BitVec 32 := 0#32
  ![v133.toNat, 0]
def k0_dev11 (v0 : BitVec 32) : Nat :=
  let c0_i32_116 : BitVec 32 := 0#32
  let c1_i32_115 : BitVec 32 := 1#32
  let v134 : BitVec 32 := Scalar.muli v0 c1_i32_115
  let v135 : BitVec 32 := Scalar.addi c0_i32_116 v134
  v135.toNat
def k0_mult14 (v142 : BitVec 32) : BitVec 32 :=
  let c0_i32_119 : BitVec 32 := 0#32
  let v143 : BitVec 32 := Scalar.addi v142 c0_i32_119
  v143

def k0_off14 (v142 : BitVec 32) : Fin 2 → Nat :=
  let c0_i32_119 : BitVec 32 := 0#32
  let v143 : BitVec 32 := Scalar.addi v142 c0_i32_119
  let v144 : BitVec 32 := v143
  let c0_i32_126 : BitVec 32 := 0#32
  ![v144.toNat, 0]

def k0_chk17 (v142 : BitVec 32) : Prop :=
  (64 ∣ (k0_mult14 v142).toNat) ∧
  (∀ a, (k0_off14 v142) a + S64x2048.size a ≤ S2048x2048.size a) ∧
  (∀ (hinb : ∀ a, (k0_off14 v142) a + S64x2048.size a ≤ S2048x2048.size a), (Rect.unit (s := S2048x2048) (k0_off14 v142) S64x2048.size hinb).WholeWords (EltTy.packing .bf16))
theorem k0_mult14_dvd : ∀ (v142 : BitVec 32) (k0_hw17 : k0_chk17 v142), 64 ∣ (k0_mult14 v142).toNat := fun v142 k0_hw17 => k0_hw17.1
theorem k0_off14_inb : ∀ (v142 : BitVec 32) (k0_hw17 : k0_chk17 v142), ∀ a, (k0_off14 v142) a + S64x2048.size a ≤ S2048x2048.size a := fun v142 k0_hw17 => k0_hw17.2.1
theorem k0_off14_wordsbf16 : ∀ (v142 : BitVec 32) (k0_hw17 : k0_chk17 v142), (Rect.unit (s := S2048x2048) (k0_off14 v142) S64x2048.size (k0_off14_inb v142 k0_hw17)).WholeWords (EltTy.packing .bf16) := fun v142 k0_hw17 => k0_hw17.2.2 (k0_off14_inb v142 k0_hw17)

def k0_mult15 (v151 : BitVec 32) : BitVec 32 :=
  let c0_i32_129 : BitVec 32 := 0#32
  let v152 : BitVec 32 := Scalar.addi v151 c0_i32_129
  v152

def k0_off15 (v151 : BitVec 32) : Fin 2 → Nat :=
  let c0_i32_129 : BitVec 32 := 0#32
  let v152 : BitVec 32 := Scalar.addi v151 c0_i32_129
  let v153 : BitVec 32 := v152
  let c0_i32_136 : BitVec 32 := 0#32
  ![v153.toNat, 0]
def k0_dev12 (v1 : BitVec 32) : Nat :=
  let c0_i32_135 : BitVec 32 := 0#32
  let c1_i32_134 : BitVec 32 := 1#32
  let v154 : BitVec 32 := Scalar.muli v1 c1_i32_134
  let v155 : BitVec 32 := Scalar.addi c0_i32_135 v154
  v155.toNat
def k0_mult16 (v162 : BitVec 32) : BitVec 32 :=
  let c0_i32_138 : BitVec 32 := 0#32
  let v163 : BitVec 32 := Scalar.addi v162 c0_i32_138
  v163

def k0_off16 (v162 : BitVec 32) : Fin 2 → Nat :=
  let c0_i32_138 : BitVec 32 := 0#32
  let v163 : BitVec 32 := Scalar.addi v162 c0_i32_138
  let v164 : BitVec 32 := v163
  let c0_i32_145 : BitVec 32 := 0#32
  ![v164.toNat, 0]

def k0_chk19 (v162 : BitVec 32) : Prop :=
  (64 ∣ (k0_mult16 v162).toNat) ∧
  (∀ a, (k0_off16 v162) a + S64x2048.size a ≤ S2048x2048.size a) ∧
  (∀ (hinb : ∀ a, (k0_off16 v162) a + S64x2048.size a ≤ S2048x2048.size a), (Rect.unit (s := S2048x2048) (k0_off16 v162) S64x2048.size hinb).WholeWords (EltTy.packing .bf16))
theorem k0_mult16_dvd : ∀ (v162 : BitVec 32) (k0_hw19 : k0_chk19 v162), 64 ∣ (k0_mult16 v162).toNat := fun v162 k0_hw19 => k0_hw19.1
theorem k0_off16_inb : ∀ (v162 : BitVec 32) (k0_hw19 : k0_chk19 v162), ∀ a, (k0_off16 v162) a + S64x2048.size a ≤ S2048x2048.size a := fun v162 k0_hw19 => k0_hw19.2.1
theorem k0_off16_wordsbf16 : ∀ (v162 : BitVec 32) (k0_hw19 : k0_chk19 v162), (Rect.unit (s := S2048x2048) (k0_off16 v162) S64x2048.size (k0_off16_inb v162 k0_hw19)).WholeWords (EltTy.packing .bf16) := fun v162 k0_hw19 => k0_hw19.2.2 (k0_off16_inb v162 k0_hw19)

def k0_mult17 (v171 : BitVec 32) : BitVec 32 :=
  let c0_i32_148 : BitVec 32 := 0#32
  let v172 : BitVec 32 := Scalar.addi v171 c0_i32_148
  v172

def k0_off17 (v171 : BitVec 32) : Fin 2 → Nat :=
  let c0_i32_148 : BitVec 32 := 0#32
  let v172 : BitVec 32 := Scalar.addi v171 c0_i32_148
  let v173 : BitVec 32 := v172
  let c0_i32_155 : BitVec 32 := 0#32
  ![v173.toNat, 0]
def k0_dev13 (v0 : BitVec 32) : Nat :=
  let c0_i32_154 : BitVec 32 := 0#32
  let c1_i32_153 : BitVec 32 := 1#32
  let v174 : BitVec 32 := Scalar.muli v0 c1_i32_153
  let v175 : BitVec 32 := Scalar.addi c0_i32_154 v174
  v175.toNat
def k0_mult18 (v182 : BitVec 32) : BitVec 32 :=
  let c0_i32_157 : BitVec 32 := 0#32
  let v183 : BitVec 32 := Scalar.addi v182 c0_i32_157
  v183

def k0_off18 (v182 : BitVec 32) : Fin 2 → Nat :=
  let c0_i32_157 : BitVec 32 := 0#32
  let v183 : BitVec 32 := Scalar.addi v182 c0_i32_157
  let v184 : BitVec 32 := v183
  let c0_i32_164 : BitVec 32 := 0#32
  ![v184.toNat, 0]

def k0_chk21 (v182 : BitVec 32) : Prop :=
  (64 ∣ (k0_mult18 v182).toNat) ∧
  (∀ a, (k0_off18 v182) a + S64x2048.size a ≤ S2048x2048.size a) ∧
  (∀ (hinb : ∀ a, (k0_off18 v182) a + S64x2048.size a ≤ S2048x2048.size a), (Rect.unit (s := S2048x2048) (k0_off18 v182) S64x2048.size hinb).WholeWords (EltTy.packing .bf16))
theorem k0_mult18_dvd : ∀ (v182 : BitVec 32) (k0_hw21 : k0_chk21 v182), 64 ∣ (k0_mult18 v182).toNat := fun v182 k0_hw21 => k0_hw21.1
theorem k0_off18_inb : ∀ (v182 : BitVec 32) (k0_hw21 : k0_chk21 v182), ∀ a, (k0_off18 v182) a + S64x2048.size a ≤ S2048x2048.size a := fun v182 k0_hw21 => k0_hw21.2.1
theorem k0_off18_wordsbf16 : ∀ (v182 : BitVec 32) (k0_hw21 : k0_chk21 v182), (Rect.unit (s := S2048x2048) (k0_off18 v182) S64x2048.size (k0_off18_inb v182 k0_hw21)).WholeWords (EltTy.packing .bf16) := fun v182 k0_hw21 => k0_hw21.2.2 (k0_off18_inb v182 k0_hw21)

def k0_mult19 (v191 : BitVec 32) : BitVec 32 :=
  let c0_i32_167 : BitVec 32 := 0#32
  let v192 : BitVec 32 := Scalar.addi v191 c0_i32_167
  v192

def k0_off19 (v191 : BitVec 32) : Fin 2 → Nat :=
  let c0_i32_167 : BitVec 32 := 0#32
  let v192 : BitVec 32 := Scalar.addi v191 c0_i32_167
  let v193 : BitVec 32 := v192
  let c0_i32_174 : BitVec 32 := 0#32
  ![v193.toNat, 0]
def k0_dev14 (v1 : BitVec 32) : Nat :=
  let c0_i32_173 : BitVec 32 := 0#32
  let c1_i32_172 : BitVec 32 := 1#32
  let v194 : BitVec 32 := Scalar.muli v1 c1_i32_172
  let v195 : BitVec 32 := Scalar.addi c0_i32_173 v194
  v195.toNat
def k0_mult20 (v202 : BitVec 32) : BitVec 32 :=
  let c0_i32_176 : BitVec 32 := 0#32
  let v203 : BitVec 32 := Scalar.addi v202 c0_i32_176
  v203

def k0_off20 (v202 : BitVec 32) : Fin 2 → Nat :=
  let c0_i32_176 : BitVec 32 := 0#32
  let v203 : BitVec 32 := Scalar.addi v202 c0_i32_176
  let v204 : BitVec 32 := v203
  let c0_i32_183 : BitVec 32 := 0#32
  ![v204.toNat, 0]

def k0_chk23 (v202 : BitVec 32) : Prop :=
  (64 ∣ (k0_mult20 v202).toNat) ∧
  (∀ a, (k0_off20 v202) a + S64x2048.size a ≤ S2048x2048.size a) ∧
  (∀ (hinb : ∀ a, (k0_off20 v202) a + S64x2048.size a ≤ S2048x2048.size a), (Rect.unit (s := S2048x2048) (k0_off20 v202) S64x2048.size hinb).WholeWords (EltTy.packing .bf16))
theorem k0_mult20_dvd : ∀ (v202 : BitVec 32) (k0_hw23 : k0_chk23 v202), 64 ∣ (k0_mult20 v202).toNat := fun v202 k0_hw23 => k0_hw23.1
theorem k0_off20_inb : ∀ (v202 : BitVec 32) (k0_hw23 : k0_chk23 v202), ∀ a, (k0_off20 v202) a + S64x2048.size a ≤ S2048x2048.size a := fun v202 k0_hw23 => k0_hw23.2.1
theorem k0_off20_wordsbf16 : ∀ (v202 : BitVec 32) (k0_hw23 : k0_chk23 v202), (Rect.unit (s := S2048x2048) (k0_off20 v202) S64x2048.size (k0_off20_inb v202 k0_hw23)).WholeWords (EltTy.packing .bf16) := fun v202 k0_hw23 => k0_hw23.2.2 (k0_off20_inb v202 k0_hw23)

def k0_mult21 (v211 : BitVec 32) : BitVec 32 :=
  let c0_i32_186 : BitVec 32 := 0#32
  let v212 : BitVec 32 := Scalar.addi v211 c0_i32_186
  v212

def k0_off21 (v211 : BitVec 32) : Fin 2 → Nat :=
  let c0_i32_186 : BitVec 32 := 0#32
  let v212 : BitVec 32 := Scalar.addi v211 c0_i32_186
  let v213 : BitVec 32 := v212
  let c0_i32_193 : BitVec 32 := 0#32
  ![v213.toNat, 0]
def k0_dev15 (v0 : BitVec 32) : Nat :=
  let c0_i32_192 : BitVec 32 := 0#32
  let c1_i32_191 : BitVec 32 := 1#32
  let v214 : BitVec 32 := Scalar.muli v0 c1_i32_191
  let v215 : BitVec 32 := Scalar.addi c0_i32_192 v214
  v215.toNat
def k0_mult22 (v222 : BitVec 32) : BitVec 32 :=
  let c0_i32_195 : BitVec 32 := 0#32
  let v223 : BitVec 32 := Scalar.addi v222 c0_i32_195
  v223

def k0_off22 (v222 : BitVec 32) : Fin 2 → Nat :=
  let c0_i32_195 : BitVec 32 := 0#32
  let v223 : BitVec 32 := Scalar.addi v222 c0_i32_195
  let v224 : BitVec 32 := v223
  let c0_i32_202 : BitVec 32 := 0#32
  ![v224.toNat, 0]

def k0_chk25 (v222 : BitVec 32) : Prop :=
  (64 ∣ (k0_mult22 v222).toNat) ∧
  (∀ a, (k0_off22 v222) a + S64x2048.size a ≤ S2048x2048.size a) ∧
  (∀ (hinb : ∀ a, (k0_off22 v222) a + S64x2048.size a ≤ S2048x2048.size a), (Rect.unit (s := S2048x2048) (k0_off22 v222) S64x2048.size hinb).WholeWords (EltTy.packing .bf16))
theorem k0_mult22_dvd : ∀ (v222 : BitVec 32) (k0_hw25 : k0_chk25 v222), 64 ∣ (k0_mult22 v222).toNat := fun v222 k0_hw25 => k0_hw25.1
theorem k0_off22_inb : ∀ (v222 : BitVec 32) (k0_hw25 : k0_chk25 v222), ∀ a, (k0_off22 v222) a + S64x2048.size a ≤ S2048x2048.size a := fun v222 k0_hw25 => k0_hw25.2.1
theorem k0_off22_wordsbf16 : ∀ (v222 : BitVec 32) (k0_hw25 : k0_chk25 v222), (Rect.unit (s := S2048x2048) (k0_off22 v222) S64x2048.size (k0_off22_inb v222 k0_hw25)).WholeWords (EltTy.packing .bf16) := fun v222 k0_hw25 => k0_hw25.2.2 (k0_off22_inb v222 k0_hw25)

def k0_mult23 (v231 : BitVec 32) : BitVec 32 :=
  let c0_i32_205 : BitVec 32 := 0#32
  let v232 : BitVec 32 := Scalar.addi v231 c0_i32_205
  v232

def k0_off23 (v231 : BitVec 32) : Fin 2 → Nat :=
  let c0_i32_205 : BitVec 32 := 0#32
  let v232 : BitVec 32 := Scalar.addi v231 c0_i32_205
  let v233 : BitVec 32 := v232
  let c0_i32_212 : BitVec 32 := 0#32
  ![v233.toNat, 0]
def k0_dev16 (v1 : BitVec 32) : Nat :=
  let c0_i32_211 : BitVec 32 := 0#32
  let c1_i32_210 : BitVec 32 := 1#32
  let v234 : BitVec 32 := Scalar.muli v1 c1_i32_210
  let v235 : BitVec 32 := Scalar.addi c0_i32_211 v234
  v235.toNat
def k0_mult24 (v242 : BitVec 32) : BitVec 32 :=
  let c0_i32_214 : BitVec 32 := 0#32
  let v243 : BitVec 32 := Scalar.addi v242 c0_i32_214
  v243

def k0_off24 (v242 : BitVec 32) : Fin 2 → Nat :=
  let c0_i32_214 : BitVec 32 := 0#32
  let v243 : BitVec 32 := Scalar.addi v242 c0_i32_214
  let v244 : BitVec 32 := v243
  let c0_i32_221 : BitVec 32 := 0#32
  ![v244.toNat, 0]

def k0_chk27 (v242 : BitVec 32) : Prop :=
  (64 ∣ (k0_mult24 v242).toNat) ∧
  (∀ a, (k0_off24 v242) a + S64x2048.size a ≤ S2048x2048.size a) ∧
  (∀ (hinb : ∀ a, (k0_off24 v242) a + S64x2048.size a ≤ S2048x2048.size a), (Rect.unit (s := S2048x2048) (k0_off24 v242) S64x2048.size hinb).WholeWords (EltTy.packing .bf16))
theorem k0_mult24_dvd : ∀ (v242 : BitVec 32) (k0_hw27 : k0_chk27 v242), 64 ∣ (k0_mult24 v242).toNat := fun v242 k0_hw27 => k0_hw27.1
theorem k0_off24_inb : ∀ (v242 : BitVec 32) (k0_hw27 : k0_chk27 v242), ∀ a, (k0_off24 v242) a + S64x2048.size a ≤ S2048x2048.size a := fun v242 k0_hw27 => k0_hw27.2.1
theorem k0_off24_wordsbf16 : ∀ (v242 : BitVec 32) (k0_hw27 : k0_chk27 v242), (Rect.unit (s := S2048x2048) (k0_off24 v242) S64x2048.size (k0_off24_inb v242 k0_hw27)).WholeWords (EltTy.packing .bf16) := fun v242 k0_hw27 => k0_hw27.2.2 (k0_off24_inb v242 k0_hw27)

def k0_mult25 (v251 : BitVec 32) : BitVec 32 :=
  let c0_i32_224 : BitVec 32 := 0#32
  let v252 : BitVec 32 := Scalar.addi v251 c0_i32_224
  v252

def k0_off25 (v251 : BitVec 32) : Fin 2 → Nat :=
  let c0_i32_224 : BitVec 32 := 0#32
  let v252 : BitVec 32 := Scalar.addi v251 c0_i32_224
  let v253 : BitVec 32 := v252
  let c0_i32_231 : BitVec 32 := 0#32
  ![v253.toNat, 0]
def k0_dev17 (v0 : BitVec 32) : Nat :=
  let c0_i32_230 : BitVec 32 := 0#32
  let c1_i32_229 : BitVec 32 := 1#32
  let v254 : BitVec 32 := Scalar.muli v0 c1_i32_229
  let v255 : BitVec 32 := Scalar.addi c0_i32_230 v254
  v255.toNat
def k0_mult26 (v262 : BitVec 32) : BitVec 32 :=
  let c0_i32_233 : BitVec 32 := 0#32
  let v263 : BitVec 32 := Scalar.addi v262 c0_i32_233
  v263

def k0_off26 (v262 : BitVec 32) : Fin 2 → Nat :=
  let c0_i32_233 : BitVec 32 := 0#32
  let v263 : BitVec 32 := Scalar.addi v262 c0_i32_233
  let v264 : BitVec 32 := v263
  let c0_i32_240 : BitVec 32 := 0#32
  ![v264.toNat, 0]

def k0_chk29 (v262 : BitVec 32) : Prop :=
  (64 ∣ (k0_mult26 v262).toNat) ∧
  (∀ a, (k0_off26 v262) a + S64x2048.size a ≤ S2048x2048.size a) ∧
  (∀ (hinb : ∀ a, (k0_off26 v262) a + S64x2048.size a ≤ S2048x2048.size a), (Rect.unit (s := S2048x2048) (k0_off26 v262) S64x2048.size hinb).WholeWords (EltTy.packing .bf16))
theorem k0_mult26_dvd : ∀ (v262 : BitVec 32) (k0_hw29 : k0_chk29 v262), 64 ∣ (k0_mult26 v262).toNat := fun v262 k0_hw29 => k0_hw29.1
theorem k0_off26_inb : ∀ (v262 : BitVec 32) (k0_hw29 : k0_chk29 v262), ∀ a, (k0_off26 v262) a + S64x2048.size a ≤ S2048x2048.size a := fun v262 k0_hw29 => k0_hw29.2.1
theorem k0_off26_wordsbf16 : ∀ (v262 : BitVec 32) (k0_hw29 : k0_chk29 v262), (Rect.unit (s := S2048x2048) (k0_off26 v262) S64x2048.size (k0_off26_inb v262 k0_hw29)).WholeWords (EltTy.packing .bf16) := fun v262 k0_hw29 => k0_hw29.2.2 (k0_off26_inb v262 k0_hw29)

def k0_mult27 (v271 : BitVec 32) : BitVec 32 :=
  let c0_i32_243 : BitVec 32 := 0#32
  let v272 : BitVec 32 := Scalar.addi v271 c0_i32_243
  v272

def k0_off27 (v271 : BitVec 32) : Fin 2 → Nat :=
  let c0_i32_243 : BitVec 32 := 0#32
  let v272 : BitVec 32 := Scalar.addi v271 c0_i32_243
  let v273 : BitVec 32 := v272
  let c0_i32_250 : BitVec 32 := 0#32
  ![v273.toNat, 0]
def k0_dev18 (v1 : BitVec 32) : Nat :=
  let c0_i32_249 : BitVec 32 := 0#32
  let c1_i32_248 : BitVec 32 := 1#32
  let v274 : BitVec 32 := Scalar.muli v1 c1_i32_248
  let v275 : BitVec 32 := Scalar.addi c0_i32_249 v274
  v275.toNat
def k0_mult28 (v282 : BitVec 32) : BitVec 32 :=
  let c0_i32_252 : BitVec 32 := 0#32
  let v283 : BitVec 32 := Scalar.addi v282 c0_i32_252
  v283

def k0_off28 (v282 : BitVec 32) : Fin 2 → Nat :=
  let c0_i32_252 : BitVec 32 := 0#32
  let v283 : BitVec 32 := Scalar.addi v282 c0_i32_252
  let v284 : BitVec 32 := v283
  let c0_i32_259 : BitVec 32 := 0#32
  ![v284.toNat, 0]

def k0_chk31 (v282 : BitVec 32) : Prop :=
  (64 ∣ (k0_mult28 v282).toNat) ∧
  (∀ a, (k0_off28 v282) a + S64x2048.size a ≤ S2048x2048.size a) ∧
  (∀ (hinb : ∀ a, (k0_off28 v282) a + S64x2048.size a ≤ S2048x2048.size a), (Rect.unit (s := S2048x2048) (k0_off28 v282) S64x2048.size hinb).WholeWords (EltTy.packing .bf16))
theorem k0_mult28_dvd : ∀ (v282 : BitVec 32) (k0_hw31 : k0_chk31 v282), 64 ∣ (k0_mult28 v282).toNat := fun v282 k0_hw31 => k0_hw31.1
theorem k0_off28_inb : ∀ (v282 : BitVec 32) (k0_hw31 : k0_chk31 v282), ∀ a, (k0_off28 v282) a + S64x2048.size a ≤ S2048x2048.size a := fun v282 k0_hw31 => k0_hw31.2.1
theorem k0_off28_wordsbf16 : ∀ (v282 : BitVec 32) (k0_hw31 : k0_chk31 v282), (Rect.unit (s := S2048x2048) (k0_off28 v282) S64x2048.size (k0_off28_inb v282 k0_hw31)).WholeWords (EltTy.packing .bf16) := fun v282 k0_hw31 => k0_hw31.2.2 (k0_off28_inb v282 k0_hw31)

def k0_mult29 (v291 : BitVec 32) : BitVec 32 :=
  let c0_i32_262 : BitVec 32 := 0#32
  let v292 : BitVec 32 := Scalar.addi v291 c0_i32_262
  v292

def k0_off29 (v291 : BitVec 32) : Fin 2 → Nat :=
  let c0_i32_262 : BitVec 32 := 0#32
  let v292 : BitVec 32 := Scalar.addi v291 c0_i32_262
  let v293 : BitVec 32 := v292
  let c0_i32_268 : BitVec 32 := 0#32
  ![v293.toNat, 0]
def k0_dev19 (v0 : BitVec 32) : Nat :=
  let c0_i32_267 : BitVec 32 := 0#32
  let c1_i32_266 : BitVec 32 := 1#32
  let v294 : BitVec 32 := Scalar.muli v0 c1_i32_266
  let v295 : BitVec 32 := Scalar.addi c0_i32_267 v294
  v295.toNat
def k0_mult30 (v302 : BitVec 32) : BitVec 32 :=
  let c0_i32_270 : BitVec 32 := 0#32
  let v303 : BitVec 32 := Scalar.addi v302 c0_i32_270
  v303

def k0_off30 (v302 : BitVec 32) : Fin 2 → Nat :=
  let c0_i32_270 : BitVec 32 := 0#32
  let v303 : BitVec 32 := Scalar.addi v302 c0_i32_270
  let v304 : BitVec 32 := v303
  let c0_i32_277 : BitVec 32 := 0#32
  ![v304.toNat, 0]

def k0_chk33 (v302 : BitVec 32) : Prop :=
  (64 ∣ (k0_mult30 v302).toNat) ∧
  (∀ a, (k0_off30 v302) a + S64x2048.size a ≤ S2048x2048.size a) ∧
  (∀ (hinb : ∀ a, (k0_off30 v302) a + S64x2048.size a ≤ S2048x2048.size a), (Rect.unit (s := S2048x2048) (k0_off30 v302) S64x2048.size hinb).WholeWords (EltTy.packing .bf16))
theorem k0_mult30_dvd : ∀ (v302 : BitVec 32) (k0_hw33 : k0_chk33 v302), 64 ∣ (k0_mult30 v302).toNat := fun v302 k0_hw33 => k0_hw33.1
theorem k0_off30_inb : ∀ (v302 : BitVec 32) (k0_hw33 : k0_chk33 v302), ∀ a, (k0_off30 v302) a + S64x2048.size a ≤ S2048x2048.size a := fun v302 k0_hw33 => k0_hw33.2.1
theorem k0_off30_wordsbf16 : ∀ (v302 : BitVec 32) (k0_hw33 : k0_chk33 v302), (Rect.unit (s := S2048x2048) (k0_off30 v302) S64x2048.size (k0_off30_inb v302 k0_hw33)).WholeWords (EltTy.packing .bf16) := fun v302 k0_hw33 => k0_hw33.2.2 (k0_off30_inb v302 k0_hw33)

def k0_mult31 (v311 : BitVec 32) : BitVec 32 :=
  let c0_i32_280 : BitVec 32 := 0#32
  let v312 : BitVec 32 := Scalar.addi v311 c0_i32_280
  v312

def k0_off31 (v311 : BitVec 32) : Fin 2 → Nat :=
  let c0_i32_280 : BitVec 32 := 0#32
  let v312 : BitVec 32 := Scalar.addi v311 c0_i32_280
  let v313 : BitVec 32 := v312
  let c0_i32_287 : BitVec 32 := 0#32
  ![v313.toNat, 0]
def k0_dev20 (v1 : BitVec 32) : Nat :=
  let c0_i32_286 : BitVec 32 := 0#32
  let c1_i32_285 : BitVec 32 := 1#32
  let v314 : BitVec 32 := Scalar.muli v1 c1_i32_285
  let v315 : BitVec 32 := Scalar.addi c0_i32_286 v314
  v315.toNat
def k0_mult32 (v322 : BitVec 32) : BitVec 32 :=
  let c0_i32_289 : BitVec 32 := 0#32
  let v323 : BitVec 32 := Scalar.addi v322 c0_i32_289
  v323

def k0_off32 (v322 : BitVec 32) : Fin 2 → Nat :=
  let c0_i32_289 : BitVec 32 := 0#32
  let v323 : BitVec 32 := Scalar.addi v322 c0_i32_289
  let v324 : BitVec 32 := v323
  let c0_i32_296 : BitVec 32 := 0#32
  ![v324.toNat, 0]

def k0_chk35 (v322 : BitVec 32) : Prop :=
  (64 ∣ (k0_mult32 v322).toNat) ∧
  (∀ a, (k0_off32 v322) a + S64x2048.size a ≤ S2048x2048.size a) ∧
  (∀ (hinb : ∀ a, (k0_off32 v322) a + S64x2048.size a ≤ S2048x2048.size a), (Rect.unit (s := S2048x2048) (k0_off32 v322) S64x2048.size hinb).WholeWords (EltTy.packing .bf16))
theorem k0_mult32_dvd : ∀ (v322 : BitVec 32) (k0_hw35 : k0_chk35 v322), 64 ∣ (k0_mult32 v322).toNat := fun v322 k0_hw35 => k0_hw35.1
theorem k0_off32_inb : ∀ (v322 : BitVec 32) (k0_hw35 : k0_chk35 v322), ∀ a, (k0_off32 v322) a + S64x2048.size a ≤ S2048x2048.size a := fun v322 k0_hw35 => k0_hw35.2.1
theorem k0_off32_wordsbf16 : ∀ (v322 : BitVec 32) (k0_hw35 : k0_chk35 v322), (Rect.unit (s := S2048x2048) (k0_off32 v322) S64x2048.size (k0_off32_inb v322 k0_hw35)).WholeWords (EltTy.packing .bf16) := fun v322 k0_hw35 => k0_hw35.2.2 (k0_off32_inb v322 k0_hw35)

def k0_mult33 (v331 : BitVec 32) : BitVec 32 :=
  let c0_i32_299 : BitVec 32 := 0#32
  let v332 : BitVec 32 := Scalar.addi v331 c0_i32_299
  v332

def k0_off33 (v331 : BitVec 32) : Fin 2 → Nat :=
  let c0_i32_299 : BitVec 32 := 0#32
  let v332 : BitVec 32 := Scalar.addi v331 c0_i32_299
  let v333 : BitVec 32 := v332
  let c0_i32_306 : BitVec 32 := 0#32
  ![v333.toNat, 0]
def k0_dev21 (v0 : BitVec 32) : Nat :=
  let c0_i32_305 : BitVec 32 := 0#32
  let c1_i32_304 : BitVec 32 := 1#32
  let v334 : BitVec 32 := Scalar.muli v0 c1_i32_304
  let v335 : BitVec 32 := Scalar.addi c0_i32_305 v334
  v335.toNat
def k0_mult34 (v342 : BitVec 32) : BitVec 32 :=
  let c0_i32_308 : BitVec 32 := 0#32
  let v343 : BitVec 32 := Scalar.addi v342 c0_i32_308
  v343

def k0_off34 (v342 : BitVec 32) : Fin 2 → Nat :=
  let c0_i32_308 : BitVec 32 := 0#32
  let v343 : BitVec 32 := Scalar.addi v342 c0_i32_308
  let v344 : BitVec 32 := v343
  let c0_i32_315 : BitVec 32 := 0#32
  ![v344.toNat, 0]

def k0_chk37 (v342 : BitVec 32) : Prop :=
  (64 ∣ (k0_mult34 v342).toNat) ∧
  (∀ a, (k0_off34 v342) a + S64x2048.size a ≤ S2048x2048.size a) ∧
  (∀ (hinb : ∀ a, (k0_off34 v342) a + S64x2048.size a ≤ S2048x2048.size a), (Rect.unit (s := S2048x2048) (k0_off34 v342) S64x2048.size hinb).WholeWords (EltTy.packing .bf16))
theorem k0_mult34_dvd : ∀ (v342 : BitVec 32) (k0_hw37 : k0_chk37 v342), 64 ∣ (k0_mult34 v342).toNat := fun v342 k0_hw37 => k0_hw37.1
theorem k0_off34_inb : ∀ (v342 : BitVec 32) (k0_hw37 : k0_chk37 v342), ∀ a, (k0_off34 v342) a + S64x2048.size a ≤ S2048x2048.size a := fun v342 k0_hw37 => k0_hw37.2.1
theorem k0_off34_wordsbf16 : ∀ (v342 : BitVec 32) (k0_hw37 : k0_chk37 v342), (Rect.unit (s := S2048x2048) (k0_off34 v342) S64x2048.size (k0_off34_inb v342 k0_hw37)).WholeWords (EltTy.packing .bf16) := fun v342 k0_hw37 => k0_hw37.2.2 (k0_off34_inb v342 k0_hw37)

def k0_mult35 (v351 : BitVec 32) : BitVec 32 :=
  let c0_i32_318 : BitVec 32 := 0#32
  let v352 : BitVec 32 := Scalar.addi v351 c0_i32_318
  v352

def k0_off35 (v351 : BitVec 32) : Fin 2 → Nat :=
  let c0_i32_318 : BitVec 32 := 0#32
  let v352 : BitVec 32 := Scalar.addi v351 c0_i32_318
  let v353 : BitVec 32 := v352
  let c0_i32_325 : BitVec 32 := 0#32
  ![v353.toNat, 0]
def k0_dev22 (v1 : BitVec 32) : Nat :=
  let c0_i32_324 : BitVec 32 := 0#32
  let c1_i32_323 : BitVec 32 := 1#32
  let v354 : BitVec 32 := Scalar.muli v1 c1_i32_323
  let v355 : BitVec 32 := Scalar.addi c0_i32_324 v354
  v355.toNat
def k0_mult36 (v362 : BitVec 32) : BitVec 32 :=
  let c0_i32_327 : BitVec 32 := 0#32
  let v363 : BitVec 32 := Scalar.addi v362 c0_i32_327
  v363

def k0_off36 (v362 : BitVec 32) : Fin 2 → Nat :=
  let c0_i32_327 : BitVec 32 := 0#32
  let v363 : BitVec 32 := Scalar.addi v362 c0_i32_327
  let v364 : BitVec 32 := v363
  let c0_i32_334 : BitVec 32 := 0#32
  ![v364.toNat, 0]

def k0_chk39 (v362 : BitVec 32) : Prop :=
  (64 ∣ (k0_mult36 v362).toNat) ∧
  (∀ a, (k0_off36 v362) a + S64x2048.size a ≤ S2048x2048.size a) ∧
  (∀ (hinb : ∀ a, (k0_off36 v362) a + S64x2048.size a ≤ S2048x2048.size a), (Rect.unit (s := S2048x2048) (k0_off36 v362) S64x2048.size hinb).WholeWords (EltTy.packing .bf16))
theorem k0_mult36_dvd : ∀ (v362 : BitVec 32) (k0_hw39 : k0_chk39 v362), 64 ∣ (k0_mult36 v362).toNat := fun v362 k0_hw39 => k0_hw39.1
theorem k0_off36_inb : ∀ (v362 : BitVec 32) (k0_hw39 : k0_chk39 v362), ∀ a, (k0_off36 v362) a + S64x2048.size a ≤ S2048x2048.size a := fun v362 k0_hw39 => k0_hw39.2.1
theorem k0_off36_wordsbf16 : ∀ (v362 : BitVec 32) (k0_hw39 : k0_chk39 v362), (Rect.unit (s := S2048x2048) (k0_off36 v362) S64x2048.size (k0_off36_inb v362 k0_hw39)).WholeWords (EltTy.packing .bf16) := fun v362 k0_hw39 => k0_hw39.2.2 (k0_off36_inb v362 k0_hw39)

def k0_mult37 (v371 : BitVec 32) : BitVec 32 :=
  let c0_i32_337 : BitVec 32 := 0#32
  let v372 : BitVec 32 := Scalar.addi v371 c0_i32_337
  v372

def k0_off37 (v371 : BitVec 32) : Fin 2 → Nat :=
  let c0_i32_337 : BitVec 32 := 0#32
  let v372 : BitVec 32 := Scalar.addi v371 c0_i32_337
  let v373 : BitVec 32 := v372
  let c0_i32_343 : BitVec 32 := 0#32
  ![v373.toNat, 0]
def k0_dev23 (v0 : BitVec 32) : Nat :=
  let c0_i32_342 : BitVec 32 := 0#32
  let c1_i32_341 : BitVec 32 := 1#32
  let v374 : BitVec 32 := Scalar.muli v0 c1_i32_341
  let v375 : BitVec 32 := Scalar.addi c0_i32_342 v374
  v375.toNat
def k0_mult38 (v382 : BitVec 32) : BitVec 32 :=
  let c0_i32_345 : BitVec 32 := 0#32
  let v383 : BitVec 32 := Scalar.addi v382 c0_i32_345
  v383

def k0_off38 (v382 : BitVec 32) : Fin 2 → Nat :=
  let c0_i32_345 : BitVec 32 := 0#32
  let v383 : BitVec 32 := Scalar.addi v382 c0_i32_345
  let v384 : BitVec 32 := v383
  let c0_i32_352 : BitVec 32 := 0#32
  ![v384.toNat, 0]

def k0_chk41 (v382 : BitVec 32) : Prop :=
  (64 ∣ (k0_mult38 v382).toNat) ∧
  (∀ a, (k0_off38 v382) a + S64x2048.size a ≤ S2048x2048.size a) ∧
  (∀ (hinb : ∀ a, (k0_off38 v382) a + S64x2048.size a ≤ S2048x2048.size a), (Rect.unit (s := S2048x2048) (k0_off38 v382) S64x2048.size hinb).WholeWords (EltTy.packing .bf16))
theorem k0_mult38_dvd : ∀ (v382 : BitVec 32) (k0_hw41 : k0_chk41 v382), 64 ∣ (k0_mult38 v382).toNat := fun v382 k0_hw41 => k0_hw41.1
theorem k0_off38_inb : ∀ (v382 : BitVec 32) (k0_hw41 : k0_chk41 v382), ∀ a, (k0_off38 v382) a + S64x2048.size a ≤ S2048x2048.size a := fun v382 k0_hw41 => k0_hw41.2.1
theorem k0_off38_wordsbf16 : ∀ (v382 : BitVec 32) (k0_hw41 : k0_chk41 v382), (Rect.unit (s := S2048x2048) (k0_off38 v382) S64x2048.size (k0_off38_inb v382 k0_hw41)).WholeWords (EltTy.packing .bf16) := fun v382 k0_hw41 => k0_hw41.2.2 (k0_off38_inb v382 k0_hw41)

def k0_mult39 (v391 : BitVec 32) : BitVec 32 :=
  let c0_i32_355 : BitVec 32 := 0#32
  let v392 : BitVec 32 := Scalar.addi v391 c0_i32_355
  v392

def k0_off39 (v391 : BitVec 32) : Fin 2 → Nat :=
  let c0_i32_355 : BitVec 32 := 0#32
  let v392 : BitVec 32 := Scalar.addi v391 c0_i32_355
  let v393 : BitVec 32 := v392
  let c0_i32_362 : BitVec 32 := 0#32
  ![v393.toNat, 0]
def k0_dev24 (v1 : BitVec 32) : Nat :=
  let c0_i32_361 : BitVec 32 := 0#32
  let c1_i32_360 : BitVec 32 := 1#32
  let v394 : BitVec 32 := Scalar.muli v1 c1_i32_360
  let v395 : BitVec 32 := Scalar.addi c0_i32_361 v394
  v395.toNat
def k0_mult40 (v402 : BitVec 32) : BitVec 32 :=
  let c0_i32_364 : BitVec 32 := 0#32
  let v403 : BitVec 32 := Scalar.addi v402 c0_i32_364
  v403

def k0_off40 (v402 : BitVec 32) : Fin 2 → Nat :=
  let c0_i32_364 : BitVec 32 := 0#32
  let v403 : BitVec 32 := Scalar.addi v402 c0_i32_364
  let v404 : BitVec 32 := v403
  let c0_i32_371 : BitVec 32 := 0#32
  ![v404.toNat, 0]

def k0_chk43 (v402 : BitVec 32) : Prop :=
  (64 ∣ (k0_mult40 v402).toNat) ∧
  (∀ a, (k0_off40 v402) a + S64x2048.size a ≤ S2048x2048.size a) ∧
  (∀ (hinb : ∀ a, (k0_off40 v402) a + S64x2048.size a ≤ S2048x2048.size a), (Rect.unit (s := S2048x2048) (k0_off40 v402) S64x2048.size hinb).WholeWords (EltTy.packing .bf16))
theorem k0_mult40_dvd : ∀ (v402 : BitVec 32) (k0_hw43 : k0_chk43 v402), 64 ∣ (k0_mult40 v402).toNat := fun v402 k0_hw43 => k0_hw43.1
theorem k0_off40_inb : ∀ (v402 : BitVec 32) (k0_hw43 : k0_chk43 v402), ∀ a, (k0_off40 v402) a + S64x2048.size a ≤ S2048x2048.size a := fun v402 k0_hw43 => k0_hw43.2.1
theorem k0_off40_wordsbf16 : ∀ (v402 : BitVec 32) (k0_hw43 : k0_chk43 v402), (Rect.unit (s := S2048x2048) (k0_off40 v402) S64x2048.size (k0_off40_inb v402 k0_hw43)).WholeWords (EltTy.packing .bf16) := fun v402 k0_hw43 => k0_hw43.2.2 (k0_off40_inb v402 k0_hw43)

def k0_mult41 (v411 : BitVec 32) : BitVec 32 :=
  let c0_i32_374 : BitVec 32 := 0#32
  let v412 : BitVec 32 := Scalar.addi v411 c0_i32_374
  v412

def k0_off41 (v411 : BitVec 32) : Fin 2 → Nat :=
  let c0_i32_374 : BitVec 32 := 0#32
  let v412 : BitVec 32 := Scalar.addi v411 c0_i32_374
  let v413 : BitVec 32 := v412
  let c0_i32_381 : BitVec 32 := 0#32
  ![v413.toNat, 0]
def k0_dev25 (v0 : BitVec 32) : Nat :=
  let c0_i32_380 : BitVec 32 := 0#32
  let c1_i32_379 : BitVec 32 := 1#32
  let v414 : BitVec 32 := Scalar.muli v0 c1_i32_379
  let v415 : BitVec 32 := Scalar.addi c0_i32_380 v414
  v415.toNat
def k0_mult42 (v422 : BitVec 32) : BitVec 32 :=
  let c0_i32_383 : BitVec 32 := 0#32
  let v423 : BitVec 32 := Scalar.addi v422 c0_i32_383
  v423

def k0_off42 (v422 : BitVec 32) : Fin 2 → Nat :=
  let c0_i32_383 : BitVec 32 := 0#32
  let v423 : BitVec 32 := Scalar.addi v422 c0_i32_383
  let v424 : BitVec 32 := v423
  let c0_i32_390 : BitVec 32 := 0#32
  ![v424.toNat, 0]

def k0_chk45 (v422 : BitVec 32) : Prop :=
  (64 ∣ (k0_mult42 v422).toNat) ∧
  (∀ a, (k0_off42 v422) a + S64x2048.size a ≤ S2048x2048.size a) ∧
  (∀ (hinb : ∀ a, (k0_off42 v422) a + S64x2048.size a ≤ S2048x2048.size a), (Rect.unit (s := S2048x2048) (k0_off42 v422) S64x2048.size hinb).WholeWords (EltTy.packing .bf16))
theorem k0_mult42_dvd : ∀ (v422 : BitVec 32) (k0_hw45 : k0_chk45 v422), 64 ∣ (k0_mult42 v422).toNat := fun v422 k0_hw45 => k0_hw45.1
theorem k0_off42_inb : ∀ (v422 : BitVec 32) (k0_hw45 : k0_chk45 v422), ∀ a, (k0_off42 v422) a + S64x2048.size a ≤ S2048x2048.size a := fun v422 k0_hw45 => k0_hw45.2.1
theorem k0_off42_wordsbf16 : ∀ (v422 : BitVec 32) (k0_hw45 : k0_chk45 v422), (Rect.unit (s := S2048x2048) (k0_off42 v422) S64x2048.size (k0_off42_inb v422 k0_hw45)).WholeWords (EltTy.packing .bf16) := fun v422 k0_hw45 => k0_hw45.2.2 (k0_off42_inb v422 k0_hw45)

def k0_mult43 (v431 : BitVec 32) : BitVec 32 :=
  let c0_i32_393 : BitVec 32 := 0#32
  let v432 : BitVec 32 := Scalar.addi v431 c0_i32_393
  v432

def k0_off43 (v431 : BitVec 32) : Fin 2 → Nat :=
  let c0_i32_393 : BitVec 32 := 0#32
  let v432 : BitVec 32 := Scalar.addi v431 c0_i32_393
  let v433 : BitVec 32 := v432
  let c0_i32_400 : BitVec 32 := 0#32
  ![v433.toNat, 0]
def k0_dev26 (v1 : BitVec 32) : Nat :=
  let c0_i32_399 : BitVec 32 := 0#32
  let c1_i32_398 : BitVec 32 := 1#32
  let v434 : BitVec 32 := Scalar.muli v1 c1_i32_398
  let v435 : BitVec 32 := Scalar.addi c0_i32_399 v434
  v435.toNat
def k0_mult44 (v442 : BitVec 32) : BitVec 32 :=
  let c0_i32_402 : BitVec 32 := 0#32
  let v443 : BitVec 32 := Scalar.addi v442 c0_i32_402
  v443

def k0_off44 (v442 : BitVec 32) : Fin 2 → Nat :=
  let c0_i32_402 : BitVec 32 := 0#32
  let v443 : BitVec 32 := Scalar.addi v442 c0_i32_402
  let v444 : BitVec 32 := v443
  let c0_i32_409 : BitVec 32 := 0#32
  ![v444.toNat, 0]

def k0_chk47 (v442 : BitVec 32) : Prop :=
  (64 ∣ (k0_mult44 v442).toNat) ∧
  (∀ a, (k0_off44 v442) a + S64x2048.size a ≤ S2048x2048.size a) ∧
  (∀ (hinb : ∀ a, (k0_off44 v442) a + S64x2048.size a ≤ S2048x2048.size a), (Rect.unit (s := S2048x2048) (k0_off44 v442) S64x2048.size hinb).WholeWords (EltTy.packing .bf16))
theorem k0_mult44_dvd : ∀ (v442 : BitVec 32) (k0_hw47 : k0_chk47 v442), 64 ∣ (k0_mult44 v442).toNat := fun v442 k0_hw47 => k0_hw47.1
theorem k0_off44_inb : ∀ (v442 : BitVec 32) (k0_hw47 : k0_chk47 v442), ∀ a, (k0_off44 v442) a + S64x2048.size a ≤ S2048x2048.size a := fun v442 k0_hw47 => k0_hw47.2.1
theorem k0_off44_wordsbf16 : ∀ (v442 : BitVec 32) (k0_hw47 : k0_chk47 v442), (Rect.unit (s := S2048x2048) (k0_off44 v442) S64x2048.size (k0_off44_inb v442 k0_hw47)).WholeWords (EltTy.packing .bf16) := fun v442 k0_hw47 => k0_hw47.2.2 (k0_off44_inb v442 k0_hw47)

def k0_mult45 (v451 : BitVec 32) : BitVec 32 :=
  let c0_i32_412 : BitVec 32 := 0#32
  let v452 : BitVec 32 := Scalar.addi v451 c0_i32_412
  v452

def k0_off45 (v451 : BitVec 32) : Fin 2 → Nat :=
  let c0_i32_412 : BitVec 32 := 0#32
  let v452 : BitVec 32 := Scalar.addi v451 c0_i32_412
  let v453 : BitVec 32 := v452
  let c0_i32_418 : BitVec 32 := 0#32
  ![v453.toNat, 0]
def k0_dev27 (v0 : BitVec 32) : Nat :=
  let c0_i32_417 : BitVec 32 := 0#32
  let c1_i32_416 : BitVec 32 := 1#32
  let v454 : BitVec 32 := Scalar.muli v0 c1_i32_416
  let v455 : BitVec 32 := Scalar.addi c0_i32_417 v454
  v455.toNat
def k0_mult46 (v462 : BitVec 32) : BitVec 32 :=
  let c0_i32_420 : BitVec 32 := 0#32
  let v463 : BitVec 32 := Scalar.addi v462 c0_i32_420
  v463

def k0_off46 (v462 : BitVec 32) : Fin 2 → Nat :=
  let c0_i32_420 : BitVec 32 := 0#32
  let v463 : BitVec 32 := Scalar.addi v462 c0_i32_420
  let v464 : BitVec 32 := v463
  let c0_i32_427 : BitVec 32 := 0#32
  ![v464.toNat, 0]

def k0_chk49 (v462 : BitVec 32) : Prop :=
  (64 ∣ (k0_mult46 v462).toNat) ∧
  (∀ a, (k0_off46 v462) a + S64x2048.size a ≤ S2048x2048.size a) ∧
  (∀ (hinb : ∀ a, (k0_off46 v462) a + S64x2048.size a ≤ S2048x2048.size a), (Rect.unit (s := S2048x2048) (k0_off46 v462) S64x2048.size hinb).WholeWords (EltTy.packing .bf16))
theorem k0_mult46_dvd : ∀ (v462 : BitVec 32) (k0_hw49 : k0_chk49 v462), 64 ∣ (k0_mult46 v462).toNat := fun v462 k0_hw49 => k0_hw49.1
theorem k0_off46_inb : ∀ (v462 : BitVec 32) (k0_hw49 : k0_chk49 v462), ∀ a, (k0_off46 v462) a + S64x2048.size a ≤ S2048x2048.size a := fun v462 k0_hw49 => k0_hw49.2.1
theorem k0_off46_wordsbf16 : ∀ (v462 : BitVec 32) (k0_hw49 : k0_chk49 v462), (Rect.unit (s := S2048x2048) (k0_off46 v462) S64x2048.size (k0_off46_inb v462 k0_hw49)).WholeWords (EltTy.packing .bf16) := fun v462 k0_hw49 => k0_hw49.2.2 (k0_off46_inb v462 k0_hw49)

def k0_mult47 (v471 : BitVec 32) : BitVec 32 :=
  let c0_i32_430 : BitVec 32 := 0#32
  let v472 : BitVec 32 := Scalar.addi v471 c0_i32_430
  v472

def k0_off47 (v471 : BitVec 32) : Fin 2 → Nat :=
  let c0_i32_430 : BitVec 32 := 0#32
  let v472 : BitVec 32 := Scalar.addi v471 c0_i32_430
  let v473 : BitVec 32 := v472
  let c0_i32_437 : BitVec 32 := 0#32
  ![v473.toNat, 0]
def k0_dev28 (v1 : BitVec 32) : Nat :=
  let c0_i32_436 : BitVec 32 := 0#32
  let c1_i32_435 : BitVec 32 := 1#32
  let v474 : BitVec 32 := Scalar.muli v1 c1_i32_435
  let v475 : BitVec 32 := Scalar.addi c0_i32_436 v474
  v475.toNat
def k0_mult48 (v482 : BitVec 32) : BitVec 32 :=
  let c0_i32_439 : BitVec 32 := 0#32
  let v483 : BitVec 32 := Scalar.addi v482 c0_i32_439
  v483

def k0_off48 (v482 : BitVec 32) : Fin 2 → Nat :=
  let c0_i32_439 : BitVec 32 := 0#32
  let v483 : BitVec 32 := Scalar.addi v482 c0_i32_439
  let v484 : BitVec 32 := v483
  let c0_i32_446 : BitVec 32 := 0#32
  ![v484.toNat, 0]

def k0_chk51 (v482 : BitVec 32) : Prop :=
  (64 ∣ (k0_mult48 v482).toNat) ∧
  (∀ a, (k0_off48 v482) a + S64x2048.size a ≤ S2048x2048.size a) ∧
  (∀ (hinb : ∀ a, (k0_off48 v482) a + S64x2048.size a ≤ S2048x2048.size a), (Rect.unit (s := S2048x2048) (k0_off48 v482) S64x2048.size hinb).WholeWords (EltTy.packing .bf16))
theorem k0_mult48_dvd : ∀ (v482 : BitVec 32) (k0_hw51 : k0_chk51 v482), 64 ∣ (k0_mult48 v482).toNat := fun v482 k0_hw51 => k0_hw51.1
theorem k0_off48_inb : ∀ (v482 : BitVec 32) (k0_hw51 : k0_chk51 v482), ∀ a, (k0_off48 v482) a + S64x2048.size a ≤ S2048x2048.size a := fun v482 k0_hw51 => k0_hw51.2.1
theorem k0_off48_wordsbf16 : ∀ (v482 : BitVec 32) (k0_hw51 : k0_chk51 v482), (Rect.unit (s := S2048x2048) (k0_off48 v482) S64x2048.size (k0_off48_inb v482 k0_hw51)).WholeWords (EltTy.packing .bf16) := fun v482 k0_hw51 => k0_hw51.2.2 (k0_off48_inb v482 k0_hw51)

def k0_mult49 (v491 : BitVec 32) : BitVec 32 :=
  let c0_i32_449 : BitVec 32 := 0#32
  let v492 : BitVec 32 := Scalar.addi v491 c0_i32_449
  v492

def k0_off49 (v491 : BitVec 32) : Fin 2 → Nat :=
  let c0_i32_449 : BitVec 32 := 0#32
  let v492 : BitVec 32 := Scalar.addi v491 c0_i32_449
  let v493 : BitVec 32 := v492
  let c0_i32_456 : BitVec 32 := 0#32
  ![v493.toNat, 0]
def k0_dev29 (v0 : BitVec 32) : Nat :=
  let c0_i32_455 : BitVec 32 := 0#32
  let c1_i32_454 : BitVec 32 := 1#32
  let v494 : BitVec 32 := Scalar.muli v0 c1_i32_454
  let v495 : BitVec 32 := Scalar.addi c0_i32_455 v494
  v495.toNat
def k0_mult50 (v502 : BitVec 32) : BitVec 32 :=
  let c0_i32_458 : BitVec 32 := 0#32
  let v503 : BitVec 32 := Scalar.addi v502 c0_i32_458
  v503

def k0_off50 (v502 : BitVec 32) : Fin 2 → Nat :=
  let c0_i32_458 : BitVec 32 := 0#32
  let v503 : BitVec 32 := Scalar.addi v502 c0_i32_458
  let v504 : BitVec 32 := v503
  let c0_i32_465 : BitVec 32 := 0#32
  ![v504.toNat, 0]

def k0_chk53 (v502 : BitVec 32) : Prop :=
  (64 ∣ (k0_mult50 v502).toNat) ∧
  (∀ a, (k0_off50 v502) a + S64x2048.size a ≤ S2048x2048.size a) ∧
  (∀ (hinb : ∀ a, (k0_off50 v502) a + S64x2048.size a ≤ S2048x2048.size a), (Rect.unit (s := S2048x2048) (k0_off50 v502) S64x2048.size hinb).WholeWords (EltTy.packing .bf16))
theorem k0_mult50_dvd : ∀ (v502 : BitVec 32) (k0_hw53 : k0_chk53 v502), 64 ∣ (k0_mult50 v502).toNat := fun v502 k0_hw53 => k0_hw53.1
theorem k0_off50_inb : ∀ (v502 : BitVec 32) (k0_hw53 : k0_chk53 v502), ∀ a, (k0_off50 v502) a + S64x2048.size a ≤ S2048x2048.size a := fun v502 k0_hw53 => k0_hw53.2.1
theorem k0_off50_wordsbf16 : ∀ (v502 : BitVec 32) (k0_hw53 : k0_chk53 v502), (Rect.unit (s := S2048x2048) (k0_off50 v502) S64x2048.size (k0_off50_inb v502 k0_hw53)).WholeWords (EltTy.packing .bf16) := fun v502 k0_hw53 => k0_hw53.2.2 (k0_off50_inb v502 k0_hw53)

def k0_mult51 (v511 : BitVec 32) : BitVec 32 :=
  let c0_i32_468 : BitVec 32 := 0#32
  let v512 : BitVec 32 := Scalar.addi v511 c0_i32_468
  v512

def k0_off51 (v511 : BitVec 32) : Fin 2 → Nat :=
  let c0_i32_468 : BitVec 32 := 0#32
  let v512 : BitVec 32 := Scalar.addi v511 c0_i32_468
  let v513 : BitVec 32 := v512
  let c0_i32_475 : BitVec 32 := 0#32
  ![v513.toNat, 0]
def k0_dev30 (v1 : BitVec 32) : Nat :=
  let c0_i32_474 : BitVec 32 := 0#32
  let c1_i32_473 : BitVec 32 := 1#32
  let v514 : BitVec 32 := Scalar.muli v1 c1_i32_473
  let v515 : BitVec 32 := Scalar.addi c0_i32_474 v514
  v515.toNat
def k0_mult52 (v522 : BitVec 32) : BitVec 32 :=
  let c0_i32_477 : BitVec 32 := 0#32
  let v523 : BitVec 32 := Scalar.addi v522 c0_i32_477
  v523

def k0_off52 (v522 : BitVec 32) : Fin 2 → Nat :=
  let c0_i32_477 : BitVec 32 := 0#32
  let v523 : BitVec 32 := Scalar.addi v522 c0_i32_477
  let v524 : BitVec 32 := v523
  let c0_i32_484 : BitVec 32 := 0#32
  ![v524.toNat, 0]

def k0_chk55 (v522 : BitVec 32) : Prop :=
  (64 ∣ (k0_mult52 v522).toNat) ∧
  (∀ a, (k0_off52 v522) a + S64x2048.size a ≤ S2048x2048.size a) ∧
  (∀ (hinb : ∀ a, (k0_off52 v522) a + S64x2048.size a ≤ S2048x2048.size a), (Rect.unit (s := S2048x2048) (k0_off52 v522) S64x2048.size hinb).WholeWords (EltTy.packing .bf16))
theorem k0_mult52_dvd : ∀ (v522 : BitVec 32) (k0_hw55 : k0_chk55 v522), 64 ∣ (k0_mult52 v522).toNat := fun v522 k0_hw55 => k0_hw55.1
theorem k0_off52_inb : ∀ (v522 : BitVec 32) (k0_hw55 : k0_chk55 v522), ∀ a, (k0_off52 v522) a + S64x2048.size a ≤ S2048x2048.size a := fun v522 k0_hw55 => k0_hw55.2.1
theorem k0_off52_wordsbf16 : ∀ (v522 : BitVec 32) (k0_hw55 : k0_chk55 v522), (Rect.unit (s := S2048x2048) (k0_off52 v522) S64x2048.size (k0_off52_inb v522 k0_hw55)).WholeWords (EltTy.packing .bf16) := fun v522 k0_hw55 => k0_hw55.2.2 (k0_off52_inb v522 k0_hw55)

def k0_mult53 (v531 : BitVec 32) : BitVec 32 :=
  let c0_i32_487 : BitVec 32 := 0#32
  let v532 : BitVec 32 := Scalar.addi v531 c0_i32_487
  v532

def k0_off53 (v531 : BitVec 32) : Fin 2 → Nat :=
  let c0_i32_487 : BitVec 32 := 0#32
  let v532 : BitVec 32 := Scalar.addi v531 c0_i32_487
  let v533 : BitVec 32 := v532
  let c0_i32_493 : BitVec 32 := 0#32
  ![v533.toNat, 0]
def k0_dev31 (v0 : BitVec 32) : Nat :=
  let c0_i32_492 : BitVec 32 := 0#32
  let c1_i32_491 : BitVec 32 := 1#32
  let v534 : BitVec 32 := Scalar.muli v0 c1_i32_491
  let v535 : BitVec 32 := Scalar.addi c0_i32_492 v534
  v535.toNat
def k0_mult54 (v542 : BitVec 32) : BitVec 32 :=
  let c0_i32_495 : BitVec 32 := 0#32
  let v543 : BitVec 32 := Scalar.addi v542 c0_i32_495
  v543

def k0_off54 (v542 : BitVec 32) : Fin 2 → Nat :=
  let c0_i32_495 : BitVec 32 := 0#32
  let v543 : BitVec 32 := Scalar.addi v542 c0_i32_495
  let v544 : BitVec 32 := v543
  let c0_i32_502 : BitVec 32 := 0#32
  ![v544.toNat, 0]

def k0_chk57 (v542 : BitVec 32) : Prop :=
  (64 ∣ (k0_mult54 v542).toNat) ∧
  (∀ a, (k0_off54 v542) a + S64x2048.size a ≤ S2048x2048.size a) ∧
  (∀ (hinb : ∀ a, (k0_off54 v542) a + S64x2048.size a ≤ S2048x2048.size a), (Rect.unit (s := S2048x2048) (k0_off54 v542) S64x2048.size hinb).WholeWords (EltTy.packing .bf16))
theorem k0_mult54_dvd : ∀ (v542 : BitVec 32) (k0_hw57 : k0_chk57 v542), 64 ∣ (k0_mult54 v542).toNat := fun v542 k0_hw57 => k0_hw57.1
theorem k0_off54_inb : ∀ (v542 : BitVec 32) (k0_hw57 : k0_chk57 v542), ∀ a, (k0_off54 v542) a + S64x2048.size a ≤ S2048x2048.size a := fun v542 k0_hw57 => k0_hw57.2.1
theorem k0_off54_wordsbf16 : ∀ (v542 : BitVec 32) (k0_hw57 : k0_chk57 v542), (Rect.unit (s := S2048x2048) (k0_off54 v542) S64x2048.size (k0_off54_inb v542 k0_hw57)).WholeWords (EltTy.packing .bf16) := fun v542 k0_hw57 => k0_hw57.2.2 (k0_off54_inb v542 k0_hw57)

def k0_mult55 (v551 : BitVec 32) : BitVec 32 :=
  let c0_i32_505 : BitVec 32 := 0#32
  let v552 : BitVec 32 := Scalar.addi v551 c0_i32_505
  v552

def k0_off55 (v551 : BitVec 32) : Fin 2 → Nat :=
  let c0_i32_505 : BitVec 32 := 0#32
  let v552 : BitVec 32 := Scalar.addi v551 c0_i32_505
  let v553 : BitVec 32 := v552
  let c0_i32_512 : BitVec 32 := 0#32
  ![v553.toNat, 0]
def k0_dev32 (v1 : BitVec 32) : Nat :=
  let c0_i32_511 : BitVec 32 := 0#32
  let c1_i32_510 : BitVec 32 := 1#32
  let v554 : BitVec 32 := Scalar.muli v1 c1_i32_510
  let v555 : BitVec 32 := Scalar.addi c0_i32_511 v554
  v555.toNat
def k0_mult56 (v562 : BitVec 32) : BitVec 32 :=
  let c0_i32_514 : BitVec 32 := 0#32
  let v563 : BitVec 32 := Scalar.addi v562 c0_i32_514
  v563

def k0_off56 (v562 : BitVec 32) : Fin 2 → Nat :=
  let c0_i32_514 : BitVec 32 := 0#32
  let v563 : BitVec 32 := Scalar.addi v562 c0_i32_514
  let v564 : BitVec 32 := v563
  let c0_i32_521 : BitVec 32 := 0#32
  ![v564.toNat, 0]

def k0_chk59 (v562 : BitVec 32) : Prop :=
  (64 ∣ (k0_mult56 v562).toNat) ∧
  (∀ a, (k0_off56 v562) a + S64x2048.size a ≤ S2048x2048.size a) ∧
  (∀ (hinb : ∀ a, (k0_off56 v562) a + S64x2048.size a ≤ S2048x2048.size a), (Rect.unit (s := S2048x2048) (k0_off56 v562) S64x2048.size hinb).WholeWords (EltTy.packing .bf16))
theorem k0_mult56_dvd : ∀ (v562 : BitVec 32) (k0_hw59 : k0_chk59 v562), 64 ∣ (k0_mult56 v562).toNat := fun v562 k0_hw59 => k0_hw59.1
theorem k0_off56_inb : ∀ (v562 : BitVec 32) (k0_hw59 : k0_chk59 v562), ∀ a, (k0_off56 v562) a + S64x2048.size a ≤ S2048x2048.size a := fun v562 k0_hw59 => k0_hw59.2.1
theorem k0_off56_wordsbf16 : ∀ (v562 : BitVec 32) (k0_hw59 : k0_chk59 v562), (Rect.unit (s := S2048x2048) (k0_off56 v562) S64x2048.size (k0_off56_inb v562 k0_hw59)).WholeWords (EltTy.packing .bf16) := fun v562 k0_hw59 => k0_hw59.2.2 (k0_off56_inb v562 k0_hw59)

def k0_mult57 (v571 : BitVec 32) : BitVec 32 :=
  let c0_i32_524 : BitVec 32 := 0#32
  let v572 : BitVec 32 := Scalar.addi v571 c0_i32_524
  v572

def k0_off57 (v571 : BitVec 32) : Fin 2 → Nat :=
  let c0_i32_524 : BitVec 32 := 0#32
  let v572 : BitVec 32 := Scalar.addi v571 c0_i32_524
  let v573 : BitVec 32 := v572
  let c0_i32_531 : BitVec 32 := 0#32
  ![v573.toNat, 0]
def k0_dev33 (v0 : BitVec 32) : Nat :=
  let c0_i32_530 : BitVec 32 := 0#32
  let c1_i32_529 : BitVec 32 := 1#32
  let v574 : BitVec 32 := Scalar.muli v0 c1_i32_529
  let v575 : BitVec 32 := Scalar.addi c0_i32_530 v574
  v575.toNat

def k0_chk2 (v0 : BitVec 32) : Prop :=
  ((k0_dev1 v0) < nD) ∧
  ((k0_dev5 v0) < nD) ∧
  ((k0_dev7 v0) < nD) ∧
  ((k0_dev9 v0) < nD) ∧
  ((k0_dev11 v0) < nD) ∧
  ((k0_dev13 v0) < nD) ∧
  ((k0_dev15 v0) < nD) ∧
  ((k0_dev17 v0) < nD) ∧
  ((k0_dev19 v0) < nD) ∧
  ((k0_dev21 v0) < nD) ∧
  ((k0_dev23 v0) < nD) ∧
  ((k0_dev25 v0) < nD) ∧
  ((k0_dev27 v0) < nD) ∧
  ((k0_dev29 v0) < nD) ∧
  ((k0_dev31 v0) < nD) ∧
  ((k0_dev33 v0) < nD)
theorem k0_dev1_lt : ∀ (v0 : BitVec 32) (k0_hw2 : k0_chk2 v0), (k0_dev1 v0) < nD := fun v0 k0_hw2 => k0_hw2.1
theorem k0_dev5_lt : ∀ (v0 : BitVec 32) (k0_hw2 : k0_chk2 v0), (k0_dev5 v0) < nD := fun v0 k0_hw2 => k0_hw2.2.1
theorem k0_dev7_lt : ∀ (v0 : BitVec 32) (k0_hw2 : k0_chk2 v0), (k0_dev7 v0) < nD := fun v0 k0_hw2 => k0_hw2.2.2.1
theorem k0_dev9_lt : ∀ (v0 : BitVec 32) (k0_hw2 : k0_chk2 v0), (k0_dev9 v0) < nD := fun v0 k0_hw2 => k0_hw2.2.2.2.1
theorem k0_dev11_lt : ∀ (v0 : BitVec 32) (k0_hw2 : k0_chk2 v0), (k0_dev11 v0) < nD := fun v0 k0_hw2 => k0_hw2.2.2.2.2.1
theorem k0_dev13_lt : ∀ (v0 : BitVec 32) (k0_hw2 : k0_chk2 v0), (k0_dev13 v0) < nD := fun v0 k0_hw2 => k0_hw2.2.2.2.2.2.1
theorem k0_dev15_lt : ∀ (v0 : BitVec 32) (k0_hw2 : k0_chk2 v0), (k0_dev15 v0) < nD := fun v0 k0_hw2 => k0_hw2.2.2.2.2.2.2.1
theorem k0_dev17_lt : ∀ (v0 : BitVec 32) (k0_hw2 : k0_chk2 v0), (k0_dev17 v0) < nD := fun v0 k0_hw2 => k0_hw2.2.2.2.2.2.2.2.1
theorem k0_dev19_lt : ∀ (v0 : BitVec 32) (k0_hw2 : k0_chk2 v0), (k0_dev19 v0) < nD := fun v0 k0_hw2 => k0_hw2.2.2.2.2.2.2.2.2.1
theorem k0_dev21_lt : ∀ (v0 : BitVec 32) (k0_hw2 : k0_chk2 v0), (k0_dev21 v0) < nD := fun v0 k0_hw2 => k0_hw2.2.2.2.2.2.2.2.2.2.1
theorem k0_dev23_lt : ∀ (v0 : BitVec 32) (k0_hw2 : k0_chk2 v0), (k0_dev23 v0) < nD := fun v0 k0_hw2 => k0_hw2.2.2.2.2.2.2.2.2.2.2.1
theorem k0_dev25_lt : ∀ (v0 : BitVec 32) (k0_hw2 : k0_chk2 v0), (k0_dev25 v0) < nD := fun v0 k0_hw2 => k0_hw2.2.2.2.2.2.2.2.2.2.2.2.1
theorem k0_dev27_lt : ∀ (v0 : BitVec 32) (k0_hw2 : k0_chk2 v0), (k0_dev27 v0) < nD := fun v0 k0_hw2 => k0_hw2.2.2.2.2.2.2.2.2.2.2.2.2.1
theorem k0_dev29_lt : ∀ (v0 : BitVec 32) (k0_hw2 : k0_chk2 v0), (k0_dev29 v0) < nD := fun v0 k0_hw2 => k0_hw2.2.2.2.2.2.2.2.2.2.2.2.2.2.1
theorem k0_dev31_lt : ∀ (v0 : BitVec 32) (k0_hw2 : k0_chk2 v0), (k0_dev31 v0) < nD := fun v0 k0_hw2 => k0_hw2.2.2.2.2.2.2.2.2.2.2.2.2.2.2.1
theorem k0_dev33_lt : ∀ (v0 : BitVec 32) (k0_hw2 : k0_chk2 v0), (k0_dev33 v0) < nD := fun v0 k0_hw2 => k0_hw2.2.2.2.2.2.2.2.2.2.2.2.2.2.2.2

def k0_mult58 (v582 : BitVec 32) : BitVec 32 :=
  let c0_i32_533 : BitVec 32 := 0#32
  let v583 : BitVec 32 := Scalar.addi v582 c0_i32_533
  v583

def k0_off58 (v582 : BitVec 32) : Fin 2 → Nat :=
  let c0_i32_533 : BitVec 32 := 0#32
  let v583 : BitVec 32 := Scalar.addi v582 c0_i32_533
  let v584 : BitVec 32 := v583
  let c0_i32_540 : BitVec 32 := 0#32
  ![v584.toNat, 0]

def k0_chk61 (v582 : BitVec 32) : Prop :=
  (64 ∣ (k0_mult58 v582).toNat) ∧
  (∀ a, (k0_off58 v582) a + S64x2048.size a ≤ S2048x2048.size a) ∧
  (∀ (hinb : ∀ a, (k0_off58 v582) a + S64x2048.size a ≤ S2048x2048.size a), (Rect.unit (s := S2048x2048) (k0_off58 v582) S64x2048.size hinb).WholeWords (EltTy.packing .bf16))
theorem k0_mult58_dvd : ∀ (v582 : BitVec 32) (k0_hw61 : k0_chk61 v582), 64 ∣ (k0_mult58 v582).toNat := fun v582 k0_hw61 => k0_hw61.1
theorem k0_off58_inb : ∀ (v582 : BitVec 32) (k0_hw61 : k0_chk61 v582), ∀ a, (k0_off58 v582) a + S64x2048.size a ≤ S2048x2048.size a := fun v582 k0_hw61 => k0_hw61.2.1
theorem k0_off58_wordsbf16 : ∀ (v582 : BitVec 32) (k0_hw61 : k0_chk61 v582), (Rect.unit (s := S2048x2048) (k0_off58 v582) S64x2048.size (k0_off58_inb v582 k0_hw61)).WholeWords (EltTy.packing .bf16) := fun v582 k0_hw61 => k0_hw61.2.2 (k0_off58_inb v582 k0_hw61)

def k0_mult59 (v591 : BitVec 32) : BitVec 32 :=
  let c0_i32_543 : BitVec 32 := 0#32
  let v592 : BitVec 32 := Scalar.addi v591 c0_i32_543
  v592

def k0_off59 (v591 : BitVec 32) : Fin 2 → Nat :=
  let c0_i32_543 : BitVec 32 := 0#32
  let v592 : BitVec 32 := Scalar.addi v591 c0_i32_543
  let v593 : BitVec 32 := v592
  let c0_i32_550 : BitVec 32 := 0#32
  ![v593.toNat, 0]
def k0_dev34 (v1 : BitVec 32) : Nat :=
  let c0_i32_549 : BitVec 32 := 0#32
  let c1_i32_548 : BitVec 32 := 1#32
  let v594 : BitVec 32 := Scalar.muli v1 c1_i32_548
  let v595 : BitVec 32 := Scalar.addi c0_i32_549 v594
  v595.toNat

def k0_chk3 (v1 : BitVec 32) : Prop :=
  ((k0_dev2 v1) < nD) ∧
  ((k0_dev6 v1) < nD) ∧
  ((k0_dev8 v1) < nD) ∧
  ((k0_dev10 v1) < nD) ∧
  ((k0_dev12 v1) < nD) ∧
  ((k0_dev14 v1) < nD) ∧
  ((k0_dev16 v1) < nD) ∧
  ((k0_dev18 v1) < nD) ∧
  ((k0_dev20 v1) < nD) ∧
  ((k0_dev22 v1) < nD) ∧
  ((k0_dev24 v1) < nD) ∧
  ((k0_dev26 v1) < nD) ∧
  ((k0_dev28 v1) < nD) ∧
  ((k0_dev30 v1) < nD) ∧
  ((k0_dev32 v1) < nD) ∧
  ((k0_dev34 v1) < nD)
theorem k0_dev2_lt : ∀ (v1 : BitVec 32) (k0_hw3 : k0_chk3 v1), (k0_dev2 v1) < nD := fun v1 k0_hw3 => k0_hw3.1
theorem k0_dev6_lt : ∀ (v1 : BitVec 32) (k0_hw3 : k0_chk3 v1), (k0_dev6 v1) < nD := fun v1 k0_hw3 => k0_hw3.2.1
theorem k0_dev8_lt : ∀ (v1 : BitVec 32) (k0_hw3 : k0_chk3 v1), (k0_dev8 v1) < nD := fun v1 k0_hw3 => k0_hw3.2.2.1
theorem k0_dev10_lt : ∀ (v1 : BitVec 32) (k0_hw3 : k0_chk3 v1), (k0_dev10 v1) < nD := fun v1 k0_hw3 => k0_hw3.2.2.2.1
theorem k0_dev12_lt : ∀ (v1 : BitVec 32) (k0_hw3 : k0_chk3 v1), (k0_dev12 v1) < nD := fun v1 k0_hw3 => k0_hw3.2.2.2.2.1
theorem k0_dev14_lt : ∀ (v1 : BitVec 32) (k0_hw3 : k0_chk3 v1), (k0_dev14 v1) < nD := fun v1 k0_hw3 => k0_hw3.2.2.2.2.2.1
theorem k0_dev16_lt : ∀ (v1 : BitVec 32) (k0_hw3 : k0_chk3 v1), (k0_dev16 v1) < nD := fun v1 k0_hw3 => k0_hw3.2.2.2.2.2.2.1
theorem k0_dev18_lt : ∀ (v1 : BitVec 32) (k0_hw3 : k0_chk3 v1), (k0_dev18 v1) < nD := fun v1 k0_hw3 => k0_hw3.2.2.2.2.2.2.2.1
theorem k0_dev20_lt : ∀ (v1 : BitVec 32) (k0_hw3 : k0_chk3 v1), (k0_dev20 v1) < nD := fun v1 k0_hw3 => k0_hw3.2.2.2.2.2.2.2.2.1
theorem k0_dev22_lt : ∀ (v1 : BitVec 32) (k0_hw3 : k0_chk3 v1), (k0_dev22 v1) < nD := fun v1 k0_hw3 => k0_hw3.2.2.2.2.2.2.2.2.2.1
theorem k0_dev24_lt : ∀ (v1 : BitVec 32) (k0_hw3 : k0_chk3 v1), (k0_dev24 v1) < nD := fun v1 k0_hw3 => k0_hw3.2.2.2.2.2.2.2.2.2.2.1
theorem k0_dev26_lt : ∀ (v1 : BitVec 32) (k0_hw3 : k0_chk3 v1), (k0_dev26 v1) < nD := fun v1 k0_hw3 => k0_hw3.2.2.2.2.2.2.2.2.2.2.2.1
theorem k0_dev28_lt : ∀ (v1 : BitVec 32) (k0_hw3 : k0_chk3 v1), (k0_dev28 v1) < nD := fun v1 k0_hw3 => k0_hw3.2.2.2.2.2.2.2.2.2.2.2.2.1
theorem k0_dev30_lt : ∀ (v1 : BitVec 32) (k0_hw3 : k0_chk3 v1), (k0_dev30 v1) < nD := fun v1 k0_hw3 => k0_hw3.2.2.2.2.2.2.2.2.2.2.2.2.2.1
theorem k0_dev32_lt : ∀ (v1 : BitVec 32) (k0_hw3 : k0_chk3 v1), (k0_dev32 v1) < nD := fun v1 k0_hw3 => k0_hw3.2.2.2.2.2.2.2.2.2.2.2.2.2.2.1
theorem k0_dev34_lt : ∀ (v1 : BitVec 32) (k0_hw3 : k0_chk3 v1), (k0_dev34 v1) < nD := fun v1 k0_hw3 => k0_hw3.2.2.2.2.2.2.2.2.2.2.2.2.2.2.2

def k0_mult60 (v602 : BitVec 32) : BitVec 32 :=
  let c0_i32_552 : BitVec 32 := 0#32
  let v603 : BitVec 32 := Scalar.addi v602 c0_i32_552
  v603

def k0_off60 (v602 : BitVec 32) : Fin 2 → Nat :=
  let c0_i32_552 : BitVec 32 := 0#32
  let v603 : BitVec 32 := Scalar.addi v602 c0_i32_552
  let v604 : BitVec 32 := v603
  let c0_i32_559 : BitVec 32 := 0#32
  ![v604.toNat, 0]

def k0_chk63 (v602 : BitVec 32) : Prop :=
  (64 ∣ (k0_mult60 v602).toNat) ∧
  (∀ a, (k0_off60 v602) a + S64x2048.size a ≤ S2048x2048.size a) ∧
  (∀ (hinb : ∀ a, (k0_off60 v602) a + S64x2048.size a ≤ S2048x2048.size a), (Rect.unit (s := S2048x2048) (k0_off60 v602) S64x2048.size hinb).WholeWords (EltTy.packing .bf16))
theorem k0_mult60_dvd : ∀ (v602 : BitVec 32) (k0_hw63 : k0_chk63 v602), 64 ∣ (k0_mult60 v602).toNat := fun v602 k0_hw63 => k0_hw63.1
theorem k0_off60_inb : ∀ (v602 : BitVec 32) (k0_hw63 : k0_chk63 v602), ∀ a, (k0_off60 v602) a + S64x2048.size a ≤ S2048x2048.size a := fun v602 k0_hw63 => k0_hw63.2.1
theorem k0_off60_wordsbf16 : ∀ (v602 : BitVec 32) (k0_hw63 : k0_chk63 v602), (Rect.unit (s := S2048x2048) (k0_off60 v602) S64x2048.size (k0_off60_inb v602 k0_hw63)).WholeWords (EltTy.packing .bf16) := fun v602 k0_hw63 => k0_hw63.2.2 (k0_off60_inb v602 k0_hw63)

def k0_mult61 (v611 : BitVec 32) : BitVec 32 :=
  let c0_i32_561 : BitVec 32 := 0#32
  let v612 : BitVec 32 := Scalar.addi v611 c0_i32_561
  v612

def k0_off61 (v611 : BitVec 32) : Fin 2 → Nat :=
  let c0_i32_561 : BitVec 32 := 0#32
  let v612 : BitVec 32 := Scalar.addi v611 c0_i32_561
  let v613 : BitVec 32 := v612
  let c0_i32_568 : BitVec 32 := 0#32
  ![v613.toNat, 0]

def k0_chk64 (v611 : BitVec 32) : Prop :=
  (64 ∣ (k0_mult61 v611).toNat) ∧
  (∀ a, (k0_off61 v611) a + S64x2048.size a ≤ S2048x2048.size a) ∧
  (∀ (hinb : ∀ a, (k0_off61 v611) a + S64x2048.size a ≤ S2048x2048.size a), (Rect.unit (s := S2048x2048) (k0_off61 v611) S64x2048.size hinb).WholeWords (EltTy.packing .bf16))
theorem k0_mult61_dvd : ∀ (v611 : BitVec 32) (k0_hw64 : k0_chk64 v611), 64 ∣ (k0_mult61 v611).toNat := fun v611 k0_hw64 => k0_hw64.1
theorem k0_off61_inb : ∀ (v611 : BitVec 32) (k0_hw64 : k0_chk64 v611), ∀ a, (k0_off61 v611) a + S64x2048.size a ≤ S2048x2048.size a := fun v611 k0_hw64 => k0_hw64.2.1
theorem k0_off61_wordsbf16 : ∀ (v611 : BitVec 32) (k0_hw64 : k0_chk64 v611), (Rect.unit (s := S2048x2048) (k0_off61 v611) S64x2048.size (k0_off61_inb v611 k0_hw64)).WholeWords (EltTy.packing .bf16) := fun v611 k0_hw64 => k0_hw64.2.2 (k0_off61_inb v611 k0_hw64)

def k0_mult62 (v620 : BitVec 32) : BitVec 32 :=
  let c0_i32_570 : BitVec 32 := 0#32
  let v621 : BitVec 32 := Scalar.addi v620 c0_i32_570
  v621

def k0_off62 (v620 : BitVec 32) : Fin 2 → Nat :=
  let c0_i32_570 : BitVec 32 := 0#32
  let v621 : BitVec 32 := Scalar.addi v620 c0_i32_570
  let v622 : BitVec 32 := v621
  let c0_i32_577 : BitVec 32 := 0#32
  ![v622.toNat, 0]

def k0_chk65 (v620 : BitVec 32) : Prop :=
  (64 ∣ (k0_mult62 v620).toNat) ∧
  (∀ a, (k0_off62 v620) a + S64x2048.size a ≤ S2048x2048.size a) ∧
  (∀ (hinb : ∀ a, (k0_off62 v620) a + S64x2048.size a ≤ S2048x2048.size a), (Rect.unit (s := S2048x2048) (k0_off62 v620) S64x2048.size hinb).WholeWords (EltTy.packing .bf16))
theorem k0_mult62_dvd : ∀ (v620 : BitVec 32) (k0_hw65 : k0_chk65 v620), 64 ∣ (k0_mult62 v620).toNat := fun v620 k0_hw65 => k0_hw65.1
theorem k0_off62_inb : ∀ (v620 : BitVec 32) (k0_hw65 : k0_chk65 v620), ∀ a, (k0_off62 v620) a + S64x2048.size a ≤ S2048x2048.size a := fun v620 k0_hw65 => k0_hw65.2.1
theorem k0_off62_wordsbf16 : ∀ (v620 : BitVec 32) (k0_hw65 : k0_chk65 v620), (Rect.unit (s := S2048x2048) (k0_off62 v620) S64x2048.size (k0_off62_inb v620 k0_hw65)).WholeWords (EltTy.packing .bf16) := fun v620 k0_hw65 => k0_hw65.2.2 (k0_off62_inb v620 k0_hw65)

def k0_mult63 (v629 : BitVec 32) : BitVec 32 :=
  let c0_i32_579 : BitVec 32 := 0#32
  let v630 : BitVec 32 := Scalar.addi v629 c0_i32_579
  v630

def k0_off63 (v629 : BitVec 32) : Fin 2 → Nat :=
  let c0_i32_579 : BitVec 32 := 0#32
  let v630 : BitVec 32 := Scalar.addi v629 c0_i32_579
  let v631 : BitVec 32 := v630
  let c0_i32_586 : BitVec 32 := 0#32
  ![v631.toNat, 0]

def k0_chk66 (v629 : BitVec 32) : Prop :=
  (64 ∣ (k0_mult63 v629).toNat) ∧
  (∀ a, (k0_off63 v629) a + S64x2048.size a ≤ S2048x2048.size a) ∧
  (∀ (hinb : ∀ a, (k0_off63 v629) a + S64x2048.size a ≤ S2048x2048.size a), (Rect.unit (s := S2048x2048) (k0_off63 v629) S64x2048.size hinb).WholeWords (EltTy.packing .bf16))
theorem k0_mult63_dvd : ∀ (v629 : BitVec 32) (k0_hw66 : k0_chk66 v629), 64 ∣ (k0_mult63 v629).toNat := fun v629 k0_hw66 => k0_hw66.1
theorem k0_off63_inb : ∀ (v629 : BitVec 32) (k0_hw66 : k0_chk66 v629), ∀ a, (k0_off63 v629) a + S64x2048.size a ≤ S2048x2048.size a := fun v629 k0_hw66 => k0_hw66.2.1
theorem k0_off63_wordsbf16 : ∀ (v629 : BitVec 32) (k0_hw66 : k0_chk66 v629), (Rect.unit (s := S2048x2048) (k0_off63 v629) S64x2048.size (k0_off63_inb v629 k0_hw66)).WholeWords (EltTy.packing .bf16) := fun v629 k0_hw66 => k0_hw66.2.2 (k0_off63_inb v629 k0_hw66)

def k0_off64 (v18 : BitVec 32) : Fin 2 → Nat :=
  let c0_i32_11 : BitVec 32 := 0#32
  let v19 : BitVec 32 := Scalar.addi v18 c0_i32_11
  let v20 : BitVec 32 := v19
  let c0_i32_601 : BitVec 32 := 0#32
  ![v20.toNat, 0]

def k0_chk5 (v18 : BitVec 32) : Prop :=
  (64 ∣ (k0_mult2 v18).toNat) ∧
  (∀ a, (k0_off2 v18) a + S64x2048.size a ≤ S2048x2048.size a) ∧
  (∀ (hinb : ∀ a, (k0_off2 v18) a + S64x2048.size a ≤ S2048x2048.size a), (Rect.unit (s := S2048x2048) (k0_off2 v18) S64x2048.size hinb).WholeWords (EltTy.packing .bf16)) ∧
  (∀ a, (k0_off64 v18) a + S64x2048.size a ≤ S2048x2048.size a) ∧
  (∀ (hinb : ∀ a, (k0_off64 v18) a + S64x2048.size a ≤ S2048x2048.size a), (Rect.unit (s := S2048x2048) (k0_off64 v18) S64x2048.size hinb).WholeWords (EltTy.packing .bf16))
theorem k0_mult2_dvd : ∀ (v18 : BitVec 32) (k0_hw5 : k0_chk5 v18), 64 ∣ (k0_mult2 v18).toNat := fun v18 k0_hw5 => k0_hw5.1
theorem k0_off2_inb : ∀ (v18 : BitVec 32) (k0_hw5 : k0_chk5 v18), ∀ a, (k0_off2 v18) a + S64x2048.size a ≤ S2048x2048.size a := fun v18 k0_hw5 => k0_hw5.2.1
theorem k0_off2_wordsbf16 : ∀ (v18 : BitVec 32) (k0_hw5 : k0_chk5 v18), (Rect.unit (s := S2048x2048) (k0_off2 v18) S64x2048.size (k0_off2_inb v18 k0_hw5)).WholeWords (EltTy.packing .bf16) := fun v18 k0_hw5 => k0_hw5.2.2.1 (k0_off2_inb v18 k0_hw5)
theorem k0_off64_inb : ∀ (v18 : BitVec 32) (k0_hw5 : k0_chk5 v18), ∀ a, (k0_off64 v18) a + S64x2048.size a ≤ S2048x2048.size a := fun v18 k0_hw5 => k0_hw5.2.2.2.1
theorem k0_off64_wordsbf16 : ∀ (v18 : BitVec 32) (k0_hw5 : k0_chk5 v18), (Rect.unit (s := S2048x2048) (k0_off64 v18) S64x2048.size (k0_off64_inb v18 k0_hw5)).WholeWords (EltTy.packing .bf16) := fun v18 k0_hw5 => k0_hw5.2.2.2.2 (k0_off64_inb v18 k0_hw5)

def k0_off65 (v29 : BitVec 32) : Fin 2 → Nat :=
  let c0_i32_19 : BitVec 32 := 0#32
  let v30 : BitVec 32 := Scalar.addi v29 c0_i32_19
  let v31 : BitVec 32 := v30
  let c0_i32_608 : BitVec 32 := 0#32
  ![v31.toNat, 0]

def k0_chk6 (v29 : BitVec 32) : Prop :=
  (64 ∣ (k0_mult3 v29).toNat) ∧
  (∀ a, (k0_off3 v29) a + S64x2048.size a ≤ S2048x2048.size a) ∧
  (∀ (hinb : ∀ a, (k0_off3 v29) a + S64x2048.size a ≤ S2048x2048.size a), (Rect.unit (s := S2048x2048) (k0_off3 v29) S64x2048.size hinb).WholeWords (EltTy.packing .bf16)) ∧
  (∀ a, (k0_off65 v29) a + S64x2048.size a ≤ S2048x2048.size a) ∧
  (∀ (hinb : ∀ a, (k0_off65 v29) a + S64x2048.size a ≤ S2048x2048.size a), (Rect.unit (s := S2048x2048) (k0_off65 v29) S64x2048.size hinb).WholeWords (EltTy.packing .bf16))
theorem k0_mult3_dvd : ∀ (v29 : BitVec 32) (k0_hw6 : k0_chk6 v29), 64 ∣ (k0_mult3 v29).toNat := fun v29 k0_hw6 => k0_hw6.1
theorem k0_off3_inb : ∀ (v29 : BitVec 32) (k0_hw6 : k0_chk6 v29), ∀ a, (k0_off3 v29) a + S64x2048.size a ≤ S2048x2048.size a := fun v29 k0_hw6 => k0_hw6.2.1
theorem k0_off3_wordsbf16 : ∀ (v29 : BitVec 32) (k0_hw6 : k0_chk6 v29), (Rect.unit (s := S2048x2048) (k0_off3 v29) S64x2048.size (k0_off3_inb v29 k0_hw6)).WholeWords (EltTy.packing .bf16) := fun v29 k0_hw6 => k0_hw6.2.2.1 (k0_off3_inb v29 k0_hw6)
theorem k0_off65_inb : ∀ (v29 : BitVec 32) (k0_hw6 : k0_chk6 v29), ∀ a, (k0_off65 v29) a + S64x2048.size a ≤ S2048x2048.size a := fun v29 k0_hw6 => k0_hw6.2.2.2.1
theorem k0_off65_wordsbf16 : ∀ (v29 : BitVec 32) (k0_hw6 : k0_chk6 v29), (Rect.unit (s := S2048x2048) (k0_off65 v29) S64x2048.size (k0_off65_inb v29 k0_hw6)).WholeWords (EltTy.packing .bf16) := fun v29 k0_hw6 => k0_hw6.2.2.2.2 (k0_off65_inb v29 k0_hw6)

def k0_off66 (v40 : BitVec 32) : Fin 2 → Nat :=
  let c0_i32_28 : BitVec 32 := 0#32
  let v41 : BitVec 32 := Scalar.addi v40 c0_i32_28
  let v42 : BitVec 32 := v41
  let c0_i32_615 : BitVec 32 := 0#32
  ![v42.toNat, 0]

def k0_chk7 (v40 : BitVec 32) : Prop :=
  (64 ∣ (k0_mult4 v40).toNat) ∧
  (∀ a, (k0_off4 v40) a + S64x2048.size a ≤ S2048x2048.size a) ∧
  (∀ (hinb : ∀ a, (k0_off4 v40) a + S64x2048.size a ≤ S2048x2048.size a), (Rect.unit (s := S2048x2048) (k0_off4 v40) S64x2048.size hinb).WholeWords (EltTy.packing .bf16)) ∧
  (∀ a, (k0_off66 v40) a + S64x2048.size a ≤ S2048x2048.size a) ∧
  (∀ (hinb : ∀ a, (k0_off66 v40) a + S64x2048.size a ≤ S2048x2048.size a), (Rect.unit (s := S2048x2048) (k0_off66 v40) S64x2048.size hinb).WholeWords (EltTy.packing .bf16))
theorem k0_mult4_dvd : ∀ (v40 : BitVec 32) (k0_hw7 : k0_chk7 v40), 64 ∣ (k0_mult4 v40).toNat := fun v40 k0_hw7 => k0_hw7.1
theorem k0_off4_inb : ∀ (v40 : BitVec 32) (k0_hw7 : k0_chk7 v40), ∀ a, (k0_off4 v40) a + S64x2048.size a ≤ S2048x2048.size a := fun v40 k0_hw7 => k0_hw7.2.1
theorem k0_off4_wordsbf16 : ∀ (v40 : BitVec 32) (k0_hw7 : k0_chk7 v40), (Rect.unit (s := S2048x2048) (k0_off4 v40) S64x2048.size (k0_off4_inb v40 k0_hw7)).WholeWords (EltTy.packing .bf16) := fun v40 k0_hw7 => k0_hw7.2.2.1 (k0_off4_inb v40 k0_hw7)
theorem k0_off66_inb : ∀ (v40 : BitVec 32) (k0_hw7 : k0_chk7 v40), ∀ a, (k0_off66 v40) a + S64x2048.size a ≤ S2048x2048.size a := fun v40 k0_hw7 => k0_hw7.2.2.2.1
theorem k0_off66_wordsbf16 : ∀ (v40 : BitVec 32) (k0_hw7 : k0_chk7 v40), (Rect.unit (s := S2048x2048) (k0_off66 v40) S64x2048.size (k0_off66_inb v40 k0_hw7)).WholeWords (EltTy.packing .bf16) := fun v40 k0_hw7 => k0_hw7.2.2.2.2 (k0_off66_inb v40 k0_hw7)

def k0_off67 (v60 : BitVec 32) : Fin 2 → Nat :=
  let c0_i32_47 : BitVec 32 := 0#32
  let v61 : BitVec 32 := Scalar.addi v60 c0_i32_47
  let v62 : BitVec 32 := v61
  let c0_i32_622 : BitVec 32 := 0#32
  ![v62.toNat, 0]

def k0_chk9 (v60 : BitVec 32) : Prop :=
  (64 ∣ (k0_mult6 v60).toNat) ∧
  (∀ a, (k0_off6 v60) a + S64x2048.size a ≤ S2048x2048.size a) ∧
  (∀ (hinb : ∀ a, (k0_off6 v60) a + S64x2048.size a ≤ S2048x2048.size a), (Rect.unit (s := S2048x2048) (k0_off6 v60) S64x2048.size hinb).WholeWords (EltTy.packing .bf16)) ∧
  (∀ a, (k0_off67 v60) a + S64x2048.size a ≤ S2048x2048.size a) ∧
  (∀ (hinb : ∀ a, (k0_off67 v60) a + S64x2048.size a ≤ S2048x2048.size a), (Rect.unit (s := S2048x2048) (k0_off67 v60) S64x2048.size hinb).WholeWords (EltTy.packing .bf16))
theorem k0_mult6_dvd : ∀ (v60 : BitVec 32) (k0_hw9 : k0_chk9 v60), 64 ∣ (k0_mult6 v60).toNat := fun v60 k0_hw9 => k0_hw9.1
theorem k0_off6_inb : ∀ (v60 : BitVec 32) (k0_hw9 : k0_chk9 v60), ∀ a, (k0_off6 v60) a + S64x2048.size a ≤ S2048x2048.size a := fun v60 k0_hw9 => k0_hw9.2.1
theorem k0_off6_wordsbf16 : ∀ (v60 : BitVec 32) (k0_hw9 : k0_chk9 v60), (Rect.unit (s := S2048x2048) (k0_off6 v60) S64x2048.size (k0_off6_inb v60 k0_hw9)).WholeWords (EltTy.packing .bf16) := fun v60 k0_hw9 => k0_hw9.2.2.1 (k0_off6_inb v60 k0_hw9)
theorem k0_off67_inb : ∀ (v60 : BitVec 32) (k0_hw9 : k0_chk9 v60), ∀ a, (k0_off67 v60) a + S64x2048.size a ≤ S2048x2048.size a := fun v60 k0_hw9 => k0_hw9.2.2.2.1
theorem k0_off67_wordsbf16 : ∀ (v60 : BitVec 32) (k0_hw9 : k0_chk9 v60), (Rect.unit (s := S2048x2048) (k0_off67 v60) S64x2048.size (k0_off67_inb v60 k0_hw9)).WholeWords (EltTy.packing .bf16) := fun v60 k0_hw9 => k0_hw9.2.2.2.2 (k0_off67_inb v60 k0_hw9)

def k0_off68 (v80 : BitVec 32) : Fin 2 → Nat :=
  let c0_i32_66 : BitVec 32 := 0#32
  let v81 : BitVec 32 := Scalar.addi v80 c0_i32_66
  let v82 : BitVec 32 := v81
  let c0_i32_629 : BitVec 32 := 0#32
  ![v82.toNat, 0]

def k0_chk11 (v80 : BitVec 32) : Prop :=
  (64 ∣ (k0_mult8 v80).toNat) ∧
  (∀ a, (k0_off8 v80) a + S64x2048.size a ≤ S2048x2048.size a) ∧
  (∀ (hinb : ∀ a, (k0_off8 v80) a + S64x2048.size a ≤ S2048x2048.size a), (Rect.unit (s := S2048x2048) (k0_off8 v80) S64x2048.size hinb).WholeWords (EltTy.packing .bf16)) ∧
  (∀ a, (k0_off68 v80) a + S64x2048.size a ≤ S2048x2048.size a) ∧
  (∀ (hinb : ∀ a, (k0_off68 v80) a + S64x2048.size a ≤ S2048x2048.size a), (Rect.unit (s := S2048x2048) (k0_off68 v80) S64x2048.size hinb).WholeWords (EltTy.packing .bf16))
theorem k0_mult8_dvd : ∀ (v80 : BitVec 32) (k0_hw11 : k0_chk11 v80), 64 ∣ (k0_mult8 v80).toNat := fun v80 k0_hw11 => k0_hw11.1
theorem k0_off8_inb : ∀ (v80 : BitVec 32) (k0_hw11 : k0_chk11 v80), ∀ a, (k0_off8 v80) a + S64x2048.size a ≤ S2048x2048.size a := fun v80 k0_hw11 => k0_hw11.2.1
theorem k0_off8_wordsbf16 : ∀ (v80 : BitVec 32) (k0_hw11 : k0_chk11 v80), (Rect.unit (s := S2048x2048) (k0_off8 v80) S64x2048.size (k0_off8_inb v80 k0_hw11)).WholeWords (EltTy.packing .bf16) := fun v80 k0_hw11 => k0_hw11.2.2.1 (k0_off8_inb v80 k0_hw11)
theorem k0_off68_inb : ∀ (v80 : BitVec 32) (k0_hw11 : k0_chk11 v80), ∀ a, (k0_off68 v80) a + S64x2048.size a ≤ S2048x2048.size a := fun v80 k0_hw11 => k0_hw11.2.2.2.1
theorem k0_off68_wordsbf16 : ∀ (v80 : BitVec 32) (k0_hw11 : k0_chk11 v80), (Rect.unit (s := S2048x2048) (k0_off68 v80) S64x2048.size (k0_off68_inb v80 k0_hw11)).WholeWords (EltTy.packing .bf16) := fun v80 k0_hw11 => k0_hw11.2.2.2.2 (k0_off68_inb v80 k0_hw11)

def k0_off69 (v100 : BitVec 32) : Fin 2 → Nat :=
  let c0_i32_83 : BitVec 32 := 0#32
  let v101 : BitVec 32 := Scalar.addi v100 c0_i32_83
  let v102 : BitVec 32 := v101
  let c0_i32_636 : BitVec 32 := 0#32
  ![v102.toNat, 0]

def k0_chk13 (v100 : BitVec 32) : Prop :=
  (64 ∣ (k0_mult10 v100).toNat) ∧
  (∀ a, (k0_off10 v100) a + S64x2048.size a ≤ S2048x2048.size a) ∧
  (∀ (hinb : ∀ a, (k0_off10 v100) a + S64x2048.size a ≤ S2048x2048.size a), (Rect.unit (s := S2048x2048) (k0_off10 v100) S64x2048.size hinb).WholeWords (EltTy.packing .bf16)) ∧
  (∀ a, (k0_off69 v100) a + S64x2048.size a ≤ S2048x2048.size a) ∧
  (∀ (hinb : ∀ a, (k0_off69 v100) a + S64x2048.size a ≤ S2048x2048.size a), (Rect.unit (s := S2048x2048) (k0_off69 v100) S64x2048.size hinb).WholeWords (EltTy.packing .bf16))
theorem k0_mult10_dvd : ∀ (v100 : BitVec 32) (k0_hw13 : k0_chk13 v100), 64 ∣ (k0_mult10 v100).toNat := fun v100 k0_hw13 => k0_hw13.1
theorem k0_off10_inb : ∀ (v100 : BitVec 32) (k0_hw13 : k0_chk13 v100), ∀ a, (k0_off10 v100) a + S64x2048.size a ≤ S2048x2048.size a := fun v100 k0_hw13 => k0_hw13.2.1
theorem k0_off10_wordsbf16 : ∀ (v100 : BitVec 32) (k0_hw13 : k0_chk13 v100), (Rect.unit (s := S2048x2048) (k0_off10 v100) S64x2048.size (k0_off10_inb v100 k0_hw13)).WholeWords (EltTy.packing .bf16) := fun v100 k0_hw13 => k0_hw13.2.2.1 (k0_off10_inb v100 k0_hw13)
theorem k0_off69_inb : ∀ (v100 : BitVec 32) (k0_hw13 : k0_chk13 v100), ∀ a, (k0_off69 v100) a + S64x2048.size a ≤ S2048x2048.size a := fun v100 k0_hw13 => k0_hw13.2.2.2.1
theorem k0_off69_wordsbf16 : ∀ (v100 : BitVec 32) (k0_hw13 : k0_chk13 v100), (Rect.unit (s := S2048x2048) (k0_off69 v100) S64x2048.size (k0_off69_inb v100 k0_hw13)).WholeWords (EltTy.packing .bf16) := fun v100 k0_hw13 => k0_hw13.2.2.2.2 (k0_off69_inb v100 k0_hw13)

def k0_off70 (v111 : BitVec 32) : Fin 2 → Nat :=
  let c0_i32_92 : BitVec 32 := 0#32
  let v112 : BitVec 32 := Scalar.addi v111 c0_i32_92
  let v113 : BitVec 32 := v112
  let c0_i32_643 : BitVec 32 := 0#32
  ![v113.toNat, 0]

def k0_chk14 (v111 : BitVec 32) : Prop :=
  (64 ∣ (k0_mult11 v111).toNat) ∧
  (∀ a, (k0_off11 v111) a + S64x2048.size a ≤ S2048x2048.size a) ∧
  (∀ (hinb : ∀ a, (k0_off11 v111) a + S64x2048.size a ≤ S2048x2048.size a), (Rect.unit (s := S2048x2048) (k0_off11 v111) S64x2048.size hinb).WholeWords (EltTy.packing .bf16)) ∧
  (∀ a, (k0_off70 v111) a + S64x2048.size a ≤ S2048x2048.size a) ∧
  (∀ (hinb : ∀ a, (k0_off70 v111) a + S64x2048.size a ≤ S2048x2048.size a), (Rect.unit (s := S2048x2048) (k0_off70 v111) S64x2048.size hinb).WholeWords (EltTy.packing .bf16))
theorem k0_mult11_dvd : ∀ (v111 : BitVec 32) (k0_hw14 : k0_chk14 v111), 64 ∣ (k0_mult11 v111).toNat := fun v111 k0_hw14 => k0_hw14.1
theorem k0_off11_inb : ∀ (v111 : BitVec 32) (k0_hw14 : k0_chk14 v111), ∀ a, (k0_off11 v111) a + S64x2048.size a ≤ S2048x2048.size a := fun v111 k0_hw14 => k0_hw14.2.1
theorem k0_off11_wordsbf16 : ∀ (v111 : BitVec 32) (k0_hw14 : k0_chk14 v111), (Rect.unit (s := S2048x2048) (k0_off11 v111) S64x2048.size (k0_off11_inb v111 k0_hw14)).WholeWords (EltTy.packing .bf16) := fun v111 k0_hw14 => k0_hw14.2.2.1 (k0_off11_inb v111 k0_hw14)
theorem k0_off70_inb : ∀ (v111 : BitVec 32) (k0_hw14 : k0_chk14 v111), ∀ a, (k0_off70 v111) a + S64x2048.size a ≤ S2048x2048.size a := fun v111 k0_hw14 => k0_hw14.2.2.2.1
theorem k0_off70_wordsbf16 : ∀ (v111 : BitVec 32) (k0_hw14 : k0_chk14 v111), (Rect.unit (s := S2048x2048) (k0_off70 v111) S64x2048.size (k0_off70_inb v111 k0_hw14)).WholeWords (EltTy.packing .bf16) := fun v111 k0_hw14 => k0_hw14.2.2.2.2 (k0_off70_inb v111 k0_hw14)

def k0_off71 (v131 : BitVec 32) : Fin 2 → Nat :=
  let c0_i32_111 : BitVec 32 := 0#32
  let v132 : BitVec 32 := Scalar.addi v131 c0_i32_111
  let v133 : BitVec 32 := v132
  let c0_i32_650 : BitVec 32 := 0#32
  ![v133.toNat, 0]

def k0_chk16 (v131 : BitVec 32) : Prop :=
  (64 ∣ (k0_mult13 v131).toNat) ∧
  (∀ a, (k0_off13 v131) a + S64x2048.size a ≤ S2048x2048.size a) ∧
  (∀ (hinb : ∀ a, (k0_off13 v131) a + S64x2048.size a ≤ S2048x2048.size a), (Rect.unit (s := S2048x2048) (k0_off13 v131) S64x2048.size hinb).WholeWords (EltTy.packing .bf16)) ∧
  (∀ a, (k0_off71 v131) a + S64x2048.size a ≤ S2048x2048.size a) ∧
  (∀ (hinb : ∀ a, (k0_off71 v131) a + S64x2048.size a ≤ S2048x2048.size a), (Rect.unit (s := S2048x2048) (k0_off71 v131) S64x2048.size hinb).WholeWords (EltTy.packing .bf16))
theorem k0_mult13_dvd : ∀ (v131 : BitVec 32) (k0_hw16 : k0_chk16 v131), 64 ∣ (k0_mult13 v131).toNat := fun v131 k0_hw16 => k0_hw16.1
theorem k0_off13_inb : ∀ (v131 : BitVec 32) (k0_hw16 : k0_chk16 v131), ∀ a, (k0_off13 v131) a + S64x2048.size a ≤ S2048x2048.size a := fun v131 k0_hw16 => k0_hw16.2.1
theorem k0_off13_wordsbf16 : ∀ (v131 : BitVec 32) (k0_hw16 : k0_chk16 v131), (Rect.unit (s := S2048x2048) (k0_off13 v131) S64x2048.size (k0_off13_inb v131 k0_hw16)).WholeWords (EltTy.packing .bf16) := fun v131 k0_hw16 => k0_hw16.2.2.1 (k0_off13_inb v131 k0_hw16)
theorem k0_off71_inb : ∀ (v131 : BitVec 32) (k0_hw16 : k0_chk16 v131), ∀ a, (k0_off71 v131) a + S64x2048.size a ≤ S2048x2048.size a := fun v131 k0_hw16 => k0_hw16.2.2.2.1
theorem k0_off71_wordsbf16 : ∀ (v131 : BitVec 32) (k0_hw16 : k0_chk16 v131), (Rect.unit (s := S2048x2048) (k0_off71 v131) S64x2048.size (k0_off71_inb v131 k0_hw16)).WholeWords (EltTy.packing .bf16) := fun v131 k0_hw16 => k0_hw16.2.2.2.2 (k0_off71_inb v131 k0_hw16)

def k0_off72 (v151 : BitVec 32) : Fin 2 → Nat :=
  let c0_i32_129 : BitVec 32 := 0#32
  let v152 : BitVec 32 := Scalar.addi v151 c0_i32_129
  let v153 : BitVec 32 := v152
  let c0_i32_657 : BitVec 32 := 0#32
  ![v153.toNat, 0]

def k0_chk18 (v151 : BitVec 32) : Prop :=
  (64 ∣ (k0_mult15 v151).toNat) ∧
  (∀ a, (k0_off15 v151) a + S64x2048.size a ≤ S2048x2048.size a) ∧
  (∀ (hinb : ∀ a, (k0_off15 v151) a + S64x2048.size a ≤ S2048x2048.size a), (Rect.unit (s := S2048x2048) (k0_off15 v151) S64x2048.size hinb).WholeWords (EltTy.packing .bf16)) ∧
  (∀ a, (k0_off72 v151) a + S64x2048.size a ≤ S2048x2048.size a) ∧
  (∀ (hinb : ∀ a, (k0_off72 v151) a + S64x2048.size a ≤ S2048x2048.size a), (Rect.unit (s := S2048x2048) (k0_off72 v151) S64x2048.size hinb).WholeWords (EltTy.packing .bf16))
theorem k0_mult15_dvd : ∀ (v151 : BitVec 32) (k0_hw18 : k0_chk18 v151), 64 ∣ (k0_mult15 v151).toNat := fun v151 k0_hw18 => k0_hw18.1
theorem k0_off15_inb : ∀ (v151 : BitVec 32) (k0_hw18 : k0_chk18 v151), ∀ a, (k0_off15 v151) a + S64x2048.size a ≤ S2048x2048.size a := fun v151 k0_hw18 => k0_hw18.2.1
theorem k0_off15_wordsbf16 : ∀ (v151 : BitVec 32) (k0_hw18 : k0_chk18 v151), (Rect.unit (s := S2048x2048) (k0_off15 v151) S64x2048.size (k0_off15_inb v151 k0_hw18)).WholeWords (EltTy.packing .bf16) := fun v151 k0_hw18 => k0_hw18.2.2.1 (k0_off15_inb v151 k0_hw18)
theorem k0_off72_inb : ∀ (v151 : BitVec 32) (k0_hw18 : k0_chk18 v151), ∀ a, (k0_off72 v151) a + S64x2048.size a ≤ S2048x2048.size a := fun v151 k0_hw18 => k0_hw18.2.2.2.1
theorem k0_off72_wordsbf16 : ∀ (v151 : BitVec 32) (k0_hw18 : k0_chk18 v151), (Rect.unit (s := S2048x2048) (k0_off72 v151) S64x2048.size (k0_off72_inb v151 k0_hw18)).WholeWords (EltTy.packing .bf16) := fun v151 k0_hw18 => k0_hw18.2.2.2.2 (k0_off72_inb v151 k0_hw18)

def k0_off73 (v171 : BitVec 32) : Fin 2 → Nat :=
  let c0_i32_148 : BitVec 32 := 0#32
  let v172 : BitVec 32 := Scalar.addi v171 c0_i32_148
  let v173 : BitVec 32 := v172
  let c0_i32_664 : BitVec 32 := 0#32
  ![v173.toNat, 0]

def k0_chk20 (v171 : BitVec 32) : Prop :=
  (64 ∣ (k0_mult17 v171).toNat) ∧
  (∀ a, (k0_off17 v171) a + S64x2048.size a ≤ S2048x2048.size a) ∧
  (∀ (hinb : ∀ a, (k0_off17 v171) a + S64x2048.size a ≤ S2048x2048.size a), (Rect.unit (s := S2048x2048) (k0_off17 v171) S64x2048.size hinb).WholeWords (EltTy.packing .bf16)) ∧
  (∀ a, (k0_off73 v171) a + S64x2048.size a ≤ S2048x2048.size a) ∧
  (∀ (hinb : ∀ a, (k0_off73 v171) a + S64x2048.size a ≤ S2048x2048.size a), (Rect.unit (s := S2048x2048) (k0_off73 v171) S64x2048.size hinb).WholeWords (EltTy.packing .bf16))
theorem k0_mult17_dvd : ∀ (v171 : BitVec 32) (k0_hw20 : k0_chk20 v171), 64 ∣ (k0_mult17 v171).toNat := fun v171 k0_hw20 => k0_hw20.1
theorem k0_off17_inb : ∀ (v171 : BitVec 32) (k0_hw20 : k0_chk20 v171), ∀ a, (k0_off17 v171) a + S64x2048.size a ≤ S2048x2048.size a := fun v171 k0_hw20 => k0_hw20.2.1
theorem k0_off17_wordsbf16 : ∀ (v171 : BitVec 32) (k0_hw20 : k0_chk20 v171), (Rect.unit (s := S2048x2048) (k0_off17 v171) S64x2048.size (k0_off17_inb v171 k0_hw20)).WholeWords (EltTy.packing .bf16) := fun v171 k0_hw20 => k0_hw20.2.2.1 (k0_off17_inb v171 k0_hw20)
theorem k0_off73_inb : ∀ (v171 : BitVec 32) (k0_hw20 : k0_chk20 v171), ∀ a, (k0_off73 v171) a + S64x2048.size a ≤ S2048x2048.size a := fun v171 k0_hw20 => k0_hw20.2.2.2.1
theorem k0_off73_wordsbf16 : ∀ (v171 : BitVec 32) (k0_hw20 : k0_chk20 v171), (Rect.unit (s := S2048x2048) (k0_off73 v171) S64x2048.size (k0_off73_inb v171 k0_hw20)).WholeWords (EltTy.packing .bf16) := fun v171 k0_hw20 => k0_hw20.2.2.2.2 (k0_off73_inb v171 k0_hw20)

def k0_off74 (v191 : BitVec 32) : Fin 2 → Nat :=
  let c0_i32_167 : BitVec 32 := 0#32
  let v192 : BitVec 32 := Scalar.addi v191 c0_i32_167
  let v193 : BitVec 32 := v192
  let c0_i32_671 : BitVec 32 := 0#32
  ![v193.toNat, 0]

def k0_chk22 (v191 : BitVec 32) : Prop :=
  (64 ∣ (k0_mult19 v191).toNat) ∧
  (∀ a, (k0_off19 v191) a + S64x2048.size a ≤ S2048x2048.size a) ∧
  (∀ (hinb : ∀ a, (k0_off19 v191) a + S64x2048.size a ≤ S2048x2048.size a), (Rect.unit (s := S2048x2048) (k0_off19 v191) S64x2048.size hinb).WholeWords (EltTy.packing .bf16)) ∧
  (∀ a, (k0_off74 v191) a + S64x2048.size a ≤ S2048x2048.size a) ∧
  (∀ (hinb : ∀ a, (k0_off74 v191) a + S64x2048.size a ≤ S2048x2048.size a), (Rect.unit (s := S2048x2048) (k0_off74 v191) S64x2048.size hinb).WholeWords (EltTy.packing .bf16))
theorem k0_mult19_dvd : ∀ (v191 : BitVec 32) (k0_hw22 : k0_chk22 v191), 64 ∣ (k0_mult19 v191).toNat := fun v191 k0_hw22 => k0_hw22.1
theorem k0_off19_inb : ∀ (v191 : BitVec 32) (k0_hw22 : k0_chk22 v191), ∀ a, (k0_off19 v191) a + S64x2048.size a ≤ S2048x2048.size a := fun v191 k0_hw22 => k0_hw22.2.1
theorem k0_off19_wordsbf16 : ∀ (v191 : BitVec 32) (k0_hw22 : k0_chk22 v191), (Rect.unit (s := S2048x2048) (k0_off19 v191) S64x2048.size (k0_off19_inb v191 k0_hw22)).WholeWords (EltTy.packing .bf16) := fun v191 k0_hw22 => k0_hw22.2.2.1 (k0_off19_inb v191 k0_hw22)
theorem k0_off74_inb : ∀ (v191 : BitVec 32) (k0_hw22 : k0_chk22 v191), ∀ a, (k0_off74 v191) a + S64x2048.size a ≤ S2048x2048.size a := fun v191 k0_hw22 => k0_hw22.2.2.2.1
theorem k0_off74_wordsbf16 : ∀ (v191 : BitVec 32) (k0_hw22 : k0_chk22 v191), (Rect.unit (s := S2048x2048) (k0_off74 v191) S64x2048.size (k0_off74_inb v191 k0_hw22)).WholeWords (EltTy.packing .bf16) := fun v191 k0_hw22 => k0_hw22.2.2.2.2 (k0_off74_inb v191 k0_hw22)

def k0_off75 (v211 : BitVec 32) : Fin 2 → Nat :=
  let c0_i32_186 : BitVec 32 := 0#32
  let v212 : BitVec 32 := Scalar.addi v211 c0_i32_186
  let v213 : BitVec 32 := v212
  let c0_i32_678 : BitVec 32 := 0#32
  ![v213.toNat, 0]

def k0_chk24 (v211 : BitVec 32) : Prop :=
  (64 ∣ (k0_mult21 v211).toNat) ∧
  (∀ a, (k0_off21 v211) a + S64x2048.size a ≤ S2048x2048.size a) ∧
  (∀ (hinb : ∀ a, (k0_off21 v211) a + S64x2048.size a ≤ S2048x2048.size a), (Rect.unit (s := S2048x2048) (k0_off21 v211) S64x2048.size hinb).WholeWords (EltTy.packing .bf16)) ∧
  (∀ a, (k0_off75 v211) a + S64x2048.size a ≤ S2048x2048.size a) ∧
  (∀ (hinb : ∀ a, (k0_off75 v211) a + S64x2048.size a ≤ S2048x2048.size a), (Rect.unit (s := S2048x2048) (k0_off75 v211) S64x2048.size hinb).WholeWords (EltTy.packing .bf16))
theorem k0_mult21_dvd : ∀ (v211 : BitVec 32) (k0_hw24 : k0_chk24 v211), 64 ∣ (k0_mult21 v211).toNat := fun v211 k0_hw24 => k0_hw24.1
theorem k0_off21_inb : ∀ (v211 : BitVec 32) (k0_hw24 : k0_chk24 v211), ∀ a, (k0_off21 v211) a + S64x2048.size a ≤ S2048x2048.size a := fun v211 k0_hw24 => k0_hw24.2.1
theorem k0_off21_wordsbf16 : ∀ (v211 : BitVec 32) (k0_hw24 : k0_chk24 v211), (Rect.unit (s := S2048x2048) (k0_off21 v211) S64x2048.size (k0_off21_inb v211 k0_hw24)).WholeWords (EltTy.packing .bf16) := fun v211 k0_hw24 => k0_hw24.2.2.1 (k0_off21_inb v211 k0_hw24)
theorem k0_off75_inb : ∀ (v211 : BitVec 32) (k0_hw24 : k0_chk24 v211), ∀ a, (k0_off75 v211) a + S64x2048.size a ≤ S2048x2048.size a := fun v211 k0_hw24 => k0_hw24.2.2.2.1
theorem k0_off75_wordsbf16 : ∀ (v211 : BitVec 32) (k0_hw24 : k0_chk24 v211), (Rect.unit (s := S2048x2048) (k0_off75 v211) S64x2048.size (k0_off75_inb v211 k0_hw24)).WholeWords (EltTy.packing .bf16) := fun v211 k0_hw24 => k0_hw24.2.2.2.2 (k0_off75_inb v211 k0_hw24)

def k0_off76 (v231 : BitVec 32) : Fin 2 → Nat :=
  let c0_i32_205 : BitVec 32 := 0#32
  let v232 : BitVec 32 := Scalar.addi v231 c0_i32_205
  let v233 : BitVec 32 := v232
  let c0_i32_685 : BitVec 32 := 0#32
  ![v233.toNat, 0]

def k0_chk26 (v231 : BitVec 32) : Prop :=
  (64 ∣ (k0_mult23 v231).toNat) ∧
  (∀ a, (k0_off23 v231) a + S64x2048.size a ≤ S2048x2048.size a) ∧
  (∀ (hinb : ∀ a, (k0_off23 v231) a + S64x2048.size a ≤ S2048x2048.size a), (Rect.unit (s := S2048x2048) (k0_off23 v231) S64x2048.size hinb).WholeWords (EltTy.packing .bf16)) ∧
  (∀ a, (k0_off76 v231) a + S64x2048.size a ≤ S2048x2048.size a) ∧
  (∀ (hinb : ∀ a, (k0_off76 v231) a + S64x2048.size a ≤ S2048x2048.size a), (Rect.unit (s := S2048x2048) (k0_off76 v231) S64x2048.size hinb).WholeWords (EltTy.packing .bf16))
theorem k0_mult23_dvd : ∀ (v231 : BitVec 32) (k0_hw26 : k0_chk26 v231), 64 ∣ (k0_mult23 v231).toNat := fun v231 k0_hw26 => k0_hw26.1
theorem k0_off23_inb : ∀ (v231 : BitVec 32) (k0_hw26 : k0_chk26 v231), ∀ a, (k0_off23 v231) a + S64x2048.size a ≤ S2048x2048.size a := fun v231 k0_hw26 => k0_hw26.2.1
theorem k0_off23_wordsbf16 : ∀ (v231 : BitVec 32) (k0_hw26 : k0_chk26 v231), (Rect.unit (s := S2048x2048) (k0_off23 v231) S64x2048.size (k0_off23_inb v231 k0_hw26)).WholeWords (EltTy.packing .bf16) := fun v231 k0_hw26 => k0_hw26.2.2.1 (k0_off23_inb v231 k0_hw26)
theorem k0_off76_inb : ∀ (v231 : BitVec 32) (k0_hw26 : k0_chk26 v231), ∀ a, (k0_off76 v231) a + S64x2048.size a ≤ S2048x2048.size a := fun v231 k0_hw26 => k0_hw26.2.2.2.1
theorem k0_off76_wordsbf16 : ∀ (v231 : BitVec 32) (k0_hw26 : k0_chk26 v231), (Rect.unit (s := S2048x2048) (k0_off76 v231) S64x2048.size (k0_off76_inb v231 k0_hw26)).WholeWords (EltTy.packing .bf16) := fun v231 k0_hw26 => k0_hw26.2.2.2.2 (k0_off76_inb v231 k0_hw26)

def k0_off77 (v251 : BitVec 32) : Fin 2 → Nat :=
  let c0_i32_224 : BitVec 32 := 0#32
  let v252 : BitVec 32 := Scalar.addi v251 c0_i32_224
  let v253 : BitVec 32 := v252
  let c0_i32_692 : BitVec 32 := 0#32
  ![v253.toNat, 0]

def k0_chk28 (v251 : BitVec 32) : Prop :=
  (64 ∣ (k0_mult25 v251).toNat) ∧
  (∀ a, (k0_off25 v251) a + S64x2048.size a ≤ S2048x2048.size a) ∧
  (∀ (hinb : ∀ a, (k0_off25 v251) a + S64x2048.size a ≤ S2048x2048.size a), (Rect.unit (s := S2048x2048) (k0_off25 v251) S64x2048.size hinb).WholeWords (EltTy.packing .bf16)) ∧
  (∀ a, (k0_off77 v251) a + S64x2048.size a ≤ S2048x2048.size a) ∧
  (∀ (hinb : ∀ a, (k0_off77 v251) a + S64x2048.size a ≤ S2048x2048.size a), (Rect.unit (s := S2048x2048) (k0_off77 v251) S64x2048.size hinb).WholeWords (EltTy.packing .bf16))
theorem k0_mult25_dvd : ∀ (v251 : BitVec 32) (k0_hw28 : k0_chk28 v251), 64 ∣ (k0_mult25 v251).toNat := fun v251 k0_hw28 => k0_hw28.1
theorem k0_off25_inb : ∀ (v251 : BitVec 32) (k0_hw28 : k0_chk28 v251), ∀ a, (k0_off25 v251) a + S64x2048.size a ≤ S2048x2048.size a := fun v251 k0_hw28 => k0_hw28.2.1
theorem k0_off25_wordsbf16 : ∀ (v251 : BitVec 32) (k0_hw28 : k0_chk28 v251), (Rect.unit (s := S2048x2048) (k0_off25 v251) S64x2048.size (k0_off25_inb v251 k0_hw28)).WholeWords (EltTy.packing .bf16) := fun v251 k0_hw28 => k0_hw28.2.2.1 (k0_off25_inb v251 k0_hw28)
theorem k0_off77_inb : ∀ (v251 : BitVec 32) (k0_hw28 : k0_chk28 v251), ∀ a, (k0_off77 v251) a + S64x2048.size a ≤ S2048x2048.size a := fun v251 k0_hw28 => k0_hw28.2.2.2.1
theorem k0_off77_wordsbf16 : ∀ (v251 : BitVec 32) (k0_hw28 : k0_chk28 v251), (Rect.unit (s := S2048x2048) (k0_off77 v251) S64x2048.size (k0_off77_inb v251 k0_hw28)).WholeWords (EltTy.packing .bf16) := fun v251 k0_hw28 => k0_hw28.2.2.2.2 (k0_off77_inb v251 k0_hw28)

def k0_off78 (v271 : BitVec 32) : Fin 2 → Nat :=
  let c0_i32_243 : BitVec 32 := 0#32
  let v272 : BitVec 32 := Scalar.addi v271 c0_i32_243
  let v273 : BitVec 32 := v272
  let c0_i32_699 : BitVec 32 := 0#32
  ![v273.toNat, 0]

def k0_chk30 (v271 : BitVec 32) : Prop :=
  (64 ∣ (k0_mult27 v271).toNat) ∧
  (∀ a, (k0_off27 v271) a + S64x2048.size a ≤ S2048x2048.size a) ∧
  (∀ (hinb : ∀ a, (k0_off27 v271) a + S64x2048.size a ≤ S2048x2048.size a), (Rect.unit (s := S2048x2048) (k0_off27 v271) S64x2048.size hinb).WholeWords (EltTy.packing .bf16)) ∧
  (∀ a, (k0_off78 v271) a + S64x2048.size a ≤ S2048x2048.size a) ∧
  (∀ (hinb : ∀ a, (k0_off78 v271) a + S64x2048.size a ≤ S2048x2048.size a), (Rect.unit (s := S2048x2048) (k0_off78 v271) S64x2048.size hinb).WholeWords (EltTy.packing .bf16))
theorem k0_mult27_dvd : ∀ (v271 : BitVec 32) (k0_hw30 : k0_chk30 v271), 64 ∣ (k0_mult27 v271).toNat := fun v271 k0_hw30 => k0_hw30.1
theorem k0_off27_inb : ∀ (v271 : BitVec 32) (k0_hw30 : k0_chk30 v271), ∀ a, (k0_off27 v271) a + S64x2048.size a ≤ S2048x2048.size a := fun v271 k0_hw30 => k0_hw30.2.1
theorem k0_off27_wordsbf16 : ∀ (v271 : BitVec 32) (k0_hw30 : k0_chk30 v271), (Rect.unit (s := S2048x2048) (k0_off27 v271) S64x2048.size (k0_off27_inb v271 k0_hw30)).WholeWords (EltTy.packing .bf16) := fun v271 k0_hw30 => k0_hw30.2.2.1 (k0_off27_inb v271 k0_hw30)
theorem k0_off78_inb : ∀ (v271 : BitVec 32) (k0_hw30 : k0_chk30 v271), ∀ a, (k0_off78 v271) a + S64x2048.size a ≤ S2048x2048.size a := fun v271 k0_hw30 => k0_hw30.2.2.2.1
theorem k0_off78_wordsbf16 : ∀ (v271 : BitVec 32) (k0_hw30 : k0_chk30 v271), (Rect.unit (s := S2048x2048) (k0_off78 v271) S64x2048.size (k0_off78_inb v271 k0_hw30)).WholeWords (EltTy.packing .bf16) := fun v271 k0_hw30 => k0_hw30.2.2.2.2 (k0_off78_inb v271 k0_hw30)

def k0_off79 (v291 : BitVec 32) : Fin 2 → Nat :=
  let c0_i32_262 : BitVec 32 := 0#32
  let v292 : BitVec 32 := Scalar.addi v291 c0_i32_262
  let v293 : BitVec 32 := v292
  let c0_i32_706 : BitVec 32 := 0#32
  ![v293.toNat, 0]

def k0_chk32 (v291 : BitVec 32) : Prop :=
  (64 ∣ (k0_mult29 v291).toNat) ∧
  (∀ a, (k0_off29 v291) a + S64x2048.size a ≤ S2048x2048.size a) ∧
  (∀ (hinb : ∀ a, (k0_off29 v291) a + S64x2048.size a ≤ S2048x2048.size a), (Rect.unit (s := S2048x2048) (k0_off29 v291) S64x2048.size hinb).WholeWords (EltTy.packing .bf16)) ∧
  (∀ a, (k0_off79 v291) a + S64x2048.size a ≤ S2048x2048.size a) ∧
  (∀ (hinb : ∀ a, (k0_off79 v291) a + S64x2048.size a ≤ S2048x2048.size a), (Rect.unit (s := S2048x2048) (k0_off79 v291) S64x2048.size hinb).WholeWords (EltTy.packing .bf16))
theorem k0_mult29_dvd : ∀ (v291 : BitVec 32) (k0_hw32 : k0_chk32 v291), 64 ∣ (k0_mult29 v291).toNat := fun v291 k0_hw32 => k0_hw32.1
theorem k0_off29_inb : ∀ (v291 : BitVec 32) (k0_hw32 : k0_chk32 v291), ∀ a, (k0_off29 v291) a + S64x2048.size a ≤ S2048x2048.size a := fun v291 k0_hw32 => k0_hw32.2.1
theorem k0_off29_wordsbf16 : ∀ (v291 : BitVec 32) (k0_hw32 : k0_chk32 v291), (Rect.unit (s := S2048x2048) (k0_off29 v291) S64x2048.size (k0_off29_inb v291 k0_hw32)).WholeWords (EltTy.packing .bf16) := fun v291 k0_hw32 => k0_hw32.2.2.1 (k0_off29_inb v291 k0_hw32)
theorem k0_off79_inb : ∀ (v291 : BitVec 32) (k0_hw32 : k0_chk32 v291), ∀ a, (k0_off79 v291) a + S64x2048.size a ≤ S2048x2048.size a := fun v291 k0_hw32 => k0_hw32.2.2.2.1
theorem k0_off79_wordsbf16 : ∀ (v291 : BitVec 32) (k0_hw32 : k0_chk32 v291), (Rect.unit (s := S2048x2048) (k0_off79 v291) S64x2048.size (k0_off79_inb v291 k0_hw32)).WholeWords (EltTy.packing .bf16) := fun v291 k0_hw32 => k0_hw32.2.2.2.2 (k0_off79_inb v291 k0_hw32)

def k0_off80 (v311 : BitVec 32) : Fin 2 → Nat :=
  let c0_i32_280 : BitVec 32 := 0#32
  let v312 : BitVec 32 := Scalar.addi v311 c0_i32_280
  let v313 : BitVec 32 := v312
  let c0_i32_713 : BitVec 32 := 0#32
  ![v313.toNat, 0]

def k0_chk34 (v311 : BitVec 32) : Prop :=
  (64 ∣ (k0_mult31 v311).toNat) ∧
  (∀ a, (k0_off31 v311) a + S64x2048.size a ≤ S2048x2048.size a) ∧
  (∀ (hinb : ∀ a, (k0_off31 v311) a + S64x2048.size a ≤ S2048x2048.size a), (Rect.unit (s := S2048x2048) (k0_off31 v311) S64x2048.size hinb).WholeWords (EltTy.packing .bf16)) ∧
  (∀ a, (k0_off80 v311) a + S64x2048.size a ≤ S2048x2048.size a) ∧
  (∀ (hinb : ∀ a, (k0_off80 v311) a + S64x2048.size a ≤ S2048x2048.size a), (Rect.unit (s := S2048x2048) (k0_off80 v311) S64x2048.size hinb).WholeWords (EltTy.packing .bf16))
theorem k0_mult31_dvd : ∀ (v311 : BitVec 32) (k0_hw34 : k0_chk34 v311), 64 ∣ (k0_mult31 v311).toNat := fun v311 k0_hw34 => k0_hw34.1
theorem k0_off31_inb : ∀ (v311 : BitVec 32) (k0_hw34 : k0_chk34 v311), ∀ a, (k0_off31 v311) a + S64x2048.size a ≤ S2048x2048.size a := fun v311 k0_hw34 => k0_hw34.2.1
theorem k0_off31_wordsbf16 : ∀ (v311 : BitVec 32) (k0_hw34 : k0_chk34 v311), (Rect.unit (s := S2048x2048) (k0_off31 v311) S64x2048.size (k0_off31_inb v311 k0_hw34)).WholeWords (EltTy.packing .bf16) := fun v311 k0_hw34 => k0_hw34.2.2.1 (k0_off31_inb v311 k0_hw34)
theorem k0_off80_inb : ∀ (v311 : BitVec 32) (k0_hw34 : k0_chk34 v311), ∀ a, (k0_off80 v311) a + S64x2048.size a ≤ S2048x2048.size a := fun v311 k0_hw34 => k0_hw34.2.2.2.1
theorem k0_off80_wordsbf16 : ∀ (v311 : BitVec 32) (k0_hw34 : k0_chk34 v311), (Rect.unit (s := S2048x2048) (k0_off80 v311) S64x2048.size (k0_off80_inb v311 k0_hw34)).WholeWords (EltTy.packing .bf16) := fun v311 k0_hw34 => k0_hw34.2.2.2.2 (k0_off80_inb v311 k0_hw34)

def k0_off81 (v331 : BitVec 32) : Fin 2 → Nat :=
  let c0_i32_299 : BitVec 32 := 0#32
  let v332 : BitVec 32 := Scalar.addi v331 c0_i32_299
  let v333 : BitVec 32 := v332
  let c0_i32_720 : BitVec 32 := 0#32
  ![v333.toNat, 0]

def k0_chk36 (v331 : BitVec 32) : Prop :=
  (64 ∣ (k0_mult33 v331).toNat) ∧
  (∀ a, (k0_off33 v331) a + S64x2048.size a ≤ S2048x2048.size a) ∧
  (∀ (hinb : ∀ a, (k0_off33 v331) a + S64x2048.size a ≤ S2048x2048.size a), (Rect.unit (s := S2048x2048) (k0_off33 v331) S64x2048.size hinb).WholeWords (EltTy.packing .bf16)) ∧
  (∀ a, (k0_off81 v331) a + S64x2048.size a ≤ S2048x2048.size a) ∧
  (∀ (hinb : ∀ a, (k0_off81 v331) a + S64x2048.size a ≤ S2048x2048.size a), (Rect.unit (s := S2048x2048) (k0_off81 v331) S64x2048.size hinb).WholeWords (EltTy.packing .bf16))
theorem k0_mult33_dvd : ∀ (v331 : BitVec 32) (k0_hw36 : k0_chk36 v331), 64 ∣ (k0_mult33 v331).toNat := fun v331 k0_hw36 => k0_hw36.1
theorem k0_off33_inb : ∀ (v331 : BitVec 32) (k0_hw36 : k0_chk36 v331), ∀ a, (k0_off33 v331) a + S64x2048.size a ≤ S2048x2048.size a := fun v331 k0_hw36 => k0_hw36.2.1
theorem k0_off33_wordsbf16 : ∀ (v331 : BitVec 32) (k0_hw36 : k0_chk36 v331), (Rect.unit (s := S2048x2048) (k0_off33 v331) S64x2048.size (k0_off33_inb v331 k0_hw36)).WholeWords (EltTy.packing .bf16) := fun v331 k0_hw36 => k0_hw36.2.2.1 (k0_off33_inb v331 k0_hw36)
theorem k0_off81_inb : ∀ (v331 : BitVec 32) (k0_hw36 : k0_chk36 v331), ∀ a, (k0_off81 v331) a + S64x2048.size a ≤ S2048x2048.size a := fun v331 k0_hw36 => k0_hw36.2.2.2.1
theorem k0_off81_wordsbf16 : ∀ (v331 : BitVec 32) (k0_hw36 : k0_chk36 v331), (Rect.unit (s := S2048x2048) (k0_off81 v331) S64x2048.size (k0_off81_inb v331 k0_hw36)).WholeWords (EltTy.packing .bf16) := fun v331 k0_hw36 => k0_hw36.2.2.2.2 (k0_off81_inb v331 k0_hw36)

def k0_off82 (v351 : BitVec 32) : Fin 2 → Nat :=
  let c0_i32_318 : BitVec 32 := 0#32
  let v352 : BitVec 32 := Scalar.addi v351 c0_i32_318
  let v353 : BitVec 32 := v352
  let c0_i32_727 : BitVec 32 := 0#32
  ![v353.toNat, 0]

def k0_chk38 (v351 : BitVec 32) : Prop :=
  (64 ∣ (k0_mult35 v351).toNat) ∧
  (∀ a, (k0_off35 v351) a + S64x2048.size a ≤ S2048x2048.size a) ∧
  (∀ (hinb : ∀ a, (k0_off35 v351) a + S64x2048.size a ≤ S2048x2048.size a), (Rect.unit (s := S2048x2048) (k0_off35 v351) S64x2048.size hinb).WholeWords (EltTy.packing .bf16)) ∧
  (∀ a, (k0_off82 v351) a + S64x2048.size a ≤ S2048x2048.size a) ∧
  (∀ (hinb : ∀ a, (k0_off82 v351) a + S64x2048.size a ≤ S2048x2048.size a), (Rect.unit (s := S2048x2048) (k0_off82 v351) S64x2048.size hinb).WholeWords (EltTy.packing .bf16))
theorem k0_mult35_dvd : ∀ (v351 : BitVec 32) (k0_hw38 : k0_chk38 v351), 64 ∣ (k0_mult35 v351).toNat := fun v351 k0_hw38 => k0_hw38.1
theorem k0_off35_inb : ∀ (v351 : BitVec 32) (k0_hw38 : k0_chk38 v351), ∀ a, (k0_off35 v351) a + S64x2048.size a ≤ S2048x2048.size a := fun v351 k0_hw38 => k0_hw38.2.1
theorem k0_off35_wordsbf16 : ∀ (v351 : BitVec 32) (k0_hw38 : k0_chk38 v351), (Rect.unit (s := S2048x2048) (k0_off35 v351) S64x2048.size (k0_off35_inb v351 k0_hw38)).WholeWords (EltTy.packing .bf16) := fun v351 k0_hw38 => k0_hw38.2.2.1 (k0_off35_inb v351 k0_hw38)
theorem k0_off82_inb : ∀ (v351 : BitVec 32) (k0_hw38 : k0_chk38 v351), ∀ a, (k0_off82 v351) a + S64x2048.size a ≤ S2048x2048.size a := fun v351 k0_hw38 => k0_hw38.2.2.2.1
theorem k0_off82_wordsbf16 : ∀ (v351 : BitVec 32) (k0_hw38 : k0_chk38 v351), (Rect.unit (s := S2048x2048) (k0_off82 v351) S64x2048.size (k0_off82_inb v351 k0_hw38)).WholeWords (EltTy.packing .bf16) := fun v351 k0_hw38 => k0_hw38.2.2.2.2 (k0_off82_inb v351 k0_hw38)

def k0_off83 (v371 : BitVec 32) : Fin 2 → Nat :=
  let c0_i32_337 : BitVec 32 := 0#32
  let v372 : BitVec 32 := Scalar.addi v371 c0_i32_337
  let v373 : BitVec 32 := v372
  let c0_i32_734 : BitVec 32 := 0#32
  ![v373.toNat, 0]

def k0_chk40 (v371 : BitVec 32) : Prop :=
  (64 ∣ (k0_mult37 v371).toNat) ∧
  (∀ a, (k0_off37 v371) a + S64x2048.size a ≤ S2048x2048.size a) ∧
  (∀ (hinb : ∀ a, (k0_off37 v371) a + S64x2048.size a ≤ S2048x2048.size a), (Rect.unit (s := S2048x2048) (k0_off37 v371) S64x2048.size hinb).WholeWords (EltTy.packing .bf16)) ∧
  (∀ a, (k0_off83 v371) a + S64x2048.size a ≤ S2048x2048.size a) ∧
  (∀ (hinb : ∀ a, (k0_off83 v371) a + S64x2048.size a ≤ S2048x2048.size a), (Rect.unit (s := S2048x2048) (k0_off83 v371) S64x2048.size hinb).WholeWords (EltTy.packing .bf16))
theorem k0_mult37_dvd : ∀ (v371 : BitVec 32) (k0_hw40 : k0_chk40 v371), 64 ∣ (k0_mult37 v371).toNat := fun v371 k0_hw40 => k0_hw40.1
theorem k0_off37_inb : ∀ (v371 : BitVec 32) (k0_hw40 : k0_chk40 v371), ∀ a, (k0_off37 v371) a + S64x2048.size a ≤ S2048x2048.size a := fun v371 k0_hw40 => k0_hw40.2.1
theorem k0_off37_wordsbf16 : ∀ (v371 : BitVec 32) (k0_hw40 : k0_chk40 v371), (Rect.unit (s := S2048x2048) (k0_off37 v371) S64x2048.size (k0_off37_inb v371 k0_hw40)).WholeWords (EltTy.packing .bf16) := fun v371 k0_hw40 => k0_hw40.2.2.1 (k0_off37_inb v371 k0_hw40)
theorem k0_off83_inb : ∀ (v371 : BitVec 32) (k0_hw40 : k0_chk40 v371), ∀ a, (k0_off83 v371) a + S64x2048.size a ≤ S2048x2048.size a := fun v371 k0_hw40 => k0_hw40.2.2.2.1
theorem k0_off83_wordsbf16 : ∀ (v371 : BitVec 32) (k0_hw40 : k0_chk40 v371), (Rect.unit (s := S2048x2048) (k0_off83 v371) S64x2048.size (k0_off83_inb v371 k0_hw40)).WholeWords (EltTy.packing .bf16) := fun v371 k0_hw40 => k0_hw40.2.2.2.2 (k0_off83_inb v371 k0_hw40)

def k0_off84 (v391 : BitVec 32) : Fin 2 → Nat :=
  let c0_i32_355 : BitVec 32 := 0#32
  let v392 : BitVec 32 := Scalar.addi v391 c0_i32_355
  let v393 : BitVec 32 := v392
  let c0_i32_741 : BitVec 32 := 0#32
  ![v393.toNat, 0]

def k0_chk42 (v391 : BitVec 32) : Prop :=
  (64 ∣ (k0_mult39 v391).toNat) ∧
  (∀ a, (k0_off39 v391) a + S64x2048.size a ≤ S2048x2048.size a) ∧
  (∀ (hinb : ∀ a, (k0_off39 v391) a + S64x2048.size a ≤ S2048x2048.size a), (Rect.unit (s := S2048x2048) (k0_off39 v391) S64x2048.size hinb).WholeWords (EltTy.packing .bf16)) ∧
  (∀ a, (k0_off84 v391) a + S64x2048.size a ≤ S2048x2048.size a) ∧
  (∀ (hinb : ∀ a, (k0_off84 v391) a + S64x2048.size a ≤ S2048x2048.size a), (Rect.unit (s := S2048x2048) (k0_off84 v391) S64x2048.size hinb).WholeWords (EltTy.packing .bf16))
theorem k0_mult39_dvd : ∀ (v391 : BitVec 32) (k0_hw42 : k0_chk42 v391), 64 ∣ (k0_mult39 v391).toNat := fun v391 k0_hw42 => k0_hw42.1
theorem k0_off39_inb : ∀ (v391 : BitVec 32) (k0_hw42 : k0_chk42 v391), ∀ a, (k0_off39 v391) a + S64x2048.size a ≤ S2048x2048.size a := fun v391 k0_hw42 => k0_hw42.2.1
theorem k0_off39_wordsbf16 : ∀ (v391 : BitVec 32) (k0_hw42 : k0_chk42 v391), (Rect.unit (s := S2048x2048) (k0_off39 v391) S64x2048.size (k0_off39_inb v391 k0_hw42)).WholeWords (EltTy.packing .bf16) := fun v391 k0_hw42 => k0_hw42.2.2.1 (k0_off39_inb v391 k0_hw42)
theorem k0_off84_inb : ∀ (v391 : BitVec 32) (k0_hw42 : k0_chk42 v391), ∀ a, (k0_off84 v391) a + S64x2048.size a ≤ S2048x2048.size a := fun v391 k0_hw42 => k0_hw42.2.2.2.1
theorem k0_off84_wordsbf16 : ∀ (v391 : BitVec 32) (k0_hw42 : k0_chk42 v391), (Rect.unit (s := S2048x2048) (k0_off84 v391) S64x2048.size (k0_off84_inb v391 k0_hw42)).WholeWords (EltTy.packing .bf16) := fun v391 k0_hw42 => k0_hw42.2.2.2.2 (k0_off84_inb v391 k0_hw42)

def k0_off85 (v411 : BitVec 32) : Fin 2 → Nat :=
  let c0_i32_374 : BitVec 32 := 0#32
  let v412 : BitVec 32 := Scalar.addi v411 c0_i32_374
  let v413 : BitVec 32 := v412
  let c0_i32_748 : BitVec 32 := 0#32
  ![v413.toNat, 0]

def k0_chk44 (v411 : BitVec 32) : Prop :=
  (64 ∣ (k0_mult41 v411).toNat) ∧
  (∀ a, (k0_off41 v411) a + S64x2048.size a ≤ S2048x2048.size a) ∧
  (∀ (hinb : ∀ a, (k0_off41 v411) a + S64x2048.size a ≤ S2048x2048.size a), (Rect.unit (s := S2048x2048) (k0_off41 v411) S64x2048.size hinb).WholeWords (EltTy.packing .bf16)) ∧
  (∀ a, (k0_off85 v411) a + S64x2048.size a ≤ S2048x2048.size a) ∧
  (∀ (hinb : ∀ a, (k0_off85 v411) a + S64x2048.size a ≤ S2048x2048.size a), (Rect.unit (s := S2048x2048) (k0_off85 v411) S64x2048.size hinb).WholeWords (EltTy.packing .bf16))
theorem k0_mult41_dvd : ∀ (v411 : BitVec 32) (k0_hw44 : k0_chk44 v411), 64 ∣ (k0_mult41 v411).toNat := fun v411 k0_hw44 => k0_hw44.1
theorem k0_off41_inb : ∀ (v411 : BitVec 32) (k0_hw44 : k0_chk44 v411), ∀ a, (k0_off41 v411) a + S64x2048.size a ≤ S2048x2048.size a := fun v411 k0_hw44 => k0_hw44.2.1
theorem k0_off41_wordsbf16 : ∀ (v411 : BitVec 32) (k0_hw44 : k0_chk44 v411), (Rect.unit (s := S2048x2048) (k0_off41 v411) S64x2048.size (k0_off41_inb v411 k0_hw44)).WholeWords (EltTy.packing .bf16) := fun v411 k0_hw44 => k0_hw44.2.2.1 (k0_off41_inb v411 k0_hw44)
theorem k0_off85_inb : ∀ (v411 : BitVec 32) (k0_hw44 : k0_chk44 v411), ∀ a, (k0_off85 v411) a + S64x2048.size a ≤ S2048x2048.size a := fun v411 k0_hw44 => k0_hw44.2.2.2.1
theorem k0_off85_wordsbf16 : ∀ (v411 : BitVec 32) (k0_hw44 : k0_chk44 v411), (Rect.unit (s := S2048x2048) (k0_off85 v411) S64x2048.size (k0_off85_inb v411 k0_hw44)).WholeWords (EltTy.packing .bf16) := fun v411 k0_hw44 => k0_hw44.2.2.2.2 (k0_off85_inb v411 k0_hw44)

def k0_off86 (v431 : BitVec 32) : Fin 2 → Nat :=
  let c0_i32_393 : BitVec 32 := 0#32
  let v432 : BitVec 32 := Scalar.addi v431 c0_i32_393
  let v433 : BitVec 32 := v432
  let c0_i32_755 : BitVec 32 := 0#32
  ![v433.toNat, 0]

def k0_chk46 (v431 : BitVec 32) : Prop :=
  (64 ∣ (k0_mult43 v431).toNat) ∧
  (∀ a, (k0_off43 v431) a + S64x2048.size a ≤ S2048x2048.size a) ∧
  (∀ (hinb : ∀ a, (k0_off43 v431) a + S64x2048.size a ≤ S2048x2048.size a), (Rect.unit (s := S2048x2048) (k0_off43 v431) S64x2048.size hinb).WholeWords (EltTy.packing .bf16)) ∧
  (∀ a, (k0_off86 v431) a + S64x2048.size a ≤ S2048x2048.size a) ∧
  (∀ (hinb : ∀ a, (k0_off86 v431) a + S64x2048.size a ≤ S2048x2048.size a), (Rect.unit (s := S2048x2048) (k0_off86 v431) S64x2048.size hinb).WholeWords (EltTy.packing .bf16))
theorem k0_mult43_dvd : ∀ (v431 : BitVec 32) (k0_hw46 : k0_chk46 v431), 64 ∣ (k0_mult43 v431).toNat := fun v431 k0_hw46 => k0_hw46.1
theorem k0_off43_inb : ∀ (v431 : BitVec 32) (k0_hw46 : k0_chk46 v431), ∀ a, (k0_off43 v431) a + S64x2048.size a ≤ S2048x2048.size a := fun v431 k0_hw46 => k0_hw46.2.1
theorem k0_off43_wordsbf16 : ∀ (v431 : BitVec 32) (k0_hw46 : k0_chk46 v431), (Rect.unit (s := S2048x2048) (k0_off43 v431) S64x2048.size (k0_off43_inb v431 k0_hw46)).WholeWords (EltTy.packing .bf16) := fun v431 k0_hw46 => k0_hw46.2.2.1 (k0_off43_inb v431 k0_hw46)
theorem k0_off86_inb : ∀ (v431 : BitVec 32) (k0_hw46 : k0_chk46 v431), ∀ a, (k0_off86 v431) a + S64x2048.size a ≤ S2048x2048.size a := fun v431 k0_hw46 => k0_hw46.2.2.2.1
theorem k0_off86_wordsbf16 : ∀ (v431 : BitVec 32) (k0_hw46 : k0_chk46 v431), (Rect.unit (s := S2048x2048) (k0_off86 v431) S64x2048.size (k0_off86_inb v431 k0_hw46)).WholeWords (EltTy.packing .bf16) := fun v431 k0_hw46 => k0_hw46.2.2.2.2 (k0_off86_inb v431 k0_hw46)

def k0_off87 (v451 : BitVec 32) : Fin 2 → Nat :=
  let c0_i32_412 : BitVec 32 := 0#32
  let v452 : BitVec 32 := Scalar.addi v451 c0_i32_412
  let v453 : BitVec 32 := v452
  let c0_i32_762 : BitVec 32 := 0#32
  ![v453.toNat, 0]

def k0_chk48 (v451 : BitVec 32) : Prop :=
  (64 ∣ (k0_mult45 v451).toNat) ∧
  (∀ a, (k0_off45 v451) a + S64x2048.size a ≤ S2048x2048.size a) ∧
  (∀ (hinb : ∀ a, (k0_off45 v451) a + S64x2048.size a ≤ S2048x2048.size a), (Rect.unit (s := S2048x2048) (k0_off45 v451) S64x2048.size hinb).WholeWords (EltTy.packing .bf16)) ∧
  (∀ a, (k0_off87 v451) a + S64x2048.size a ≤ S2048x2048.size a) ∧
  (∀ (hinb : ∀ a, (k0_off87 v451) a + S64x2048.size a ≤ S2048x2048.size a), (Rect.unit (s := S2048x2048) (k0_off87 v451) S64x2048.size hinb).WholeWords (EltTy.packing .bf16))
theorem k0_mult45_dvd : ∀ (v451 : BitVec 32) (k0_hw48 : k0_chk48 v451), 64 ∣ (k0_mult45 v451).toNat := fun v451 k0_hw48 => k0_hw48.1
theorem k0_off45_inb : ∀ (v451 : BitVec 32) (k0_hw48 : k0_chk48 v451), ∀ a, (k0_off45 v451) a + S64x2048.size a ≤ S2048x2048.size a := fun v451 k0_hw48 => k0_hw48.2.1
theorem k0_off45_wordsbf16 : ∀ (v451 : BitVec 32) (k0_hw48 : k0_chk48 v451), (Rect.unit (s := S2048x2048) (k0_off45 v451) S64x2048.size (k0_off45_inb v451 k0_hw48)).WholeWords (EltTy.packing .bf16) := fun v451 k0_hw48 => k0_hw48.2.2.1 (k0_off45_inb v451 k0_hw48)
theorem k0_off87_inb : ∀ (v451 : BitVec 32) (k0_hw48 : k0_chk48 v451), ∀ a, (k0_off87 v451) a + S64x2048.size a ≤ S2048x2048.size a := fun v451 k0_hw48 => k0_hw48.2.2.2.1
theorem k0_off87_wordsbf16 : ∀ (v451 : BitVec 32) (k0_hw48 : k0_chk48 v451), (Rect.unit (s := S2048x2048) (k0_off87 v451) S64x2048.size (k0_off87_inb v451 k0_hw48)).WholeWords (EltTy.packing .bf16) := fun v451 k0_hw48 => k0_hw48.2.2.2.2 (k0_off87_inb v451 k0_hw48)

def k0_off88 (v471 : BitVec 32) : Fin 2 → Nat :=
  let c0_i32_430 : BitVec 32 := 0#32
  let v472 : BitVec 32 := Scalar.addi v471 c0_i32_430
  let v473 : BitVec 32 := v472
  let c0_i32_769 : BitVec 32 := 0#32
  ![v473.toNat, 0]

def k0_chk50 (v471 : BitVec 32) : Prop :=
  (64 ∣ (k0_mult47 v471).toNat) ∧
  (∀ a, (k0_off47 v471) a + S64x2048.size a ≤ S2048x2048.size a) ∧
  (∀ (hinb : ∀ a, (k0_off47 v471) a + S64x2048.size a ≤ S2048x2048.size a), (Rect.unit (s := S2048x2048) (k0_off47 v471) S64x2048.size hinb).WholeWords (EltTy.packing .bf16)) ∧
  (∀ a, (k0_off88 v471) a + S64x2048.size a ≤ S2048x2048.size a) ∧
  (∀ (hinb : ∀ a, (k0_off88 v471) a + S64x2048.size a ≤ S2048x2048.size a), (Rect.unit (s := S2048x2048) (k0_off88 v471) S64x2048.size hinb).WholeWords (EltTy.packing .bf16))
theorem k0_mult47_dvd : ∀ (v471 : BitVec 32) (k0_hw50 : k0_chk50 v471), 64 ∣ (k0_mult47 v471).toNat := fun v471 k0_hw50 => k0_hw50.1
theorem k0_off47_inb : ∀ (v471 : BitVec 32) (k0_hw50 : k0_chk50 v471), ∀ a, (k0_off47 v471) a + S64x2048.size a ≤ S2048x2048.size a := fun v471 k0_hw50 => k0_hw50.2.1
theorem k0_off47_wordsbf16 : ∀ (v471 : BitVec 32) (k0_hw50 : k0_chk50 v471), (Rect.unit (s := S2048x2048) (k0_off47 v471) S64x2048.size (k0_off47_inb v471 k0_hw50)).WholeWords (EltTy.packing .bf16) := fun v471 k0_hw50 => k0_hw50.2.2.1 (k0_off47_inb v471 k0_hw50)
theorem k0_off88_inb : ∀ (v471 : BitVec 32) (k0_hw50 : k0_chk50 v471), ∀ a, (k0_off88 v471) a + S64x2048.size a ≤ S2048x2048.size a := fun v471 k0_hw50 => k0_hw50.2.2.2.1
theorem k0_off88_wordsbf16 : ∀ (v471 : BitVec 32) (k0_hw50 : k0_chk50 v471), (Rect.unit (s := S2048x2048) (k0_off88 v471) S64x2048.size (k0_off88_inb v471 k0_hw50)).WholeWords (EltTy.packing .bf16) := fun v471 k0_hw50 => k0_hw50.2.2.2.2 (k0_off88_inb v471 k0_hw50)

def k0_off89 (v491 : BitVec 32) : Fin 2 → Nat :=
  let c0_i32_449 : BitVec 32 := 0#32
  let v492 : BitVec 32 := Scalar.addi v491 c0_i32_449
  let v493 : BitVec 32 := v492
  let c0_i32_776 : BitVec 32 := 0#32
  ![v493.toNat, 0]

def k0_chk52 (v491 : BitVec 32) : Prop :=
  (64 ∣ (k0_mult49 v491).toNat) ∧
  (∀ a, (k0_off49 v491) a + S64x2048.size a ≤ S2048x2048.size a) ∧
  (∀ (hinb : ∀ a, (k0_off49 v491) a + S64x2048.size a ≤ S2048x2048.size a), (Rect.unit (s := S2048x2048) (k0_off49 v491) S64x2048.size hinb).WholeWords (EltTy.packing .bf16)) ∧
  (∀ a, (k0_off89 v491) a + S64x2048.size a ≤ S2048x2048.size a) ∧
  (∀ (hinb : ∀ a, (k0_off89 v491) a + S64x2048.size a ≤ S2048x2048.size a), (Rect.unit (s := S2048x2048) (k0_off89 v491) S64x2048.size hinb).WholeWords (EltTy.packing .bf16))
theorem k0_mult49_dvd : ∀ (v491 : BitVec 32) (k0_hw52 : k0_chk52 v491), 64 ∣ (k0_mult49 v491).toNat := fun v491 k0_hw52 => k0_hw52.1
theorem k0_off49_inb : ∀ (v491 : BitVec 32) (k0_hw52 : k0_chk52 v491), ∀ a, (k0_off49 v491) a + S64x2048.size a ≤ S2048x2048.size a := fun v491 k0_hw52 => k0_hw52.2.1
theorem k0_off49_wordsbf16 : ∀ (v491 : BitVec 32) (k0_hw52 : k0_chk52 v491), (Rect.unit (s := S2048x2048) (k0_off49 v491) S64x2048.size (k0_off49_inb v491 k0_hw52)).WholeWords (EltTy.packing .bf16) := fun v491 k0_hw52 => k0_hw52.2.2.1 (k0_off49_inb v491 k0_hw52)
theorem k0_off89_inb : ∀ (v491 : BitVec 32) (k0_hw52 : k0_chk52 v491), ∀ a, (k0_off89 v491) a + S64x2048.size a ≤ S2048x2048.size a := fun v491 k0_hw52 => k0_hw52.2.2.2.1
theorem k0_off89_wordsbf16 : ∀ (v491 : BitVec 32) (k0_hw52 : k0_chk52 v491), (Rect.unit (s := S2048x2048) (k0_off89 v491) S64x2048.size (k0_off89_inb v491 k0_hw52)).WholeWords (EltTy.packing .bf16) := fun v491 k0_hw52 => k0_hw52.2.2.2.2 (k0_off89_inb v491 k0_hw52)

def k0_off90 (v511 : BitVec 32) : Fin 2 → Nat :=
  let c0_i32_468 : BitVec 32 := 0#32
  let v512 : BitVec 32 := Scalar.addi v511 c0_i32_468
  let v513 : BitVec 32 := v512
  let c0_i32_783 : BitVec 32 := 0#32
  ![v513.toNat, 0]

def k0_chk54 (v511 : BitVec 32) : Prop :=
  (64 ∣ (k0_mult51 v511).toNat) ∧
  (∀ a, (k0_off51 v511) a + S64x2048.size a ≤ S2048x2048.size a) ∧
  (∀ (hinb : ∀ a, (k0_off51 v511) a + S64x2048.size a ≤ S2048x2048.size a), (Rect.unit (s := S2048x2048) (k0_off51 v511) S64x2048.size hinb).WholeWords (EltTy.packing .bf16)) ∧
  (∀ a, (k0_off90 v511) a + S64x2048.size a ≤ S2048x2048.size a) ∧
  (∀ (hinb : ∀ a, (k0_off90 v511) a + S64x2048.size a ≤ S2048x2048.size a), (Rect.unit (s := S2048x2048) (k0_off90 v511) S64x2048.size hinb).WholeWords (EltTy.packing .bf16))
theorem k0_mult51_dvd : ∀ (v511 : BitVec 32) (k0_hw54 : k0_chk54 v511), 64 ∣ (k0_mult51 v511).toNat := fun v511 k0_hw54 => k0_hw54.1
theorem k0_off51_inb : ∀ (v511 : BitVec 32) (k0_hw54 : k0_chk54 v511), ∀ a, (k0_off51 v511) a + S64x2048.size a ≤ S2048x2048.size a := fun v511 k0_hw54 => k0_hw54.2.1
theorem k0_off51_wordsbf16 : ∀ (v511 : BitVec 32) (k0_hw54 : k0_chk54 v511), (Rect.unit (s := S2048x2048) (k0_off51 v511) S64x2048.size (k0_off51_inb v511 k0_hw54)).WholeWords (EltTy.packing .bf16) := fun v511 k0_hw54 => k0_hw54.2.2.1 (k0_off51_inb v511 k0_hw54)
theorem k0_off90_inb : ∀ (v511 : BitVec 32) (k0_hw54 : k0_chk54 v511), ∀ a, (k0_off90 v511) a + S64x2048.size a ≤ S2048x2048.size a := fun v511 k0_hw54 => k0_hw54.2.2.2.1
theorem k0_off90_wordsbf16 : ∀ (v511 : BitVec 32) (k0_hw54 : k0_chk54 v511), (Rect.unit (s := S2048x2048) (k0_off90 v511) S64x2048.size (k0_off90_inb v511 k0_hw54)).WholeWords (EltTy.packing .bf16) := fun v511 k0_hw54 => k0_hw54.2.2.2.2 (k0_off90_inb v511 k0_hw54)

def k0_off91 (v531 : BitVec 32) : Fin 2 → Nat :=
  let c0_i32_487 : BitVec 32 := 0#32
  let v532 : BitVec 32 := Scalar.addi v531 c0_i32_487
  let v533 : BitVec 32 := v532
  let c0_i32_790 : BitVec 32 := 0#32
  ![v533.toNat, 0]

def k0_chk56 (v531 : BitVec 32) : Prop :=
  (64 ∣ (k0_mult53 v531).toNat) ∧
  (∀ a, (k0_off53 v531) a + S64x2048.size a ≤ S2048x2048.size a) ∧
  (∀ (hinb : ∀ a, (k0_off53 v531) a + S64x2048.size a ≤ S2048x2048.size a), (Rect.unit (s := S2048x2048) (k0_off53 v531) S64x2048.size hinb).WholeWords (EltTy.packing .bf16)) ∧
  (∀ a, (k0_off91 v531) a + S64x2048.size a ≤ S2048x2048.size a) ∧
  (∀ (hinb : ∀ a, (k0_off91 v531) a + S64x2048.size a ≤ S2048x2048.size a), (Rect.unit (s := S2048x2048) (k0_off91 v531) S64x2048.size hinb).WholeWords (EltTy.packing .bf16))
theorem k0_mult53_dvd : ∀ (v531 : BitVec 32) (k0_hw56 : k0_chk56 v531), 64 ∣ (k0_mult53 v531).toNat := fun v531 k0_hw56 => k0_hw56.1
theorem k0_off53_inb : ∀ (v531 : BitVec 32) (k0_hw56 : k0_chk56 v531), ∀ a, (k0_off53 v531) a + S64x2048.size a ≤ S2048x2048.size a := fun v531 k0_hw56 => k0_hw56.2.1
theorem k0_off53_wordsbf16 : ∀ (v531 : BitVec 32) (k0_hw56 : k0_chk56 v531), (Rect.unit (s := S2048x2048) (k0_off53 v531) S64x2048.size (k0_off53_inb v531 k0_hw56)).WholeWords (EltTy.packing .bf16) := fun v531 k0_hw56 => k0_hw56.2.2.1 (k0_off53_inb v531 k0_hw56)
theorem k0_off91_inb : ∀ (v531 : BitVec 32) (k0_hw56 : k0_chk56 v531), ∀ a, (k0_off91 v531) a + S64x2048.size a ≤ S2048x2048.size a := fun v531 k0_hw56 => k0_hw56.2.2.2.1
theorem k0_off91_wordsbf16 : ∀ (v531 : BitVec 32) (k0_hw56 : k0_chk56 v531), (Rect.unit (s := S2048x2048) (k0_off91 v531) S64x2048.size (k0_off91_inb v531 k0_hw56)).WholeWords (EltTy.packing .bf16) := fun v531 k0_hw56 => k0_hw56.2.2.2.2 (k0_off91_inb v531 k0_hw56)

def k0_off92 (v551 : BitVec 32) : Fin 2 → Nat :=
  let c0_i32_505 : BitVec 32 := 0#32
  let v552 : BitVec 32 := Scalar.addi v551 c0_i32_505
  let v553 : BitVec 32 := v552
  let c0_i32_797 : BitVec 32 := 0#32
  ![v553.toNat, 0]

def k0_chk58 (v551 : BitVec 32) : Prop :=
  (64 ∣ (k0_mult55 v551).toNat) ∧
  (∀ a, (k0_off55 v551) a + S64x2048.size a ≤ S2048x2048.size a) ∧
  (∀ (hinb : ∀ a, (k0_off55 v551) a + S64x2048.size a ≤ S2048x2048.size a), (Rect.unit (s := S2048x2048) (k0_off55 v551) S64x2048.size hinb).WholeWords (EltTy.packing .bf16)) ∧
  (∀ a, (k0_off92 v551) a + S64x2048.size a ≤ S2048x2048.size a) ∧
  (∀ (hinb : ∀ a, (k0_off92 v551) a + S64x2048.size a ≤ S2048x2048.size a), (Rect.unit (s := S2048x2048) (k0_off92 v551) S64x2048.size hinb).WholeWords (EltTy.packing .bf16))
theorem k0_mult55_dvd : ∀ (v551 : BitVec 32) (k0_hw58 : k0_chk58 v551), 64 ∣ (k0_mult55 v551).toNat := fun v551 k0_hw58 => k0_hw58.1
theorem k0_off55_inb : ∀ (v551 : BitVec 32) (k0_hw58 : k0_chk58 v551), ∀ a, (k0_off55 v551) a + S64x2048.size a ≤ S2048x2048.size a := fun v551 k0_hw58 => k0_hw58.2.1
theorem k0_off55_wordsbf16 : ∀ (v551 : BitVec 32) (k0_hw58 : k0_chk58 v551), (Rect.unit (s := S2048x2048) (k0_off55 v551) S64x2048.size (k0_off55_inb v551 k0_hw58)).WholeWords (EltTy.packing .bf16) := fun v551 k0_hw58 => k0_hw58.2.2.1 (k0_off55_inb v551 k0_hw58)
theorem k0_off92_inb : ∀ (v551 : BitVec 32) (k0_hw58 : k0_chk58 v551), ∀ a, (k0_off92 v551) a + S64x2048.size a ≤ S2048x2048.size a := fun v551 k0_hw58 => k0_hw58.2.2.2.1
theorem k0_off92_wordsbf16 : ∀ (v551 : BitVec 32) (k0_hw58 : k0_chk58 v551), (Rect.unit (s := S2048x2048) (k0_off92 v551) S64x2048.size (k0_off92_inb v551 k0_hw58)).WholeWords (EltTy.packing .bf16) := fun v551 k0_hw58 => k0_hw58.2.2.2.2 (k0_off92_inb v551 k0_hw58)

def k0_off93 (v571 : BitVec 32) : Fin 2 → Nat :=
  let c0_i32_524 : BitVec 32 := 0#32
  let v572 : BitVec 32 := Scalar.addi v571 c0_i32_524
  let v573 : BitVec 32 := v572
  let c0_i32_804 : BitVec 32 := 0#32
  ![v573.toNat, 0]

def k0_chk60 (v571 : BitVec 32) : Prop :=
  (64 ∣ (k0_mult57 v571).toNat) ∧
  (∀ a, (k0_off57 v571) a + S64x2048.size a ≤ S2048x2048.size a) ∧
  (∀ (hinb : ∀ a, (k0_off57 v571) a + S64x2048.size a ≤ S2048x2048.size a), (Rect.unit (s := S2048x2048) (k0_off57 v571) S64x2048.size hinb).WholeWords (EltTy.packing .bf16)) ∧
  (∀ a, (k0_off93 v571) a + S64x2048.size a ≤ S2048x2048.size a) ∧
  (∀ (hinb : ∀ a, (k0_off93 v571) a + S64x2048.size a ≤ S2048x2048.size a), (Rect.unit (s := S2048x2048) (k0_off93 v571) S64x2048.size hinb).WholeWords (EltTy.packing .bf16))
theorem k0_mult57_dvd : ∀ (v571 : BitVec 32) (k0_hw60 : k0_chk60 v571), 64 ∣ (k0_mult57 v571).toNat := fun v571 k0_hw60 => k0_hw60.1
theorem k0_off57_inb : ∀ (v571 : BitVec 32) (k0_hw60 : k0_chk60 v571), ∀ a, (k0_off57 v571) a + S64x2048.size a ≤ S2048x2048.size a := fun v571 k0_hw60 => k0_hw60.2.1
theorem k0_off57_wordsbf16 : ∀ (v571 : BitVec 32) (k0_hw60 : k0_chk60 v571), (Rect.unit (s := S2048x2048) (k0_off57 v571) S64x2048.size (k0_off57_inb v571 k0_hw60)).WholeWords (EltTy.packing .bf16) := fun v571 k0_hw60 => k0_hw60.2.2.1 (k0_off57_inb v571 k0_hw60)
theorem k0_off93_inb : ∀ (v571 : BitVec 32) (k0_hw60 : k0_chk60 v571), ∀ a, (k0_off93 v571) a + S64x2048.size a ≤ S2048x2048.size a := fun v571 k0_hw60 => k0_hw60.2.2.2.1
theorem k0_off93_wordsbf16 : ∀ (v571 : BitVec 32) (k0_hw60 : k0_chk60 v571), (Rect.unit (s := S2048x2048) (k0_off93 v571) S64x2048.size (k0_off93_inb v571 k0_hw60)).WholeWords (EltTy.packing .bf16) := fun v571 k0_hw60 => k0_hw60.2.2.2.2 (k0_off93_inb v571 k0_hw60)

def k0_off94 (v591 : BitVec 32) : Fin 2 → Nat :=
  let c0_i32_543 : BitVec 32 := 0#32
  let v592 : BitVec 32 := Scalar.addi v591 c0_i32_543
  let v593 : BitVec 32 := v592
  let c0_i32_811 : BitVec 32 := 0#32
  ![v593.toNat, 0]

def k0_chk62 (v591 : BitVec 32) : Prop :=
  (64 ∣ (k0_mult59 v591).toNat) ∧
  (∀ a, (k0_off59 v591) a + S64x2048.size a ≤ S2048x2048.size a) ∧
  (∀ (hinb : ∀ a, (k0_off59 v591) a + S64x2048.size a ≤ S2048x2048.size a), (Rect.unit (s := S2048x2048) (k0_off59 v591) S64x2048.size hinb).WholeWords (EltTy.packing .bf16)) ∧
  (∀ a, (k0_off94 v591) a + S64x2048.size a ≤ S2048x2048.size a) ∧
  (∀ (hinb : ∀ a, (k0_off94 v591) a + S64x2048.size a ≤ S2048x2048.size a), (Rect.unit (s := S2048x2048) (k0_off94 v591) S64x2048.size hinb).WholeWords (EltTy.packing .bf16))
theorem k0_mult59_dvd : ∀ (v591 : BitVec 32) (k0_hw62 : k0_chk62 v591), 64 ∣ (k0_mult59 v591).toNat := fun v591 k0_hw62 => k0_hw62.1
theorem k0_off59_inb : ∀ (v591 : BitVec 32) (k0_hw62 : k0_chk62 v591), ∀ a, (k0_off59 v591) a + S64x2048.size a ≤ S2048x2048.size a := fun v591 k0_hw62 => k0_hw62.2.1
theorem k0_off59_wordsbf16 : ∀ (v591 : BitVec 32) (k0_hw62 : k0_chk62 v591), (Rect.unit (s := S2048x2048) (k0_off59 v591) S64x2048.size (k0_off59_inb v591 k0_hw62)).WholeWords (EltTy.packing .bf16) := fun v591 k0_hw62 => k0_hw62.2.2.1 (k0_off59_inb v591 k0_hw62)
theorem k0_off94_inb : ∀ (v591 : BitVec 32) (k0_hw62 : k0_chk62 v591), ∀ a, (k0_off94 v591) a + S64x2048.size a ≤ S2048x2048.size a := fun v591 k0_hw62 => k0_hw62.2.2.2.1
theorem k0_off94_wordsbf16 : ∀ (v591 : BitVec 32) (k0_hw62 : k0_chk62 v591), (Rect.unit (s := S2048x2048) (k0_off94 v591) S64x2048.size (k0_off94_inb v591 k0_hw62)).WholeWords (EltTy.packing .bf16) := fun v591 k0_hw62 => k0_hw62.2.2.2.2 (k0_off94_inb v591 k0_hw62)

abbrev stage0_0 : Fin 1 → Memref sig .tc .vmem S64x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S37 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Ring.lean ====
/-
  The ring of 32 devices and the table of its transfers, apart from any program.

  The devices stand on a cycle: `perm p` is the device at place `p`, `cpos d` the place of device `d`, and `sh c o` the
  device `o` places after device `c`. Every device issues the same 31 transfers, in the same order; transfer `k` at device
  `c` carries the rows of device `sh c (srcOff k)` to device `sh c (dstOff k)`, into the same rows there. So on transfer `k`
  device `c` receives the rows of device `sh c (rcvOff k)`.
-/
module

public import Idealize.ShloMosaic.PureOps
public import Mathlib.Algebra.Group.Fin.Basic

@[expose] public section

set_option maxRecDepth 16384

namespace Cert.Ring

/-- The device at each place of the cycle. -/
def perm : Fin 32 → Fin 32 := ![0, 3, 4, 7, 15, 12, 11, 8, 16, 19, 20, 23, 31, 28, 27, 24, 25, 26, 29, 30, 22, 21, 18, 17, 9, 10, 13, 14, 6, 5, 2, 1]
/-- The place of each device on the cycle. -/
def cpos : Fin 32 → Fin 32 := ![0, 31, 30, 1, 2, 29, 28, 3, 7, 24, 25, 6, 5, 26, 27, 4, 8, 23, 22, 9, 10, 21, 20, 11, 15, 16, 17, 14, 13, 18, 19, 12]

theorem perm_cpos (c : Fin 32) : perm (cpos c) = c := by revert c; decide
theorem cpos_perm (p : Fin 32) : cpos (perm p) = p := by revert p; decide

/-- The device `o` places after `c`. -/
def sh (c o : Fin 32) : Fin 32 := perm (cpos c + o)

theorem sh_sh (c a b : Fin 32) : sh (sh c a) b = sh c (a + b) := by unfold sh; rw [cpos_perm, add_assoc]
theorem sh_zero (c : Fin 32) : sh c 0 = c := by unfold sh; rw [add_zero, perm_cpos]
theorem sh_inj (c a b : Fin 32) (h : sh c a = sh c b) : a = b := by
  have h' := congrArg cpos h
  unfold sh at h'
  rw [cpos_perm, cpos_perm] at h'
  exact add_left_cancel h'
theorem sh_back (c o : Fin 32) : sh (sh c o) (-o) = c := by rw [sh_sh, add_neg_cancel, sh_zero]
theorem sh_fwd (c o : Fin 32) : sh (sh c (-o)) o = c := by rw [sh_sh, neg_add_cancel, sh_zero]

/-- Going `o` places on, as a bijection of the devices. -/
def shift (o : Fin 32) : Fin 32 ≃ Fin 32 := ⟨fun c => sh c o, fun c => sh c (-o), fun c => sh_back c o, fun c => sh_fwd c o⟩
theorem shift_apply (o c : Fin 32) : shift o c = sh c o := rfl

/-- The offsets from a fixed device, as a bijection with the devices. -/
def around (c : Fin 32) : Fin 32 ≃ Fin 32 :=
  ⟨fun o => sh c o, fun d => cpos d - cpos c, fun o => by
    show cpos (sh c o) - cpos c = o
    unfold sh; rw [cpos_perm, add_sub_cancel_left], fun d => by
    show sh c (cpos d - cpos c) = d
    unfold sh; rw [add_sub_cancel, perm_cpos]⟩
theorem around_apply (c o : Fin 32) : around c o = sh c o := rfl

/-! ## The transfers -/

/-- Whose rows transfer `k` carries, as an offset from the sender. -/
def srcOff : Fin 31 → Fin 32 := ![0, 0, 0, 31, 1, 16, 16, 30, 2, 15, 17, 29, 3, 14, 18, 28, 4, 13, 19, 27, 5, 12, 20, 26, 6, 11, 21, 25, 7, 10, 22]
/-- To whom, as an offset from the sender. -/
def dstOff : Fin 31 → Fin 32 := ![16, 1, 31, 1, 31, 1, 31, 1, 31, 1, 31, 1, 31, 1, 31, 1, 31, 1, 31, 1, 31, 1, 31, 1, 31, 1, 31, 1, 31, 1, 31]
/-- Whose rows it brings, as an offset from the receiver. -/
def rcvOff (k : Fin 31) : Fin 32 := srcOff k - dstOff k

theorem rcv_src (c : Fin 32) (k : Fin 31) : sh (sh c (-dstOff k)) (srcOff k) = sh c (rcvOff k) := by
  unfold rcvOff; rw [sh_sh, neg_add_eq_sub]
theorem src_rcv (c : Fin 32) (k : Fin 31) : sh (sh c (dstOff k)) (rcvOff k) = sh c (srcOff k) := by
  unfold rcvOff; rw [sh_sh, add_sub_cancel]

/-- The turn at which a device waits for transfer `k` to arrive: the first three arrive in another order than they are sent. -/
def turn : Fin 31 → Fin 31 := ![2, 0, 1, 3, 4, 5, 6, 7, 8, 9, 10, 11, 12, 13, 14, 15, 16, 17, 18, 19, 20, 21, 22, 23, 24, 25, 26, 27, 28, 29, 30]

/-- The offsets a device receives are all but its own, each once. -/
def slotOf : Option (Fin 31) → Fin 32
  | none => 0
  | some k => rcvOff k
theorem slotOf_bij : Function.Bijective slotOf := by
  constructor
  · decide
  · decide
noncomputable def slots : Option (Fin 31) ≃ Fin 32 := Equiv.ofBijective slotOf slotOf_bij

/-! ## The three neighbours a device signals -/

/-- The neighbours signalled, in order: the next, the one before, the opposite. -/
def nbr : Fin 3 → Fin 32 := ![1, 31, 16]
/-- Which of a receiver's three signals allows transfer `k`. -/
def nbrOf : Fin 31 → Fin 3 := ![2, 1, 0, 1, 0, 1, 0, 1, 0, 1, 0, 1, 0, 1, 0, 1, 0, 1, 0, 1, 0, 1, 0, 1, 0, 1, 0, 1, 0, 1, 0]
theorem nbr_dst (k : Fin 31) : nbr (nbrOf k) + dstOff k = 0 := by revert k; decide
theorem dst_nbr (k : Fin 31) : dstOff k = -nbr (nbrOf k) := by revert k; decide

/-! ## The counters of the transfers -/

/-- The number of the counter that the source's side of transfer `k` raises, and of the one its arrival raises. -/
def sendNo : Fin 31 → Fin 66 := ![4, 6, 36, 7, 37, 22, 52, 8, 38, 23, 53, 9, 39, 24, 54, 10, 40, 25, 55, 11, 41, 26, 56, 12, 42, 27, 57, 13, 43, 28, 58]
def recvNo : Fin 31 → Fin 66 := ![5, 14, 44, 15, 45, 29, 59, 16, 46, 30, 60, 17, 47, 31, 61, 18, 48, 32, 62, 19, 49, 33, 63, 20, 50, 34, 64, 21, 51, 35, 65]
/-- The transfer a counter belongs to; whether it is an arrival's. The first four counters belong to none. -/
def tagK : Fin 66 → Fin 31 := ![0, 0, 0, 0, 0, 0, 1, 3, 7, 11, 15, 19, 23, 27, 1, 3, 7, 11, 15, 19, 23, 27, 5, 9, 13, 17, 21, 25, 29, 5, 9, 13, 17, 21, 25, 29, 2, 4, 8, 12, 16, 20, 24, 28, 2, 4, 8, 12, 16, 20, 24, 28, 6, 10, 14, 18, 22, 26, 30, 6, 10, 14, 18, 22, 26, 30]
def tagR : Fin 66 → Bool := ![false, false, false, false, false, true, false, false, false, false, false, false, false, false, true, true, true, true, true, true, true, true, false, false, false, false, false, false, false, true, true, true, true, true, true, true, false, false, false, false, false, false, false, false, true, true, true, true, true, true, true, true, false, false, false, false, false, false, false, true, true, true, true, true, true, true]
theorem tagK_send (k : Fin 31) : tagK (sendNo k) = k := by revert k; decide
theorem tagK_recv (k : Fin 31) : tagK (recvNo k) = k := by revert k; decide
theorem tagR_send (k : Fin 31) : tagR (sendNo k) = false := by revert k; decide
theorem tagR_recv (k : Fin 31) : tagR (recvNo k) = true := by revert k; decide
theorem send_ge (k : Fin 31) : 4 ≤ (sendNo k).val := by revert k; decide
theorem recv_ge (k : Fin 31) : 4 ≤ (recvNo k).val := by revert k; decide

/-! ## The table of targets and rows -/

/-- The offset each word of a device's row of the table stands for. -/
def wordOff : Fin 37 → Fin 32 := ![1, 31, 16, 0, 31, 30, 29, 28, 27, 26, 25, 24, 16, 15, 14, 13, 12, 11, 10, 9, 0, 1, 2, 3, 4, 5, 6, 7, 8, 16, 17, 18, 19, 20, 21, 22, 23]
/-- The word: the first three are devices, the rest the first row of a device's rows. -/
def word (c : Fin 32) (i : Fin 37) : BitVec 32 :=
  BitVec.ofNat 32 (if i.val < 3 then (sh c (wordOff i)).val else 64 * (sh c (wordOff i)).val)

theorem word_dev (c : Fin 32) (i : Fin 37) (h : i.val < 3) : (word c i).toNat = (sh c (wordOff i)).val := by
  unfold word; rw [if_pos h, BitVec.toNat_ofNat]; have := (sh c (wordOff i)).isLt; omega
theorem word_row (c : Fin 32) (i : Fin 37) (h : ¬ i.val < 3) : (word c i).toNat = 64 * (sh c (wordOff i)).val := by
  unfold word; rw [if_neg h, BitVec.toNat_ofNat]; have := (sh c (wordOff i)).isLt; omega

end Cert.Ring
-- ==== Proof.KernelIdeal.Checks.lean ====
/-
  The side conditions the kernel assumes of the words it reads. A word is either a device, or the first row of a device's
  64 rows; every condition asks that the device is one of the 32, or that the 64 rows lie in the buffer and are whole words.
-/
module

public import proofs.«01_k».proof.Proof.Gen.KernelIdeal
public import proofs.«01_k».proof.Proof.Ring

@[expose] public section

set_option maxRecDepth 16384

namespace Cert.KernelIdeal.Gather

open Idealize.ShloMosaic Idealize.SL.Sem

theorem addi_zero (v : BitVec 32) : Scalar.addi v 0#32 = v := by
  show v + 0#32 = v; exact BitVec.add_zero v
theorem dev_eq {v : BitVec 32} {d : Fin 32} (h : v.toNat = d.val) :
    (Scalar.addi 0#32 (Scalar.muli v 1#32)).toNat = d.val := by
  show (0#32 + v * 1#32).toNat = d.val
  rw [BitVec.mul_one, BitVec.zero_add, h]
theorem dev_lt {v : BitVec 32} {d : Fin 32} (h : v.toNat = d.val) :
    (Scalar.addi 0#32 (Scalar.muli v 1#32)).toNat < nD := by rw [dev_eq h]; exact d.isLt

theorem row_off {v : BitVec 32} {d : Fin 32} (h : v.toNat = 64 * d.val) :
    (![(Scalar.addi v 0#32).toNat, 0] : Fin 2 → Nat) = ![64 * d.val, 0] := by rw [addi_zero, h]
theorem row_dvd {v : BitVec 32} {d : Fin 32} (h : v.toNat = 64 * d.val) : 64 ∣ (Scalar.addi v 0#32).toNat := by
  rw [addi_zero, h]; exact Nat.dvd_mul_right _ _
theorem row_off₀ {v : BitVec 32} {d : Fin 32} (h : v.toNat = 64 * d.val) :
    (![v.toNat, 0] : Fin 2 → Nat) = ![64 * d.val, 0] := by rw [h]
theorem row_dvd₀ {v : BitVec 32} {d : Fin 32} (h : v.toNat = 64 * d.val) : 64 ∣ v.toNat := by
  rw [h]; exact Nat.dvd_mul_right _ _
theorem row_inb {off : Fin 2 → Nat} {d : Fin 32} (h : off = ![64 * d.val, 0]) :
    ∀ a, off a + S64x2048.size a ≤ S2048x2048.size a := by
  subst h
  have hd := d.isLt
  intro a
  fin_cases a
  · show 64 * d.val + 64 ≤ 2048; omega
  · show 0 + 2048 ≤ 2048; omega
theorem row_packed {off : Fin 2 → Nat} {d : Fin 32} (h : off = ![64 * d.val, 0])
    (hinb : ∀ a, off a + S64x2048.size a ≤ S2048x2048.size a) :
    (Rect.unit (s := S2048x2048) off S64x2048.size hinb).PackedRows (EltTy.packing .bf16) := by
  subst h
  refine .inr ⟨by decide, rfl, .inl ⟨?_, ?_⟩⟩
  · show 2 ∣ 64 * d.val; omega
  · show 2 ∣ 64; decide
theorem row_words {off : Fin 2 → Nat} {d : Fin 32} (h : off = ![64 * d.val, 0])
    (hinb : ∀ a, off a + S64x2048.size a ≤ S2048x2048.size a) :
    (Rect.unit (s := S2048x2048) off S64x2048.size hinb).WholeWords (EltTy.packing .bf16) := .inl (row_packed h hinb)

theorem chk1 {v : BitVec 32} {d : Fin 32} (h : v.toNat = 64 * d.val) : k0_chk1 v :=
  ⟨row_dvd₀ h, row_inb (row_off₀ h), row_packed (row_off₀ h)⟩
theorem chk2 {v : BitVec 32} {d : Fin 32} (h : v.toNat = d.val) : k0_chk2 v :=
  ⟨dev_lt h, dev_lt h, dev_lt h, dev_lt h, dev_lt h, dev_lt h, dev_lt h, dev_lt h, dev_lt h, dev_lt h, dev_lt h, dev_lt h, dev_lt h, dev_lt h, dev_lt h, dev_lt h⟩
theorem chk3 {v : BitVec 32} {d : Fin 32} (h : v.toNat = d.val) : k0_chk3 v :=
  ⟨dev_lt h, dev_lt h, dev_lt h, dev_lt h, dev_lt h, dev_lt h, dev_lt h, dev_lt h, dev_lt h, dev_lt h, dev_lt h, dev_lt h, dev_lt h, dev_lt h, dev_lt h, dev_lt h⟩
theorem chk4 {v : BitVec 32} {d : Fin 32} (h : v.toNat = d.val) : k0_chk4 v :=
  ⟨dev_lt h, dev_lt h⟩
theorem chk5 {v : BitVec 32} {d : Fin 32} (h : v.toNat = 64 * d.val) : k0_chk5 v :=
  ⟨row_dvd h, row_inb (row_off h), row_words (row_off h), row_inb (row_off h), row_words (row_off h)⟩
theorem chk6 {v : BitVec 32} {d : Fin 32} (h : v.toNat = 64 * d.val) : k0_chk6 v :=
  ⟨row_dvd h, row_inb (row_off h), row_words (row_off h), row_inb (row_off h), row_words (row_off h)⟩
theorem chk7 {v : BitVec 32} {d : Fin 32} (h : v.toNat = 64 * d.val) : k0_chk7 v :=
  ⟨row_dvd h, row_inb (row_off h), row_words (row_off h), row_inb (row_off h), row_words (row_off h)⟩
theorem chk8 {v : BitVec 32} {d : Fin 32} (h : v.toNat = 64 * d.val) : k0_chk8 v :=
  ⟨row_dvd h, row_inb (row_off h), row_words (row_off h)⟩
theorem chk9 {v : BitVec 32} {d : Fin 32} (h : v.toNat = 64 * d.val) : k0_chk9 v :=
  ⟨row_dvd h, row_inb (row_off h), row_words (row_off h), row_inb (row_off h), row_words (row_off h)⟩
theorem chk10 {v : BitVec 32} {d : Fin 32} (h : v.toNat = 64 * d.val) : k0_chk10 v :=
  ⟨row_dvd h, row_inb (row_off h), row_words (row_off h)⟩
theorem chk11 {v : BitVec 32} {d : Fin 32} (h : v.toNat = 64 * d.val) : k0_chk11 v :=
  ⟨row_dvd h, row_inb (row_off h), row_words (row_off h), row_inb (row_off h), row_words (row_off h)⟩
theorem chk12 {v : BitVec 32} {d : Fin 32} (h : v.toNat = 64 * d.val) : k0_chk12 v :=
  ⟨row_dvd h, row_inb (row_off h), row_words (row_off h)⟩
theorem chk13 {v : BitVec 32} {d : Fin 32} (h : v.toNat = 64 * d.val) : k0_chk13 v :=
  ⟨row_dvd h, row_inb (row_off h), row_words (row_off h), row_inb (row_off h), row_words (row_off h)⟩
theorem chk14 {v : BitVec 32} {d : Fin 32} (h : v.toNat = 64 * d.val) : k0_chk14 v :=
  ⟨row_dvd h, row_inb (row_off h), row_words (row_off h), row_inb (row_off h), row_words (row_off h)⟩
theorem chk15 {v : BitVec 32} {d : Fin 32} (h : v.toNat = 64 * d.val) : k0_chk15 v :=
  ⟨row_dvd h, row_inb (row_off h), row_words (row_off h)⟩
theorem chk16 {v : BitVec 32} {d : Fin 32} (h : v.toNat = 64 * d.val) : k0_chk16 v :=
  ⟨row_dvd h, row_inb (row_off h), row_words (row_off h), row_inb (row_off h), row_words (row_off h)⟩
theorem chk17 {v : BitVec 32} {d : Fin 32} (h : v.toNat = 64 * d.val) : k0_chk17 v :=
  ⟨row_dvd h, row_inb (row_off h), row_words (row_off h)⟩
theorem chk18 {v : BitVec 32} {d : Fin 32} (h : v.toNat = 64 * d.val) : k0_chk18 v :=
  ⟨row_dvd h, row_inb (row_off h), row_words (row_off h), row_inb (row_off h), row_words (row_off h)⟩
theorem chk19 {v : BitVec 32} {d : Fin 32} (h : v.toNat = 64 * d.val) : k0_chk19 v :=
  ⟨row_dvd h, row_inb (row_off h), row_words (row_off h)⟩
theorem chk20 {v : BitVec 32} {d : Fin 32} (h : v.toNat = 64 * d.val) : k0_chk20 v :=
  ⟨row_dvd h, row_inb (row_off h), row_words (row_off h), row_inb (row_off h), row_words (row_off h)⟩
theorem chk21 {v : BitVec 32} {d : Fin 32} (h : v.toNat = 64 * d.val) : k0_chk21 v :=
  ⟨row_dvd h, row_inb (row_off h), row_words (row_off h)⟩
theorem chk22 {v : BitVec 32} {d : Fin 32} (h : v.toNat = 64 * d.val) : k0_chk22 v :=
  ⟨row_dvd h, row_inb (row_off h), row_words (row_off h), row_inb (row_off h), row_words (row_off h)⟩
theorem chk23 {v : BitVec 32} {d : Fin 32} (h : v.toNat = 64 * d.val) : k0_chk23 v :=
  ⟨row_dvd h, row_inb (row_off h), row_words (row_off h)⟩
theorem chk24 {v : BitVec 32} {d : Fin 32} (h : v.toNat = 64 * d.val) : k0_chk24 v :=
  ⟨row_dvd h, row_inb (row_off h), row_words (row_off h), row_inb (row_off h), row_words (row_off h)⟩
theorem chk25 {v : BitVec 32} {d : Fin 32} (h : v.toNat = 64 * d.val) : k0_chk25 v :=
  ⟨row_dvd h, row_inb (row_off h), row_words (row_off h)⟩
theorem chk26 {v : BitVec 32} {d : Fin 32} (h : v.toNat = 64 * d.val) : k0_chk26 v :=
  ⟨row_dvd h, row_inb (row_off h), row_words (row_off h), row_inb (row_off h), row_words (row_off h)⟩
theorem chk27 {v : BitVec 32} {d : Fin 32} (h : v.toNat = 64 * d.val) : k0_chk27 v :=
  ⟨row_dvd h, row_inb (row_off h), row_words (row_off h)⟩
theorem chk28 {v : BitVec 32} {d : Fin 32} (h : v.toNat = 64 * d.val) : k0_chk28 v :=
  ⟨row_dvd h, row_inb (row_off h), row_words (row_off h), row_inb (row_off h), row_words (row_off h)⟩
theorem chk29 {v : BitVec 32} {d : Fin 32} (h : v.toNat = 64 * d.val) : k0_chk29 v :=
  ⟨row_dvd h, row_inb (row_off h), row_words (row_off h)⟩
theorem chk30 {v : BitVec 32} {d : Fin 32} (h : v.toNat = 64 * d.val) : k0_chk30 v :=
  ⟨row_dvd h, row_inb (row_off h), row_words (row_off h), row_inb (row_off h), row_words (row_off h)⟩
theorem chk31 {v : BitVec 32} {d : Fin 32} (h : v.toNat = 64 * d.val) : k0_chk31 v :=
  ⟨row_dvd h, row_inb (row_off h), row_words (row_off h)⟩
theorem chk32 {v : BitVec 32} {d : Fin 32} (h : v.toNat = 64 * d.val) : k0_chk32 v :=
  ⟨row_dvd h, row_inb (row_off h), row_words (row_off h), row_inb (row_off h), row_words (row_off h)⟩
theorem chk33 {v : BitVec 32} {d : Fin 32} (h : v.toNat = 64 * d.val) : k0_chk33 v :=
  ⟨row_dvd h, row_inb (row_off h), row_words (row_off h)⟩
theorem chk34 {v : BitVec 32} {d : Fin 32} (h : v.toNat = 64 * d.val) : k0_chk34 v :=
  ⟨row_dvd h, row_inb (row_off h), row_words (row_off h), row_inb (row_off h), row_words (row_off h)⟩
theorem chk35 {v : BitVec 32} {d : Fin 32} (h : v.toNat = 64 * d.val) : k0_chk35 v :=
  ⟨row_dvd h, row_inb (row_off h), row_words (row_off h)⟩
theorem chk36 {v : BitVec 32} {d : Fin 32} (h : v.toNat = 64 * d.val) : k0_chk36 v :=
  ⟨row_dvd h, row_inb (row_off h), row_words (row_off h), row_inb (row_off h), row_words (row_off h)⟩
theorem chk37 {v : BitVec 32} {d : Fin 32} (h : v.toNat = 64 * d.val) : k0_chk37 v :=
  ⟨row_dvd h, row_inb (row_off h), row_words (row_off h)⟩
theorem chk38 {v : BitVec 32} {d : Fin 32} (h : v.toNat = 64 * d.val) : k0_chk38 v :=
  ⟨row_dvd h, row_inb (row_off h), row_words (row_off h), row_inb (row_off h), row_words (row_off h)⟩
theorem chk39 {v : BitVec 32} {d : Fin 32} (h : v.toNat = 64 * d.val) : k0_chk39 v :=
  ⟨row_dvd h, row_inb (row_off h), row_words (row_off h)⟩
theorem chk40 {v : BitVec 32} {d : Fin 32} (h : v.toNat = 64 * d.val) : k0_chk40 v :=
  ⟨row_dvd h, row_inb (row_off h), row_words (row_off h), row_inb (row_off h), row_words (row_off h)⟩
theorem chk41 {v : BitVec 32} {d : Fin 32} (h : v.toNat = 64 * d.val) : k0_chk41 v :=
  ⟨row_dvd h, row_inb (row_off h), row_words (row_off h)⟩
theorem chk42 {v : BitVec 32} {d : Fin 32} (h : v.toNat = 64 * d.val) : k0_chk42 v :=
  ⟨row_dvd h, row_inb (row_off h), row_words (row_off h), row_inb (row_off h), row_words (row_off h)⟩
theorem chk43 {v : BitVec 32} {d : Fin 32} (h : v.toNat = 64 * d.val) : k0_chk43 v :=
  ⟨row_dvd h, row_inb (row_off h), row_words (row_off h)⟩
theorem chk44 {v : BitVec 32} {d : Fin 32} (h : v.toNat = 64 * d.val) : k0_chk44 v :=
  ⟨row_dvd h, row_inb (row_off h), row_words (row_off h), row_inb (row_off h), row_words (row_off h)⟩
theorem chk45 {v : BitVec 32} {d : Fin 32} (h : v.toNat = 64 * d.val) : k0_chk45 v :=
  ⟨row_dvd h, row_inb (row_off h), row_words (row_off h)⟩
theorem chk46 {v : BitVec 32} {d : Fin 32} (h : v.toNat = 64 * d.val) : k0_chk46 v :=
  ⟨row_dvd h, row_inb (row_off h), row_words (row_off h), row_inb (row_off h), row_words (row_off h)⟩
theorem chk47 {v : BitVec 32} {d : Fin 32} (h : v.toNat = 64 * d.val) : k0_chk47 v :=
  ⟨row_dvd h, row_inb (row_off h), row_words (row_off h)⟩
theorem chk48 {v : BitVec 32} {d : Fin 32} (h : v.toNat = 64 * d.val) : k0_chk48 v :=
  ⟨row_dvd h, row_inb (row_off h), row_words (row_off h), row_inb (row_off h), row_words (row_off h)⟩
theorem chk49 {v : BitVec 32} {d : Fin 32} (h : v.toNat = 64 * d.val) : k0_chk49 v :=
  ⟨row_dvd h, row_inb (row_off h), row_words (row_off h)⟩
theorem chk50 {v : BitVec 32} {d : Fin 32} (h : v.toNat = 64 * d.val) : k0_chk50 v :=
  ⟨row_dvd h, row_inb (row_off h), row_words (row_off h), row_inb (row_off h), row_words (row_off h)⟩
theorem chk51 {v : BitVec 32} {d : Fin 32} (h : v.toNat = 64 * d.val) : k0_chk51 v :=
  ⟨row_dvd h, row_inb (row_off h), row_words (row_off h)⟩
theorem chk52 {v : BitVec 32} {d : Fin 32} (h : v.toNat = 64 * d.val) : k0_chk52 v :=
  ⟨row_dvd h, row_inb (row_off h), row_words (row_off h), row_inb (row_off h), row_words (row_off h)⟩
theorem chk53 {v : BitVec 32} {d : Fin 32} (h : v.toNat = 64 * d.val) : k0_chk53 v :=
  ⟨row_dvd h, row_inb (row_off h), row_words (row_off h)⟩
theorem chk54 {v : BitVec 32} {d : Fin 32} (h : v.toNat = 64 * d.val) : k0_chk54 v :=
  ⟨row_dvd h, row_inb (row_off h), row_words (row_off h), row_inb (row_off h), row_words (row_off h)⟩
theorem chk55 {v : BitVec 32} {d : Fin 32} (h : v.toNat = 64 * d.val) : k0_chk55 v :=
  ⟨row_dvd h, row_inb (row_off h), row_words (row_off h)⟩
theorem chk56 {v : BitVec 32} {d : Fin 32} (h : v.toNat = 64 * d.val) : k0_chk56 v :=
  ⟨row_dvd h, row_inb (row_off h), row_words (row_off h), row_inb (row_off h), row_words (row_off h)⟩
theorem chk57 {v : BitVec 32} {d : Fin 32} (h : v.toNat = 64 * d.val) : k0_chk57 v :=
  ⟨row_dvd h, row_inb (row_off h), row_words (row_off h)⟩
theorem chk58 {v : BitVec 32} {d : Fin 32} (h : v.toNat = 64 * d.val) : k0_chk58 v :=
  ⟨row_dvd h, row_inb (row_off h), row_words (row_off h), row_inb (row_off h), row_words (row_off h)⟩
theorem chk59 {v : BitVec 32} {d : Fin 32} (h : v.toNat = 64 * d.val) : k0_chk59 v :=
  ⟨row_dvd h, row_inb (row_off h), row_words (row_off h)⟩
theorem chk60 {v : BitVec 32} {d : Fin 32} (h : v.toNat = 64 * d.val) : k0_chk60 v :=
  ⟨row_dvd h, row_inb (row_off h), row_words (row_off h), row_inb (row_off h), row_words (row_off h)⟩
theorem chk61 {v : BitVec 32} {d : Fin 32} (h : v.toNat = 64 * d.val) : k0_chk61 v :=
  ⟨row_dvd h, row_inb (row_off h), row_words (row_off h)⟩
theorem chk62 {v : BitVec 32} {d : Fin 32} (h : v.toNat = 64 * d.val) : k0_chk62 v :=
  ⟨row_dvd h, row_inb (row_off h), row_words (row_off h), row_inb (row_off h), row_words (row_off h)⟩
theorem chk63 {v : BitVec 32} {d : Fin 32} (h : v.toNat = 64 * d.val) : k0_chk63 v :=
  ⟨row_dvd h, row_inb (row_off h), row_words (row_off h)⟩
theorem chk64 {v : BitVec 32} {d : Fin 32} (h : v.toNat = 64 * d.val) : k0_chk64 v :=
  ⟨row_dvd h, row_inb (row_off h), row_words (row_off h)⟩
theorem chk65 {v : BitVec 32} {d : Fin 32} (h : v.toNat = 64 * d.val) : k0_chk65 v :=
  ⟨row_dvd h, row_inb (row_off h), row_words (row_off h)⟩
theorem chk66 {v : BitVec 32} {d : Fin 32} (h : v.toNat = 64 * d.val) : k0_chk66 v :=
  ⟨row_dvd h, row_inb (row_off h), row_words (row_off h)⟩

end Cert.KernelIdeal.Gather
-- ==== Proof.KernelIdeal.Cells.lean ====
/-
  The protocol of the gather: the counters it uses, what each raise of a counter hands to its owner, and the levels that
  order the waits.

  A device gathers the rows of all devices in one buffer. The right to write a receiver's rows is handed over at the start
  (a device signals its three neighbours, and with each signal go the rows that this neighbour will fill); it comes back,
  with the rows filled, when the transfer arrives. All devices' buffers end at the same contents `G`, so the rows a transfer
  reads and the rows it leaves are rows of `G`.
-/
module

public import proofs.«01_k».proof.Proof.Gen.KernelIdeal
public import proofs.«01_k».proof.Proof.KernelIdeal.Checks
public import Idealize.ShloMosaic.Lib.Pipeline.Regions
public import Idealize.ShloMosaic.Lib.Pipeline.RegionTalk
public import Idealize.ShloMosaic.Lib.Pipeline.Kit
public import Idealize.ShloMosaic.Lib.Rounds
public import Idealize.ShloMosaic.Lib.Ring
public import Idealize.ShloMosaic.Lib.Tactic
public import Idealize.ShloMosaic.PureOps

@[expose] public section

set_option maxRecDepth 16384

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Ring

variable {F : FTy → Type}

/-- The pipeline library's resource and the protocol's. -/
abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

/-! ## The gathered buffer, by rows -/

abbrev gxM : Memref sig .tc .vmem S2048x2048 .bf16 := Memref.whole cc0_scratch0
/-- The 64 rows of device `d`. -/
abbrev rowM (d : Dev nD) : Memref sig .tc .vmem S64x2048 .bf16 :=
  gxM.slice (Rect.unit (s := S2048x2048) ![64 * d.val, 0] S64x2048.size (row_inb rfl)) (fun _ => rfl)
abbrev gxLoc (c : Dev nD) : Loc nD τ sig := gxM.view.loc (c : Thread nD τ)
abbrev rowSet (d : Dev nD) : Finset S2048x2048.Idx := (rowM d).view.set

theorem mem_rowSet (d : Dev nD) (i : S2048x2048.Idx) : i ∈ rowSet d ↔ (i 0).val / 64 = d.val := by
  have h : rowSet d = (Rect.unit (s := S2048x2048) ![64 * d.val, 0] S64x2048.size (row_inb rfl)).set := View.set_slice_whole _ _
  rw [h, Rect.mem_set_unit]
  constructor
  · intro h
    have h0 := h 0
    have h1 : 64 * d.val ≤ (i 0).val := h0.1
    have h2 : (i 0).val < 64 * d.val + 64 := h0.2
    omega
  · intro h a
    have hi1 : (i 1).val < 2048 := (i 1).isLt
    fin_cases a
    · show 64 * d.val ≤ (i 0).val ∧ (i 0).val < 64 * d.val + 64
      omega
    · show 0 ≤ (i 1).val ∧ (i 1).val < 0 + 2048
      omega
theorem rowSet_disjoint (d d' : Dev nD) (h : d ≠ d') : Disjoint (rowSet d) (rowSet d') := by
  rw [Finset.disjoint_left]
  intro i h1 h2
  rw [mem_rowSet] at h1 h2
  exact h (Fin.ext (h1.symm.trans h2))
theorem rowSet_cover : Finset.univ.biUnion rowSet = Finset.univ := by
  ext i
  have hi0 : (i 0).val < 2048 := (i 0).isLt
  simp only [Finset.mem_biUnion, Finset.mem_univ, true_and, iff_true]
  exact ⟨⟨(i 0).val / 64, by show _ < 32; omega⟩, (mem_rowSet _ _).mpr rfl⟩

/-- The contents every device's buffer ends at. -/
abbrev Gx (F : FTy → Type) : Type := S2048x2048.Idx → Elt F .bf16

variable (G : Gx F)

/-- The rows of device `d`, in device `c`'s buffer, at some contents. -/
abbrev rowAny (c d : Dev nD) : sProp 𝕄 := iprop(∃ f : Buf (Elt F) (gxLoc c), gxLoc c ↦[rowSet d]{fullShare} f)
/-- The rows of device `d`, in device `c`'s buffer, at the final contents. -/
abbrev row (c d : Dev nD) (q : PosShare TreeShare) : sProp 𝕄 := gxLoc c ↦[rowSet d]{q} (G : Buf (Elt F) (gxLoc c))

/-- What a transfer of rows leaves in them is what it read. -/
theorem landed_eq (c c' d : Dev nD) (fd : Buf (Elt F) (gxLoc c')) :
    (gxLoc c' ↦[rowSet d]{fullShare} ((rowM d).view.write (Elt F) fd ((rowM d).view.read (Elt F) (G : Buf (Elt F) (gxLoc c))) Finset.univ) : sProp 𝕄)
      = row G c' d fullShare := by
  refine pointsTo_congr fun i hi => ?_
  obtain ⟨x, -, rfl⟩ := Finset.mem_map.mp hi
  exact (View.write_emb_of_mem _ _ (Finset.mem_univ x)).trans rfl

/-! ## The counters -/

abbrev barCell (c : Dev nD) : GSem nD τ sig := ((c : Thread nD τ), .reg barrier0)
abbrev sendCell (c : Dev nD) (k : Fin 31) : GSem nD τ sig := ((c : Thread nD τ), .dma (sendNo k))
abbrev recvCell (c : Dev nD) (k : Fin 31) : GSem nD τ sig := ((c : Thread nD τ), .dma (recvNo k))

/-- What one transfer of 64 rows counts for. -/
abbrev N : ℕ := (rowM 0).view.dmaCredit
theorem N_pos : 0 < N := View.dmaCredit_pos _ (by decide)
theorem row_credit (d : Dev nD) : (rowM d).view.dmaCredit = N := rfl

/-- The share of the rows a transfer reads that it takes along; the sender keeps the left half of every row. -/
def lent (k : Fin 31) : PosShare TreeShare :=
  if k.val = 0 then fullShare.right.left else if k.val = 1 then fullShare.right.right.left
  else if k.val = 2 then fullShare.right.right.right else if k.val = 5 then fullShare.right.left
  else if k.val = 6 then fullShare.right.right else fullShare.right

/-- The rows that transfer `k` of device `c` reads, at the share it takes. -/
abbrev src (c : Dev nD) (k : Fin 31) : sProp 𝕄 := row G c (sh c (srcOff k)) (lent k)

/-- The right to carry out transfer `k` into device `c`: the rows there, and that the counter of its arrival is in use. -/
def mine (c : Dev nD) (k : Fin 31) : sProp 𝕄 := iprop(rowAny c (sh c (rcvOff k)) ∗ reached ER (recvCell c k) 0)

/-- What the `j`-th of the three signals hands to device `p`: the right to every transfer into that neighbour. -/
def barPay (p : Dev nD) (j : Fin 3) : sProp 𝕄 :=
  bigSep (Finset.univ.filter fun k => nbrOf k = j) fun k => mine (sh p (dstOff k)) k

/-- One round on each counter: three signals of one unit on a device's barrier; one transfer on each of its other counters. -/
def gatherRd : Rounds.Schedule (GSem nD τ sig) (Fin 3) 𝕄 where
  duties g r := if r = 0 ∧ g.1.2 = .tc then (match g.2 with | .reg _ => Finset.univ | .dma _ => {0}) else ∅
  unitless _ := False
  amount g _ _ := match g.2 with | .reg _ => 1 | .dma _ => N
  payload g _ d := match g.2 with
    | .reg _ => barPay g.1.1 d
    | .dma s => if tagR s then row G g.1.1 (sh g.1.1 (rcvOff (tagK s))) fullShare else src G g.1.1 (tagK s)
  amount_pos g _ _ _ := by
    rcases g with ⟨t, s | s⟩
    · exact Nat.one_pos
    · exact N_pos

instance gatherRd_payload_storable (g : GSem nD τ sig) (r : ℕ) (d : Fin 3) :
    BI.Storable (upEmb : UEmb _ 𝕄) ((gatherRd G).payload g r d) := by
  rcases g with ⟨t, s | s⟩
  · show BI.Storable upEmb (barPay t.1 d)
    unfold barPay mine
    infer_instance
  · show BI.Storable upEmb (if tagR s then row G t.1 (sh t.1 (rcvOff (tagK s))) fullShare else src G t.1 (tagK s))
    split <;> infer_instance

theorem duties_bar (c : Dev nD) : (gatherRd G).duties (barCell c) 0 = Finset.univ := rfl
theorem duties_dma (c : Dev nD) (s : DmaSem sig) : (gatherRd G).duties ((c : Thread nD τ), .dma s) 0 = {0} := rfl
theorem duties_later (g : GSem nD τ sig) : ∀ r, 1 ≤ r → (gatherRd G).duties g r = ∅ :=
  fun r hr => by dsimp only [gatherRd]; rw [if_neg (fun h => by omega)]
theorem amount_dma (c : Dev nD) (s : DmaSem sig) (d : Fin 3) : (gatherRd G).amount ((c : Thread nD τ), .dma s) 0 d = N := rfl
theorem expect_bar (c : Dev nD) : (gatherRd G).expect (barCell c) 0 = 3 := by
  unfold Schedule.expect Schedule.amountOf; rfl
theorem expect_dma (c : Dev nD) (s : DmaSem sig) : (gatherRd G).expect ((c : Thread nD τ), .dma s) 0 = N := by
  unfold Schedule.expect Schedule.amountOf; rw [duties_dma, Finset.sum_singleton, amount_dma]
theorem payload_bar (c : Dev nD) (j : Fin 3) : (gatherRd G).payload (barCell c) 0 j = barPay c j := rfl
theorem payload_send (c : Dev nD) (k : Fin 31) (d : Fin 3) : (gatherRd G).payload (sendCell c k) 0 d = src G c k := by
  show (if tagR (sendNo k) then _ else src G c (tagK (sendNo k))) = _
  rw [tagR_send, tagK_send]; rfl
theorem payload_recv (c : Dev nD) (k : Fin 31) (d : Fin 3) :
    (gatherRd G).payload (recvCell c k) 0 d = row G c (sh c (rcvOff k)) fullShare := by
  show (if tagR (recvNo k) then row G c (sh c (rcvOff (tagK (recvNo k)))) fullShare else _) = _
  rw [tagR_recv, tagK_recv]; rfl

theorem rest_send (c : Dev nD) (k : Fin 31) :
    bigSep ((gatherRd G).duties (sendCell c k) 0 \ ∅) (fun d => (gatherRd G).payload (sendCell c k) 0 d) = src G c k := by
  rw [Finset.sdiff_empty, duties_dma, bigSep_singleton, payload_send]
theorem rest_recv (c : Dev nD) (k : Fin 31) :
    bigSep ((gatherRd G).duties (recvCell c k) 0 \ ∅) (fun d => (gatherRd G).payload (recvCell c k) 0 d)
      = row G c (sh c (rcvOff k)) fullShare := by
  rw [Finset.sdiff_empty, duties_dma, bigSep_singleton, payload_recv]

/-- The three signals together hand over the right to every transfer. -/
theorem rest_bar (c : Dev nD) :
    (bigSep ((gatherRd G).duties (barCell c) 0 \ ∅) (fun d => (gatherRd G).payload (barCell c) 0 d) : sProp 𝕄)
      = bigSep Finset.univ fun k => mine (sh c (dstOff k)) k := by
  rw [Finset.sdiff_empty, duties_bar]
  show bigSep Finset.univ (fun j => barPay c j) = _
  unfold barPay
  rw [bigSep_congr (fun j _ => bigSep_filter Finset.univ (fun k => nbrOf k = j) (fun k => mine (F := F) (sh c (dstOff k)) k)),
    bigSep_univ_comm]
  refine bigSep_congr fun k _ => ?_
  rw [← bigSep_filter]
  rw [show (Finset.univ.filter fun j => nbrOf k = j) = {nbrOf k} from by ext j; simp [eq_comm]]
  exact bigSep_singleton

/-! ## What each core owes at launch; the levels -/

/-- The arrivals that device `c` still owes when it has issued its first `s` transfers. -/
def OS (c : Dev nD) (s : ℕ) : CellTallies nD τ sig Unit :=
  ∑ k ∈ Finset.univ.filter (fun k : Fin 31 => s ≤ k.val), tallyAt (recvCell (sh c (dstOff k)) k) () N
/-- The signals it still owes when it has given the first `n`. -/
def OB (c : Dev nD) (n : ℕ) : CellTallies nD τ sig Unit :=
  ∑ j ∈ Finset.univ.filter (fun j : Fin 3 => n ≤ j.val), tallyAt (barCell (sh c (nbr j))) () 1
def O₀ (c : Dev nD) : CellTallies nD τ sig Unit := OS c 0 + OB c 0

theorem filter_succ {n : ℕ} (k : Fin n) {s : ℕ} (h : k.val = s) :
    (Finset.univ.filter fun i : Fin n => s ≤ i.val) = insert k (Finset.univ.filter fun i : Fin n => s + 1 ≤ i.val) := by
  ext i
  simp only [Finset.mem_filter, Finset.mem_univ, true_and, Finset.mem_insert, Fin.ext_iff]
  omega
theorem filter_succ_not_mem {n : ℕ} (k : Fin n) {s : ℕ} (h : k.val = s) :
    k ∉ (Finset.univ.filter fun i : Fin n => s + 1 ≤ i.val) := by
  simp only [Finset.mem_filter, Finset.mem_univ, true_and]; omega
theorem OS_succ (c : Dev nD) (k : Fin 31) {s : ℕ} (h : k.val = s) :
    OS c s = OS c (s + 1) + tallyAt (recvCell (sh c (dstOff k)) k) () N := by
  unfold OS; rw [filter_succ k h, Finset.sum_insert (filter_succ_not_mem k h), add_comm]
theorem OB_succ (c : Dev nD) (j : Fin 3) {n : ℕ} (h : j.val = n) :
    OB c n = OB c (n + 1) + tallyAt (barCell (sh c (nbr j))) () 1 := by
  unfold OB; rw [filter_succ j h, Finset.sum_insert (filter_succ_not_mem j h), add_comm]
theorem OS_end (c : Dev nD) : OS c 31 = 0 := by
  unfold OS
  rw [show (Finset.univ.filter fun k : Fin 31 => 31 ≤ k.val) = ∅ from by decide, Finset.sum_empty]
theorem OB_end (c : Dev nD) : OB c 3 = 0 := by
  unfold OB
  rw [show (Finset.univ.filter fun k : Fin 3 => 3 ≤ k.val) = ∅ from by decide, Finset.sum_empty]

def L (g : GSem nD τ sig) : Finset Unit := if g.1.2 = .tc then {()} else ∅
/-- Barriers at 1, the arrival of transfer `k` at `2 + k`, everything else at 0. -/
def lv (g : GSem nD τ sig) (_ : Unit) : ℕ :=
  match g.2 with
  | .reg _ => 1
  | .dma s => if tagR s then 2 + (tagK s).val else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (k : Fin 31) : lv (recvCell c k) () = 2 + k.val := by
  show (if tagR (recvNo k) then 2 + (tagK (recvNo k)).val else 0) = _
  rw [tagR_recv, tagK_recv]; rfl

theorem OS_pos {c : Dev nD} {s : ℕ} {g : GSem nD τ sig} {u : Unit} (h : 0 < OS c s g u) :
    ∃ k : Fin 31, s ≤ k.val ∧ g = recvCell (sh c (dstOff k)) k := by
  unfold OS at h
  rw [Finset.sum_apply, Finsupp.finsetSum_apply] at h
  obtain ⟨k, hk, hp⟩ := Finset.sum_pos_iff.mp h
  rw [tallyAt_apply] at hp
  refine ⟨k, (Finset.mem_filter.mp hk).2, ?_⟩
  by_cases hg : g = recvCell (sh c (dstOff k)) k ∧ u = ()
  · exact hg.1
  · rw [if_neg hg] at hp; exact absurd hp (Nat.lt_irrefl 0)
theorem OB_pos {c : Dev nD} {n : ℕ} {g : GSem nD τ sig} {u : Unit} (h : 0 < OB c n g u) :
    ∃ j : Fin 3, g = barCell (sh c (nbr j)) := by
  unfold OB at h
  rw [Finset.sum_apply, Finsupp.finsetSum_apply] at h
  obtain ⟨k, hk, hp⟩ := Finset.sum_pos_iff.mp h
  rw [tallyAt_apply] at hp
  refine ⟨k, ?_⟩
  by_cases hg : g = barCell (sh c (nbr k)) ∧ u = ()
  · exact hg.1
  · rw [if_neg hg] at hp; exact absurd hp (Nat.lt_irrefl 0)
theorem O₀_pos {c : Dev nD} {g : GSem nD τ sig} {u : Unit} (h : 0 < O₀ c g u) :
    () ∈ L g ∧ 0 < lv g () := by
  unfold O₀ at h
  rw [Pi.add_apply, Finsupp.add_apply] at h
  rcases Nat.add_pos_iff_pos_or_pos.mp h with h | h
  · obtain ⟨k, -, rfl⟩ := OS_pos h
    exact ⟨by rw [L_tc]; exact Finset.mem_singleton_self _, by rw [lv_recv]; omega⟩
  · obtain ⟨j, rfl⟩ := OB_pos h
    exact ⟨by rw [L_tc]; exact Finset.mem_singleton_self _, Nat.one_pos⟩

/-- A wait on a counter below every arrival still owed. -/
theorem mayWait (c : Dev nD) (sm : SemLoc sig) (s : ℕ) (h : lv ((c : Thread nD τ), sm) () < 2 + s) :
    (levAts L lv : sProp 𝕄) ⊢ MayWait (c : Thread nD τ) sm () (OS c s) :=
  MayOwe.of_cut (L := L) (lev := lv) (1 + s) (fun p hp => by rw [Finset.mem_singleton.mp hp, L_tc]; exact Finset.mem_singleton_self _)
    (fun g u hg => by
      obtain ⟨k, -, rfl⟩ := OS_pos hg
      rw [L_tc]; exact Finset.mem_singleton_self _)
    (fun p hp => by rw [Finset.mem_singleton.mp hp]; exact (by omega : lv ((c : Thread nD τ), sm) () ≤ 1 + s))
    (fun g u hg => by
      obtain ⟨k, hk, rfl⟩ := OS_pos hg
      rw [lv_recv]; omega)
theorem mayWait_bar (c : Dev nD) : (levAts L lv : sProp 𝕄) ⊢ MayWait (c : Thread nD τ) (.reg barrier0) () (OS c 0) :=
  mayWait c _ 0 (by show 1 < 2 + 0; omega)
theorem mayWait_recv (c : Dev nD) (k : Fin 31) (s : ℕ) (h : k.val < s) :
    (levAts L lv : sProp 𝕄) ⊢ MayWait (c : Thread nD τ) (.dma (recvNo k)) () (OS c s) :=
  mayWait c _ s (by rw [lv_recv]; omega)

end Cert.KernelIdeal.Gather
-- ==== Proof.KernelIdeal.Steps.lean ====
/-
  One lemma per kind of operation of the gather: what is left to prove after the operation.

  The state `St c s r X` of device `c`: it has issued the first `s` transfers and has received those whose turn is below `r`;
  `X` is what it holds besides.
-/
module

public import proofs.«01_k».proof.Proof.KernelIdeal.Cells

@[expose] public section

set_option maxRecDepth 16384

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Ring

variable {F : FTy → Type} [FloatOps F]

local notation "𝕄" => MT nD τ sig Unit (Elt F) ℕ UU ℕ

abbrev 𝒱₀ : Variants := Variants.none

/-! ## The cells in use, and their invariants -/

/-- A transfer's counter on the receiving (`true`) or the sending side. -/
def dmaNo (x : Fin 31 × Bool) : DmaSem sig := if x.2 then recvNo x.1 else sendNo x.1
theorem dmaNo_inj : Function.Injective dmaNo := by
  rintro ⟨k, b⟩ ⟨k', b'⟩ h
  have hk := congrArg tagK h
  have hb := congrArg tagR h
  rcases b with _ | _ <;> rcases b' with _ | _
  · exact Prod.ext ((tagK_send k).symm.trans (hk.trans (tagK_send k'))) rfl
  · exact absurd ((tagR_send k).symm.trans (hb.trans (tagR_recv k'))) (by decide)
  · exact absurd ((tagR_recv k).symm.trans (hb.trans (tagR_send k'))) (by decide)
  · exact Prod.ext ((tagK_recv k).symm.trans (hk.trans (tagK_recv k'))) rfl

def barEmb : Dev nD ↪ GSem nD τ sig := ⟨barCell, fun a b h => congrArg (fun g : GSem nD τ sig => g.1.1) h⟩
def dmaEmb : Dev nD × (Fin 31 × Bool) ↪ GSem nD τ sig :=
  ⟨fun x => ((x.1 : Thread nD τ), .dma (dmaNo x.2)), fun a b h => by
    have h1 : a.1 = b.1 := congrArg (fun g : GSem nD τ sig => g.1.1) h
    have h2 : dmaNo a.2 = dmaNo b.2 := SemLoc.dma.inj (congrArg (fun g : GSem nD τ sig => g.2) h)
    exact Prod.ext h1 (dmaNo_inj h2)⟩
/-- The barriers, in use from the launch; the counters of the transfers, put in use by the region. -/
def barCells : Finset (GSem nD τ sig) := Finset.univ.map barEmb
def dmaCells : Finset (GSem nD τ sig) := Finset.univ.map dmaEmb

theorem bar_mem (c : Dev nD) : barCell c ∈ barCells ∪ dmaCells :=
  Finset.mem_union_left _ (Finset.mem_map.mpr ⟨c, Finset.mem_univ _, rfl⟩)
theorem send_mem (c : Dev nD) (k : Fin 31) : sendCell c k ∈ barCells ∪ dmaCells :=
  Finset.mem_union_right _ (Finset.mem_map.mpr ⟨(c, k, false), Finset.mem_univ _, rfl⟩)
theorem recv_mem (c : Dev nD) (k : Fin 31) : recvCell c k ∈ barCells ∪ dmaCells :=
  Finset.mem_union_right _ (Finset.mem_map.mpr ⟨(c, k, true), Finset.mem_univ _, rfl⟩)

variable (G : Gx F) (K : GSem nD τ sig → ℕ)

def invs : sProp 𝕄 := bigSep (barCells ∪ dmaCells) fun g => cellInv ER (gatherRd G) (K g) g
instance invs_persistent : BI.Persistent (invs G K) := by unfold invs; infer_instance
theorem invs_at {g : GSem nD τ sig} (h : g ∈ barCells ∪ dmaCells) : invs G K ⊢ cellInv ER (gatherRd G) (K g) g :=
  BI.bigSep_elim h

/-! ## The state -/

abbrev tblLoc (c : Dev nD) : Loc nD τ sig := (Memref.whole cc0_stg2_0).view.loc (c : Thread nD τ)
/-- The words of the table that device `c` reads. -/
abbrev tblVal (c : Dev nD) : Buf (Elt F) (tblLoc c) := fun i => word c (i 0)
abbrev tbl (c : Dev nD) : sProp 𝕄 := tblLoc c ↦{fullShare} (tblVal c : Buf (Elt F) (tblLoc c))

/-- What transfer `k` needs besides the rows it reads. -/
def toSend (c : Dev nD) (k : Fin 31) : sProp 𝕄 :=
  iprop(dutyTok ER (recvCell (sh c (dstOff k)) k) 0 0 ∗ mine (sh c (dstOff k)) k
    ∗ dutyTok ER (sendCell c k) 0 0 ∗ reached ER (sendCell c k) 0 ∗ atPos ER (sendCell c k) 0 ∅ 0)
def sent (c : Dev nD) (k : Fin 31) : sProp 𝕄 :=
  iprop(cred (tallyAt (sendCell c k) () N) ∗ atPos ER (sendCell c k) 0 ∅ 0)
def toRecv (c : Dev nD) (k : Fin 31) : sProp 𝕄 :=
  iprop(cred (tallyAt (recvCell c k) () N) ∗ atPos ER (recvCell c k) 0 ∅ 0)
def received (c : Dev nD) (k : Fin 31) : sProp 𝕄 :=
  iprop(row G c (sh c (rcvOff k)) fullShare.left ∗ atPos ER (recvCell c k) 1 ∅ 0)

def St (c : Dev nD) (s r : ℕ) (X : sProp 𝕄) : sProp 𝕄 :=
  iprop(invs G K ∗ levAts L lv ∗ tbl c ∗ (∃ W, owes (c : Thread nD τ) (OS c s) W)
    ∗ bigSep (Finset.univ.filter fun k : Fin 31 => s ≤ k.val) (toSend c)
    ∗ bigSep (Finset.univ.filter fun k : Fin 31 => k.val < s) (sent c)
    ∗ bigSep (Finset.univ.filter fun k : Fin 31 => r ≤ (turn k).val) (toRecv c)
    ∗ bigSep (Finset.univ.filter fun k : Fin 31 => (turn k).val < r) (received G c)
    ∗ X)

/-! ## The operations -/

variable {α : Type} {c : Dev nD} {defs : Defs nD τ sig (Elt F) Λ₀}
variable {Q : α → sProp (MT nD τ sig Unit (Elt F) ℕ UU ℕ)}

abbrev WP (defs : Defs nD τ sig (Elt F) Λ₀) (c : Dev nD) {α : Type} (p : Prog (TpuEff nD τ sig (Elt F) Λ₀ .tc) α) (Q : α → sProp 𝕄) : sProp 𝕄 :=
  wp frame (wpE defs 𝒱₀ (c : Thread nD τ) none) Set.univ p Q

theorem lift_bind {β : Type} (e : TpuEff nD τ sig (Elt F) Λ₀ .tc β) (k : β → Prog (TpuEff nD τ sig (Elt F) Λ₀ .tc) α) :
    Prog.lift e >>= k = .op e k := rfl

theorem assume_step {X : sProp 𝕄} {P : Prop} {d : Decidable P} {k : PLift P → Prog (TpuEff nD τ sig (Elt F) Λ₀ .tc) α} (h : P)
    (hk : X ⊢ WP defs c (k ⟨h⟩) Q) : X ⊢ WP defs c (Prog.lift (TpuEff.assume P d) >>= k) Q := by
  rw [lift_bind]
  exact hk.trans (wp_assume 𝒱₀ (c : Thread nD τ) none Set.univ h)

/-- Reading word `i` of the table, whatever else is held. -/
theorem word_core {A B R : sProp 𝕄} {i : ℕ} (hi : i < 37) {hinb : ∀ a, (![i] : Fin 1 → ℕ) a + S1.size a ≤ S37.size a}
    {h1 : (Rect.unit (s := S37) ![i] S1.size hinb).shape.numel = 1} {hp : EltTy.packing .i32 = 1}
    {k : Elt F .i32 → Prog (TpuEff nD τ sig (Elt F) Λ₀ .tc) α}
    (hk : iprop(A ∗ B ∗ tbl c ∗ R) ⊢ WP defs c (k (word c ⟨i, hi⟩)) Q) :
    iprop(A ∗ B ∗ tbl c ∗ R) ⊢ WP defs c (smemLoad (Memref.whole cc0_stg2_0) (Rect.unit (s := S37) ![i] S1.size hinb) h1 hp >>= k) Q := by
  have hv : ∀ x, ((Memref.whole cc0_stg2_0).access (Rect.unit (s := S37) ![i] S1.size hinb)).read (Elt F) (tblVal (F := F) c) x = word c ⟨i, hi⟩ := by
    intro x
    have hx : (x 0).val = 0 := by have h : (x 0).val < 1 := (x 0).isLt; omega
    rw [View.read_apply]
    refine congrArg (word c) (Fin.ext ?_)
    show i + 1 * (x 0).val = i
    omega
  have e : (smemLoad (Memref.whole cc0_stg2_0) (Rect.unit (s := S37) ![i] S1.size hinb) h1 hp >>= k : Prog (TpuEff nD τ sig (Elt F) Λ₀ .tc) α)
      = smemLoadElt (Memref.whole cc0_stg2_0) (Rect.unit (s := S37) ![i] S1.size hinb) (View.loads_smem_one hp h1) (Shape.Idx.first (h1.symm ▸ Nat.one_pos)) k := rfl
  rw [e]
  iintro ⟨HI, HL, HT, Hrest⟩
  iapply (wp_smemLoadElt (defs := defs) 𝒱₀ (c : Thread nD τ) none Set.univ (m := Memref.whole cc0_stg2_0) (r := Rect.unit (s := S37) ![i] S1.size hinb)
      (q := fullShare) (f := tblVal (F := F) c) (Finset.subset_univ _)) $$ HT
  iintro HT
  rw [hv]
  iapply hk
  isplitl [HI]; · iexact HI
  isplitl [HL]; · iexact HL
  isplitl [HT]; · iexact HT
  iexact Hrest

/-- Reading word `i` of the table. -/
theorem word_step {s r : ℕ} {X : sProp 𝕄} {i : ℕ} (hi : i < 37) {hinb : ∀ a, (![i] : Fin 1 → ℕ) a + S1.size a ≤ S37.size a}
    {h1 : (Rect.unit (s := S37) ![i] S1.size hinb).shape.numel = 1} {hp : EltTy.packing .i32 = 1}
    {k : Elt F .i32 → Prog (TpuEff nD τ sig (Elt F) Λ₀ .tc) α}
    (hk : St G K c s r X ⊢ WP defs c (k (word c ⟨i, hi⟩)) Q) :
    St G K c s r X ⊢ WP defs c (smemLoad (Memref.whole cc0_stg2_0) (Rect.unit (s := S37) ![i] S1.size hinb) h1 hp >>= k) Q :=
  word_core hi hk

theorem bigSep_ins {A : Type} [DecidableEq A] {s : Finset A} {a : A} (h : a ∉ s) (Φ : A → sProp 𝕄) :
    bigSep (insert a s) Φ = iprop(Φ a ∗ bigSep s Φ) := bigSep_insert h

theorem filter_lt_succ {s : ℕ} (k : Fin 31) (h : k.val = s) :
    (Finset.univ.filter fun i : Fin 31 => i.val < s + 1) = insert k (Finset.univ.filter fun i : Fin 31 => i.val < s) := by
  ext i
  simp only [Finset.mem_filter, Finset.mem_univ, true_and, Finset.mem_insert, Fin.ext_iff]
  omega
theorem filter_lt_not_mem {s : ℕ} (k : Fin 31) (h : k.val = s) : k ∉ (Finset.univ.filter fun i : Fin 31 => i.val < s) := by
  simp only [Finset.mem_filter, Finset.mem_univ, true_and]; omega
theorem turn_inj : Function.Injective turn := by decide
theorem turn_ge_succ {r : ℕ} (k : Fin 31) (h : (turn k).val = r) :
    (Finset.univ.filter fun i : Fin 31 => r ≤ (turn i).val) = insert k (Finset.univ.filter fun i : Fin 31 => r + 1 ≤ (turn i).val) := by
  ext i
  simp only [Finset.mem_filter, Finset.mem_univ, true_and, Finset.mem_insert]
  constructor
  · intro hi
    by_cases he : (turn i).val = r
    · exact .inl (turn_inj (Fin.ext (he.trans h.symm)))
    · right; omega
  · rintro (rfl | hi) <;> omega
theorem turn_ge_not_mem {r : ℕ} (k : Fin 31) (h : (turn k).val = r) : k ∉ (Finset.univ.filter fun i : Fin 31 => r + 1 ≤ (turn i).val) := by
  simp only [Finset.mem_filter, Finset.mem_univ, true_and]; omega
theorem turn_lt_succ {r : ℕ} (k : Fin 31) (h : (turn k).val = r) :
    (Finset.univ.filter fun i : Fin 31 => (turn i).val < r + 1) = insert k (Finset.univ.filter fun i : Fin 31 => (turn i).val < r) := by
  ext i
  simp only [Finset.mem_filter, Finset.mem_univ, true_and, Finset.mem_insert]
  constructor
  · intro hi
    by_cases he : (turn i).val = r
    · exact .inl (turn_inj (Fin.ext (he.trans h.symm)))
    · right; omega
  · rintro (rfl | hi) <;> omega
theorem turn_lt_not_mem {r : ℕ} (k : Fin 31) (h : (turn k).val = r) : k ∉ (Finset.univ.filter fun i : Fin 31 => (turn i).val < r) := by
  simp only [Finset.mem_filter, Finset.mem_univ, true_and]; omega

theorem src_full (c : Dev nD) (k : Fin 31) : (row G c (sh c (rcvOff k)) fullShare : sProp 𝕄)
    ⊣⊢ iprop(row G c (sh c (rcvOff k)) fullShare.left ∗ row G c (sh c (rcvOff k)) fullShare.right) :=
  pointsTo_share (PosShare.mem_left_op_right fullShare)

/-- Issuing transfer `k`, whatever else is held. -/
theorem send_core (k : Fin 31) {I A B C D D' T X : sProp 𝕄} [BI.Persistent I] [BI.Persistent A] {O₁ O₂ : CellTallies nD τ sig Unit}
    (hO : O₁ = O₂ + tallyAt (recvCell (sh c (dstOff k)) k) () N)
    (hIs : I ⊢ cellInv ER (gatherRd G) (K (sendCell c k)) (sendCell c k))
    (hIr : I ⊢ cellInv ER (gatherRd G) (K (recvCell (sh c (dstOff k)) k)) (recvCell (sh c (dstOff k)) k))
    {hsc : (rowM (sh c (srcOff k))).view.ref.isScScratch = false}
    {hsrc : (rowM (sh c (srcOff k))).view.WordExact} {hdst : (rowM (sh c (srcOff k))).view.WordExact}
    {hsem : DmaTarget.Typed .vmem (.dma (recvNo k)) (.remote (Dev.tc (sh c (dstOff k))) (rowM (sh c (srcOff k))) (.dma (sendNo k)) hsc)}
    {kont : PUnit → Prog (TpuEff nD τ sig (Elt F) Λ₀ .tc) α}
    (hk : iprop(I ∗ A ∗ T ∗ (∃ W, owes (c : Thread nD τ) O₂ W) ∗ B ∗ (sent c k ∗ C) ∗ D ∗ D' ∗ X) ⊢ WP defs c (kont ⟨⟩) Q) :
    iprop(I ∗ A ∗ T ∗ (∃ W, owes (c : Thread nD τ) O₁ W) ∗ (toSend c k ∗ B) ∗ C ∗ D ∗ D' ∗ (src G c k ∗ X))
      ⊢ WP defs c (.op (.enqueueDma (rowM (sh c (srcOff k)))
      (.remote (Dev.tc (sh c (dstOff k))) (rowM (sh c (srcOff k))) (.dma (sendNo k)) hsc) (.dma (recvNo k)) hsrc hdst hsem) kont) Q := by
  unfold toSend mine
  iintro ⟨#HI, #HL, HT, ⟨%W, HO⟩, ⟨⟨Htr, ⟨⟨%fd, Hd⟩, #Hrr⟩, Hts, #Hrs, Hat⟩, HB⟩, HC, HD, HD', Hsrc, HX⟩
  ihave #HIs := hIs $$ HI
  ihave #HIr := hIr $$ HI
  iapply (Rounds.wp_send_pointsTo 𝒱₀ ER (gatherRd G) (c : Thread nD τ) none (c' := (sh c (dstOff k) : Thread nD τ)) (src := rowM (sh c (srcOff k))) (dst := rowM (sh c (srcOff k)))
      (sS := .dma (sendNo k)) (sem := .dma (recvNo k)) (q := lent k) (fs := G) (κ₁ := K (sendCell c k)) (κ₂ := K (recvCell (sh c (dstOff k)) k))
      (r₁ := 0) (r₂ := 0) (d₁ := 0) (d₂ := 0) (fd := fd)
      (by rw [duties_dma]; exact Finset.mem_singleton_self _) (by rw [duties_dma]; exact Finset.mem_singleton_self _)
      () () N rfl (amount_dma G c _ 0) (amount_dma G (sh c (dstOff k)) _ 0) O₂ hO (W := W)
      (by rw [payload_send])
      (by rw [payload_recv, src_rcv]; exact Entails.of_eq (landed_eq G c (sh c (dstOff k)) (sh c (srcOff k)) fd))) $$ [Hsrc Hd HO Hts Htr]
  · isplitr; · iexact HIs
    isplitr; · iexact HIr
    isplitl [Hsrc]; · iexact Hsrc
    isplitl [Hd]; · rw [src_rcv]; iexact Hd
    isplitl [HO]; · iexact HO
    isplitl [Hts]; · iexact Hts
    isplitr; · iexact Hrs
    isplitl [Htr]; · iexact Htr
    iexact Hrr
  iintro ⟨Hc, HO⟩
  iapply hk
  isplitr; · iexact HI
  isplitr; · iexact HL
  isplitl [HT]; · iexact HT
  isplitl [HO]; · iexists W; iexact HO
  isplitl [HB]; · iexact HB
  isplitl [HC Hc Hat]
  · isplitl [Hc Hat]
    · unfold sent
      isplitl [Hc] <;> iassumption
    iexact HC
  isplitl [HD]; · iexact HD
  isplitl [HD'] <;> iassumption

/-- Issuing transfer `k`. -/
theorem send_step (k : Fin 31) {s r : ℕ} {X : sProp 𝕄} (hs : k.val = s) {p : Dev nD} (hp : p = sh c (dstOff k))
    {off : Fin 2 → ℕ} (hoff : off = ![64 * (sh c (srcOff k)).val, 0]) {hinb : ∀ a, off a + S64x2048.size a ≤ S2048x2048.size a}
    {sS sR : DmaSem sig} (hS : sS = sendNo k) (hR : sR = recvNo k)
    {hu : ∀ a, (Rect.unit (s := S2048x2048) off S64x2048.size hinb).stride a = 1} {hsc : (gxM.slice (Rect.unit (s := S2048x2048) off S64x2048.size hinb) hu).view.ref.isScScratch = false}
    {hsrc hdst : (gxM.slice (Rect.unit (s := S2048x2048) off S64x2048.size hinb) hu).view.WordExact}
    {hsem : DmaTarget.Typed .vmem (.dma sR) (.remote (Dev.tc p) (gxM.slice (Rect.unit (s := S2048x2048) off S64x2048.size hinb) hu) (.dma sS) hsc)}
    {kont : PUnit → Prog (TpuEff nD τ sig (Elt F) Λ₀ .tc) α}
    (hk : St G K c (s + 1) r X ⊢ WP defs c (kont ⟨⟩) Q) :
    St G K c s r iprop(src G c k ∗ X) ⊢ WP defs c (Prog.lift (.enqueueDma (gxM.slice (Rect.unit (s := S2048x2048) off S64x2048.size hinb) hu)
      (.remote (Dev.tc p) (gxM.slice (Rect.unit (s := S2048x2048) off S64x2048.size hinb) hu) (.dma sS) hsc) (.dma sR) hsrc hdst hsem) >>= kont) Q := by
  subst hp hoff hS hR
  rw [lift_bind]
  unfold St
  rw [filter_succ k hs, bigSep_ins (filter_succ_not_mem k hs)]
  unfold St at hk
  rw [filter_lt_succ k hs, bigSep_ins (filter_lt_not_mem k hs)] at hk
  exact send_core G K k (OS_succ c k hs) (invs_at G K (send_mem c k)) (invs_at G K (recv_mem (sh c (dstOff k)) k)) hk

/-- Waiting for transfer `k` to arrive, whatever else is held. -/
theorem recv_core (k : Fin 31) {I B C D D' T X X' : sProp 𝕄} [BI.Persistent I] {O : CellTallies nD τ sig Unit}
    (hM : (levAts L lv : sProp 𝕄) ⊢ MayWait (c : Thread nD τ) (.dma (recvNo k)) () O)
    (hIr : I ⊢ cellInv ER (gatherRd G) (K (recvCell c k)) (recvCell c k))
    {off : Fin 2 → ℕ} {hinb : ∀ a, off a + S64x2048.size a ≤ S2048x2048.size a}
    {hu : ∀ a, (Rect.unit (s := S2048x2048) off S64x2048.size hinb).stride a = 1}
    {hsrc hdst : (gxM.slice (Rect.unit (s := S2048x2048) off S64x2048.size hinb) hu).view.WordExact}
    {kont : PUnit → Prog (TpuEff nD τ sig (Elt F) Λ₀ .tc) α}
    (hX : iprop(row G c (sh c (rcvOff k)) fullShare.right ∗ X) ⊢ X')
    (hk : iprop(I ∗ levAts L lv ∗ T ∗ (∃ W, owes (c : Thread nD τ) O W) ∗ B ∗ C ∗ D ∗ (received G c k ∗ D') ∗ X') ⊢ WP defs c (kont ⟨⟩) Q) :
    iprop(I ∗ levAts L lv ∗ T ∗ (∃ W, owes (c : Thread nD τ) O W) ∗ B ∗ C ∗ (toRecv c k ∗ D) ∗ D' ∗ X)
      ⊢ WP defs c (.op (.waitDma2 (recvNo k) (gxM.slice (Rect.unit (s := S2048x2048) off S64x2048.size hinb) hu)
        (gxM.slice (Rect.unit (s := S2048x2048) off S64x2048.size hinb) hu) hsrc hdst) kont) Q := by
  unfold toRecv
  iintro ⟨#HI, #HL, HT, ⟨%W, HO⟩, HB, HC, ⟨⟨Hc, Hat⟩, HD⟩, HD', HX⟩
  ihave #HIr := hIr $$ HI
  iapply (Rounds.wp_wait_rest_token 𝒱₀ ER (gatherRd G) (c : Thread nD τ) none (κ := K (recvCell c k))
      (wpE_waitDma2_eq (hsrc := hsrc) (hdst := hdst) 𝒱₀ (c : Thread nD τ) none Set.univ) (Set.mem_univ _) () (O := O) (W := W) (R := 0) (m := 0) (T := ∅)
      ((Nat.zero_add _).trans (expect_dma G c (recvNo k)).symm)) $$ [Hc HO Hat]
  · isplitr; · iexact HIr
    isplitl [Hc]; · iexact Hc
    isplitl [HO]; · iexact HO
    isplitr; · iapply hM; iexact HL
    iexact Hat
  iintro ⟨HO, Hat, -, Hpay⟩
  ihave Hrow := (Entails.of_eq (rest_recv G c k)) $$ Hpay
  ihave Hrow := (src_full G c k).1 $$ Hrow
  icases Hrow with ⟨Hl, Hr⟩
  ihave HX := hX $$ [Hr HX]
  · isplitl [Hr] <;> iassumption
  iapply hk
  isplitr; · iexact HI
  isplitr; · iexact HL
  isplitl [HT]; · iexact HT
  isplitl [HO]; · iexists _; iexact HO
  isplitl [HB]; · iexact HB
  isplitl [HC]; · iexact HC
  isplitl [HD]; · iexact HD
  isplitl [HD' Hl Hat]
  · isplitl [Hl Hat]
    · unfold received
      isplitl [Hl]; · iexact Hl
      iexact Hat
    iexact HD'
  iexact HX

/-- Waiting for transfer `k` to arrive: its rows come with it, the left half of them kept, the right half for the transfers
    that pass them on. -/
theorem recv_step (k : Fin 31) {s r : ℕ} {X X' : sProp 𝕄} (hr : (turn k).val = r) (hks : k.val < s)
    {sR : DmaSem sig} (hR : sR = recvNo k) {off : Fin 2 → ℕ} {hinb : ∀ a, off a + S64x2048.size a ≤ S2048x2048.size a}
    {hu : ∀ a, (Rect.unit (s := S2048x2048) off S64x2048.size hinb).stride a = 1}
    {hsrc hdst : (gxM.slice (Rect.unit (s := S2048x2048) off S64x2048.size hinb) hu).view.WordExact}
    {kont : PUnit → Prog (TpuEff nD τ sig (Elt F) Λ₀ .tc) α}
    (hX : iprop(row G c (sh c (rcvOff k)) fullShare.right ∗ X) ⊢ X')
    (hk : St G K c s (r + 1) X' ⊢ WP defs c (kont ⟨⟩) Q) :
    St G K c s r X ⊢ WP defs c (Prog.lift (.waitDma2 sR (gxM.slice (Rect.unit (s := S2048x2048) off S64x2048.size hinb) hu)
      (gxM.slice (Rect.unit (s := S2048x2048) off S64x2048.size hinb) hu) hsrc hdst) >>= kont) Q := by
  subst hR
  rw [lift_bind]
  unfold St
  rw [turn_ge_succ k hr, bigSep_ins (turn_ge_not_mem k hr)]
  unfold St at hk
  rw [turn_lt_succ k hr, bigSep_ins (turn_lt_not_mem k hr)] at hk
  exact recv_core G K k (mayWait_recv c k s hks) (invs_at G K (recv_mem c k)) hX hk

/-! ## The waits for the transfers to have left -/

def backed (c : Dev nD) (k : Fin 31) : sProp 𝕄 := iprop(src G c k ∗ atPos ER (sendCell c k) 1 ∅ 0)

/-- The state when the first `n` transfers are known to have left. -/
def Sw (c : Dev nD) (n : ℕ) (X : sProp 𝕄) : sProp 𝕄 :=
  iprop(invs G K ∗ (∃ W, owes (c : Thread nD τ) (0 : CellTallies nD τ sig Unit) W)
    ∗ bigSep (Finset.univ.filter fun k : Fin 31 => n ≤ k.val) (sent c)
    ∗ bigSep (Finset.univ.filter fun k : Fin 31 => k.val < n) (backed G c) ∗ X)

theorem left_core (k : Fin 31) {I B C X : sProp 𝕄} [BI.Persistent I]
    (hIs : I ⊢ cellInv ER (gatherRd G) (K (sendCell c k)) (sendCell c k))
    {off : Fin 2 → ℕ} {hinb : ∀ a, off a + S64x2048.size a ≤ S2048x2048.size a}
    {hu : ∀ a, (Rect.unit (s := S2048x2048) off S64x2048.size hinb).stride a = 1}
    {hsrc hdst : (gxM.slice (Rect.unit (s := S2048x2048) off S64x2048.size hinb) hu).view.WordExact}
    {kont : PUnit → Prog (TpuEff nD τ sig (Elt F) Λ₀ .tc) α}
    (hk : iprop(I ∗ (∃ W, owes (c : Thread nD τ) (0 : CellTallies nD τ sig Unit) W) ∗ B ∗ (backed G c k ∗ C) ∗ X) ⊢ WP defs c (kont ⟨⟩) Q) :
    iprop(I ∗ (∃ W, owes (c : Thread nD τ) (0 : CellTallies nD τ sig Unit) W) ∗ (sent c k ∗ B) ∗ C ∗ X)
      ⊢ WP defs c (.op (.waitDma2 (sendNo k) (gxM.slice (Rect.unit (s := S2048x2048) off S64x2048.size hinb) hu)
        (gxM.slice (Rect.unit (s := S2048x2048) off S64x2048.size hinb) hu) hsrc hdst) kont) Q := by
  unfold sent
  iintro ⟨#HI, ⟨%W, HO⟩, ⟨⟨Hc, Hat⟩, HB⟩, HC, HX⟩
  ihave #HIs := hIs $$ HI
  iapply (Rounds.wp_wait_rest_token 𝒱₀ ER (gatherRd G) (c : Thread nD τ) none (κ := K (sendCell c k))
      (wpE_waitDma2_eq (hsrc := hsrc) (hdst := hdst) 𝒱₀ (c : Thread nD τ) none Set.univ) (Set.mem_univ _) () (O := 0) (W := W) (R := 0) (m := 0) (T := ∅)
      ((Nat.zero_add _).trans (expect_dma G c (sendNo k)).symm)) $$ [Hc HO Hat]
  · isplitr; · iexact HIs
    isplitl [Hc]; · iexact Hc
    isplitl [HO]; · iexact HO
    isplitr; · rw [MayWait_zero]; iempintro
    iexact Hat
  iintro ⟨HO, Hat, -, Hpay⟩
  ihave Hsrc := (Entails.of_eq (rest_send G c k)) $$ Hpay
  iapply hk
  isplitr; · iexact HI
  isplitl [HO]; · iexists _; iexact HO
  isplitl [HB]; · iexact HB
  isplitl [HC Hsrc Hat]
  · isplitl [Hsrc Hat]
    · unfold backed
      isplitl [Hsrc]; · iexact Hsrc
      iexact Hat
    iexact HC
  iexact HX

/-- Waiting for transfer `k` to have left: the rows it read come back. -/
theorem left_step (k : Fin 31) {n : ℕ} {X : sProp 𝕄} (hn : k.val = n)
    {sS : DmaSem sig} (hS : sS = sendNo k) {off : Fin 2 → ℕ} {hinb : ∀ a, off a + S64x2048.size a ≤ S2048x2048.size a}
    {hu : ∀ a, (Rect.unit (s := S2048x2048) off S64x2048.size hinb).stride a = 1}
    {hsrc hdst : (gxM.slice (Rect.unit (s := S2048x2048) off S64x2048.size hinb) hu).view.WordExact}
    {kont : PUnit → Prog (TpuEff nD τ sig (Elt F) Λ₀ .tc) α}
    (hk : Sw G K c (n + 1) X ⊢ WP defs c (kont ⟨⟩) Q) :
    Sw G K c n X ⊢ WP defs c (Prog.lift (.waitDma2 sS (gxM.slice (Rect.unit (s := S2048x2048) off S64x2048.size hinb) hu)
      (gxM.slice (Rect.unit (s := S2048x2048) off S64x2048.size hinb) hu) hsrc hdst) >>= kont) Q := by
  subst hS
  rw [lift_bind]
  unfold Sw
  rw [filter_succ k hn, bigSep_ins (filter_succ_not_mem k hn)]
  unfold Sw at hk
  rw [filter_lt_succ k hn, bigSep_ins (filter_lt_not_mem k hn)] at hk
  exact left_core G K k (invs_at G K (send_mem c k)) hk

/-- The end of a part. -/
theorem pure_step {X : sProp 𝕄} {a : α} (h : X ⊢ Q a) : X ⊢ WP defs c (pure a) Q := by
  show X ⊢ iprop(|={Set.univ}[frame]=> Q a)
  exact h.trans fupd_intro

/-! ## The words a transfer uses -/

theorem to_dev (k : Fin 31) {i : Fin 37} (hi : i.val < 3) (h : wordOff i = dstOff k) {p : Dev nD}
    (hp : p.val = (Scalar.addi 0#32 (Scalar.muli (word c i) 1#32)).toNat) : p = sh c (dstOff k) :=
  Fin.ext (hp.trans (dev_eq (by rw [word_dev c i hi, h])))
theorem to_row (k : Fin 31) {i : Fin 37} (hi : ¬ i.val < 3) (h : wordOff i = srcOff k) :
    (![(Scalar.addi (word c i) 0#32).toNat, 0] : Fin 2 → ℕ) = ![64 * (sh c (srcOff k)).val, 0] :=
  row_off (by rw [word_row c i hi, h])

/-! ## Passing rows on -/

/-- The right half of rows that are passed on to no one. -/
abbrev spare (c : Dev nD) (k : Fin 31) : sProp 𝕄 := row G c (sh c (rcvOff k)) fullShare.right

theorem lent_pass (k : Fin 31) (h : 3 ≤ k.val ∧ k.val ≠ 5 ∧ k.val ≠ 6) : lent k = fullShare.right := by
  unfold lent
  rw [if_neg (by omega), if_neg (by omega), if_neg (by omega), if_neg h.2.1, if_neg h.2.2]
theorem pass_one (k k' : Fin 31) {X : sProp 𝕄} (h : rcvOff k = srcOff k') (hl : 3 ≤ k'.val ∧ k'.val ≠ 5 ∧ k'.val ≠ 6) :
    iprop(row G c (sh c (rcvOff k)) fullShare.right ∗ X) ⊢ iprop(src G c k' ∗ X) := by
  unfold src
  rw [h, lent_pass k' hl]
theorem pass_two {X : sProp 𝕄} :
    iprop(row G c (sh c (rcvOff 0)) fullShare.right ∗ X) ⊢ iprop(src G c 5 ∗ src G c 6 ∗ X) := by
  have h5 : (src G c 5 : sProp 𝕄) = row G c (sh c (rcvOff 0)) fullShare.right.left := by
    unfold src; rw [show srcOff 5 = rcvOff 0 from by decide, show lent 5 = fullShare.right.left from by unfold lent; simp]
  have h6 : (src G c 6 : sProp 𝕄) = row G c (sh c (rcvOff 0)) fullShare.right.right := by
    unfold src; rw [show srcOff 6 = rcvOff 0 from by decide, show lent 6 = fullShare.right.right from by unfold lent; simp]
  rw [h5, h6]
  iintro ⟨Hr, HX⟩
  ihave Hr := (pointsTo_share (PosShare.mem_left_op_right fullShare.right)).1 $$ Hr
  icases Hr with ⟨Hl, Hr⟩
  isplitl [Hl]; · iexact Hl
  isplitl [Hr] <;> iassumption

end Cert.KernelIdeal.Gather
-- ==== Proof.KernelIdeal.PartsA.lean ====
/-
  The gather, parts 2 to 6: the first transfers, and the first rows passed on.
-/
module

public import proofs.«01_k».proof.Proof.Gen.KernelIdeal.Skeleton
public import proofs.«01_k».proof.Proof.KernelIdeal.Steps

@[expose] public section

set_option maxRecDepth 16384

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Ring Cert.KernelIdeal.Gen

variable {F : FTy → Type} [FloatOps F]
variable (G : Gx F) (K : GSem nD τ sig → ℕ) {c : Dev nD} {defs : Defs nD τ sig (Elt F) Λ₀}
variable {B : sProp (MT nD τ sig Unit (Elt F) ℕ UU ℕ)}

set_option maxHeartbeats 1000000 in
theorem part2 {h2 : k0_chk2 (word c ⟨0, by decide⟩)} {h3 : k0_chk3 (word c ⟨1, by decide⟩)} {h4 : k0_chk4 (word c ⟨2, by decide⟩)} {h5 : k0_chk5 (word c ⟨3, by decide⟩)} {Q}
    (hk : St G K c 3 0 B ⊢ Q ⟨(word c ⟨3, by decide⟩), chk6 (word_row c ⟨3, by decide⟩ (by decide)), (word c ⟨20, by decide⟩), chk7 (word_row c ⟨20, by decide⟩ (by decide)), (word c ⟨4, by decide⟩), chk8 (word_row c ⟨4, by decide⟩ (by decide))⟩) :
    St G K c 0 0 iprop(src G c 0 ∗ src G c 1 ∗ src G c 2 ∗ B) ⊢ WP defs c (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10
      (word c ⟨0, by decide⟩) h2 (word c ⟨1, by decide⟩) h3 (word c ⟨2, by decide⟩) h4 (word c ⟨3, by decide⟩) h5) Q := by
  rw [k0_part2_eq_skeleton]; unfold k0_part2_skel
  refine send_step G K 0 rfl ?_ ?_ ?_ ?_ ?_
  · exact to_dev 0 (i := ⟨2, by decide⟩) (by decide) (by decide) rfl
  · exact to_row 0 (i := ⟨3, by decide⟩) (by decide) (by decide)
  · rfl
  · rfl
  refine word_step G K (i := 3) (by decide) ?_
  refine assume_step (chk6 (word_row c ⟨3, by decide⟩ (by decide))) ?_
  refine send_step G K 1 rfl ?_ ?_ ?_ ?_ ?_
  · exact to_dev 1 (i := ⟨0, by decide⟩) (by decide) (by decide) rfl
  · exact to_row 1 (i := ⟨3, by decide⟩) (by decide) (by decide)
  · rfl
  · rfl
  refine word_step G K (i := 20) (by decide) ?_
  refine assume_step (chk7 (word_row c ⟨20, by decide⟩ (by decide))) ?_
  refine send_step G K 2 rfl ?_ ?_ ?_ ?_ ?_
  · exact to_dev 2 (i := ⟨1, by decide⟩) (by decide) (by decide) rfl
  · exact to_row 2 (i := ⟨20, by decide⟩) (by decide) (by decide)
  · rfl
  · rfl
  refine word_step G K (i := 4) (by decide) ?_
  refine assume_step (chk8 (word_row c ⟨4, by decide⟩ (by decide))) ?_
  exact pure_step hk

set_option maxHeartbeats 1000000 in
theorem part3 {h2 : k0_chk2 (word c ⟨0, by decide⟩)} {h8 : k0_chk8 (word c ⟨4, by decide⟩)} {Q}
    (hk : St G K c 4 2 iprop(src G c 4 ∗ B) ⊢ Q ⟨(word c ⟨4, by decide⟩), chk9 (word_row c ⟨4, by decide⟩ (by decide)), (word c ⟨21, by decide⟩), chk11 (word_row c ⟨21, by decide⟩ (by decide))⟩) :
    St G K c 3 0 B ⊢ WP defs c (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10
      (word c ⟨0, by decide⟩) h2 (word c ⟨1, by decide⟩) (word c ⟨4, by decide⟩) h8) Q := by
  rw [k0_part3_eq_skeleton]; unfold k0_part3_skel
  refine recv_step G K 1 (X' := iprop(src G c 3 ∗ B)) (by decide) (by decide) ?_ ?_ ?_
  · rfl
  · exact pass_one G 1 3 (by decide) (by decide)
  refine word_step G K (i := 4) (by decide) ?_
  refine assume_step (chk9 (word_row c ⟨4, by decide⟩ (by decide))) ?_
  refine send_step G K 3 rfl ?_ ?_ ?_ ?_ ?_
  · exact to_dev 3 (i := ⟨0, by decide⟩) (by decide) (by decide) rfl
  · exact to_row 3 (i := ⟨4, by decide⟩) (by decide) (by decide)
  · rfl
  · rfl
  refine word_step G K (i := 21) (by decide) ?_
  refine assume_step (chk10 (word_row c ⟨21, by decide⟩ (by decide))) ?_
  refine recv_step G K 2 (X' := iprop(src G c 4 ∗ B)) (by decide) (by decide) ?_ ?_ ?_
  · rfl
  · exact pass_one G 2 4 (by decide) (by decide)
  refine word_step G K (i := 21) (by decide) ?_
  refine assume_step (chk11 (word_row c ⟨21, by decide⟩ (by decide))) ?_
  exact pure_step hk

set_option maxHeartbeats 1000000 in
theorem part4 {h3 : k0_chk3 (word c ⟨1, by decide⟩)} {h11 : k0_chk11 (word c ⟨21, by decide⟩)} {Q}
    (hk : St G K c 5 3 iprop(src G c 5 ∗ src G c 6 ∗ B) ⊢ Q ⟨(word c ⟨12, by decide⟩), chk13 (word_row c ⟨12, by decide⟩ (by decide))⟩) :
    St G K c 4 2 iprop(src G c 4 ∗ B) ⊢ WP defs c (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10
      (word c ⟨0, by decide⟩) (word c ⟨1, by decide⟩) h3 (word c ⟨2, by decide⟩) (word c ⟨21, by decide⟩) h11) Q := by
  rw [k0_part4_eq_skeleton]; unfold k0_part4_skel
  refine send_step G K 4 rfl ?_ ?_ ?_ ?_ ?_
  · exact to_dev 4 (i := ⟨1, by decide⟩) (by decide) (by decide) rfl
  · exact to_row 4 (i := ⟨21, by decide⟩) (by decide) (by decide)
  · rfl
  · rfl
  refine word_step G K (i := 12) (by decide) ?_
  refine assume_step (chk12 (word_row c ⟨12, by decide⟩ (by decide))) ?_
  refine recv_step G K 0 (X' := iprop(src G c 5 ∗ src G c 6 ∗ B)) (by decide) (by decide) ?_ ?_ ?_
  · rfl
  · exact pass_two G
  refine word_step G K (i := 12) (by decide) ?_
  refine assume_step (chk13 (word_row c ⟨12, by decide⟩ (by decide))) ?_
  exact pure_step hk

set_option maxHeartbeats 1000000 in
theorem part5 {h2 : k0_chk2 (word c ⟨0, by decide⟩)} {h3 : k0_chk3 (word c ⟨1, by decide⟩)} {h13 : k0_chk13 (word c ⟨12, by decide⟩)} {Q}
    (hk : St G K c 7 4 iprop(src G c 7 ∗ B) ⊢ Q ⟨(word c ⟨29, by decide⟩), chk14 (word_row c ⟨29, by decide⟩ (by decide)), (word c ⟨5, by decide⟩), chk16 (word_row c ⟨5, by decide⟩ (by decide))⟩) :
    St G K c 5 3 iprop(src G c 5 ∗ src G c 6 ∗ B) ⊢ WP defs c (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10
      (word c ⟨0, by decide⟩) h2 (word c ⟨1, by decide⟩) h3 (word c ⟨12, by decide⟩) h13) Q := by
  rw [k0_part5_eq_skeleton]; unfold k0_part5_skel
  refine send_step G K 5 rfl ?_ ?_ ?_ ?_ ?_
  · exact to_dev 5 (i := ⟨0, by decide⟩) (by decide) (by decide) rfl
  · exact to_row 5 (i := ⟨12, by decide⟩) (by decide) (by decide)
  · rfl
  · rfl
  refine word_step G K (i := 29) (by decide) ?_
  refine assume_step (chk14 (word_row c ⟨29, by decide⟩ (by decide))) ?_
  refine send_step G K 6 rfl ?_ ?_ ?_ ?_ ?_
  · exact to_dev 6 (i := ⟨1, by decide⟩) (by decide) (by decide) rfl
  · exact to_row 6 (i := ⟨29, by decide⟩) (by decide) (by decide)
  · rfl
  · rfl
  refine word_step G K (i := 5) (by decide) ?_
  refine assume_step (chk15 (word_row c ⟨5, by decide⟩ (by decide))) ?_
  refine recv_step G K 3 (X' := iprop(src G c 7 ∗ B)) (by decide) (by decide) ?_ ?_ ?_
  · rfl
  · exact pass_one G 3 7 (by decide) (by decide)
  refine word_step G K (i := 5) (by decide) ?_
  refine assume_step (chk16 (word_row c ⟨5, by decide⟩ (by decide))) ?_
  exact pure_step hk

set_option maxHeartbeats 1000000 in
theorem part6 {h2 : k0_chk2 (word c ⟨0, by decide⟩)} {h3 : k0_chk3 (word c ⟨1, by decide⟩)} {h16 : k0_chk16 (word c ⟨5, by decide⟩)} {Q}
    (hk : St G K c 9 5 B ⊢ Q ⟨(word c ⟨22, by decide⟩), chk18 (word_row c ⟨22, by decide⟩ (by decide)), (word c ⟨13, by decide⟩), chk19 (word_row c ⟨13, by decide⟩ (by decide))⟩) :
    St G K c 7 4 iprop(src G c 7 ∗ B) ⊢ WP defs c (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10
      (word c ⟨0, by decide⟩) h2 (word c ⟨1, by decide⟩) h3 (word c ⟨5, by decide⟩) h16) Q := by
  rw [k0_part6_eq_skeleton]; unfold k0_part6_skel
  refine send_step G K 7 rfl ?_ ?_ ?_ ?_ ?_
  · exact to_dev 7 (i := ⟨0, by decide⟩) (by decide) (by decide) rfl
  · exact to_row 7 (i := ⟨5, by decide⟩) (by decide) (by decide)
  · rfl
  · rfl
  refine word_step G K (i := 22) (by decide) ?_
  refine assume_step (chk17 (word_row c ⟨22, by decide⟩ (by decide))) ?_
  refine recv_step G K 4 (X' := iprop(src G c 8 ∗ B)) (by decide) (by decide) ?_ ?_ ?_
  · rfl
  · exact pass_one G 4 8 (by decide) (by decide)
  refine word_step G K (i := 22) (by decide) ?_
  refine assume_step (chk18 (word_row c ⟨22, by decide⟩ (by decide))) ?_
  refine send_step G K 8 rfl ?_ ?_ ?_ ?_ ?_
  · exact to_dev 8 (i := ⟨1, by decide⟩) (by decide) (by decide) rfl
  · exact to_row 8 (i := ⟨22, by decide⟩) (by decide) (by decide)
  · rfl
  · rfl
  refine word_step G K (i := 13) (by decide) ?_
  refine assume_step (chk19 (word_row c ⟨13, by decide⟩ (by decide))) ?_
  exact pure_step hk

end Cert.KernelIdeal.Gather
-- ==== Proof.KernelIdeal.PartsB.lean ====
/-
  The gather, parts 7 to 11.
-/
module

public import proofs.«01_k».proof.Proof.Gen.KernelIdeal.Skeleton
public import proofs.«01_k».proof.Proof.KernelIdeal.Steps

@[expose] public section

set_option maxRecDepth 16384

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Ring Cert.KernelIdeal.Gen

variable {F : FTy → Type} [FloatOps F]
variable (G : Gx F) (K : GSem nD τ sig → ℕ) {c : Dev nD} {defs : Defs nD τ sig (Elt F) Λ₀}
variable {B : sProp (MT nD τ sig Unit (Elt F) ℕ UU ℕ)}

set_option maxHeartbeats 1000000 in
theorem part7 {h2 : k0_chk2 (word c ⟨0, by decide⟩)} {h19 : k0_chk19 (word c ⟨13, by decide⟩)} {Q}
    (hk : St G K c 10 7 iprop(src G c 10 ∗ B) ⊢ Q ⟨(word c ⟨13, by decide⟩), chk20 (word_row c ⟨13, by decide⟩ (by decide)), (word c ⟨30, by decide⟩)⟩) :
    St G K c 9 5 B ⊢ WP defs c (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10
      (word c ⟨0, by decide⟩) h2 (word c ⟨1, by decide⟩) (word c ⟨13, by decide⟩) h19) Q := by
  rw [k0_part7_eq_skeleton]; unfold k0_part7_skel
  refine recv_step G K 5 (X' := iprop(src G c 9 ∗ B)) (by decide) (by decide) ?_ ?_ ?_
  · rfl
  · exact pass_one G 5 9 (by decide) (by decide)
  refine word_step G K (i := 13) (by decide) ?_
  refine assume_step (chk20 (word_row c ⟨13, by decide⟩ (by decide))) ?_
  refine send_step G K 9 rfl ?_ ?_ ?_ ?_ ?_
  · exact to_dev 9 (i := ⟨0, by decide⟩) (by decide) (by decide) rfl
  · exact to_row 9 (i := ⟨13, by decide⟩) (by decide) (by decide)
  · rfl
  · rfl
  refine word_step G K (i := 30) (by decide) ?_
  refine assume_step (chk21 (word_row c ⟨30, by decide⟩ (by decide))) ?_
  refine recv_step G K 6 (X' := iprop(src G c 10 ∗ B)) (by decide) (by decide) ?_ ?_ ?_
  · rfl
  · exact pass_one G 6 10 (by decide) (by decide)
  refine word_step G K (i := 30) (by decide) ?_
  exact pure_step hk

set_option maxHeartbeats 1000000 in
theorem part8 {h3 : k0_chk3 (word c ⟨1, by decide⟩)} {Q : (Σ' (_ : k0_chk22 (word c ⟨30, by decide⟩)) (v211 : Elt F .i32), k0_chk24 v211) → sProp (MT nD τ sig Unit (Elt F) ℕ UU ℕ)}
    (hk : St G K c 11 8 iprop(src G c 11 ∗ B) ⊢ Q ⟨chk22 (word_row c ⟨30, by decide⟩ (by decide)), (word c ⟨6, by decide⟩), chk24 (word_row c ⟨6, by decide⟩ (by decide))⟩) :
    St G K c 10 7 iprop(src G c 10 ∗ B) ⊢ WP defs c (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10
      (word c ⟨0, by decide⟩) (word c ⟨1, by decide⟩) h3 (word c ⟨30, by decide⟩)) Q := by
  rw [k0_part8_eq_skeleton]; unfold k0_part8_skel
  refine assume_step (chk22 (word_row c ⟨30, by decide⟩ (by decide))) ?_
  refine send_step G K 10 rfl ?_ ?_ ?_ ?_ ?_
  · exact to_dev 10 (i := ⟨1, by decide⟩) (by decide) (by decide) rfl
  · exact to_row 10 (i := ⟨30, by decide⟩) (by decide) (by decide)
  · rfl
  · rfl
  refine word_step G K (i := 6) (by decide) ?_
  refine assume_step (chk23 (word_row c ⟨6, by decide⟩ (by decide))) ?_
  refine recv_step G K 7 (X' := iprop(src G c 11 ∗ B)) (by decide) (by decide) ?_ ?_ ?_
  · rfl
  · exact pass_one G 7 11 (by decide) (by decide)
  refine word_step G K (i := 6) (by decide) ?_
  refine assume_step (chk24 (word_row c ⟨6, by decide⟩ (by decide))) ?_
  exact pure_step hk

set_option maxHeartbeats 1000000 in
theorem part9 {h2 : k0_chk2 (word c ⟨0, by decide⟩)} {h3 : k0_chk3 (word c ⟨1, by decide⟩)} {h24 : k0_chk24 (word c ⟨6, by decide⟩)} {Q}
    (hk : St G K c 13 9 B ⊢ Q ⟨(word c ⟨23, by decide⟩), chk26 (word_row c ⟨23, by decide⟩ (by decide)), (word c ⟨14, by decide⟩), chk27 (word_row c ⟨14, by decide⟩ (by decide)), 1#32⟩) :
    St G K c 11 8 iprop(src G c 11 ∗ B) ⊢ WP defs c (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10
      (word c ⟨0, by decide⟩) h2 (word c ⟨1, by decide⟩) h3 (word c ⟨6, by decide⟩) h24) Q := by
  rw [k0_part9_eq_skeleton]; unfold k0_part9_skel
  refine send_step G K 11 rfl ?_ ?_ ?_ ?_ ?_
  · exact to_dev 11 (i := ⟨0, by decide⟩) (by decide) (by decide) rfl
  · exact to_row 11 (i := ⟨6, by decide⟩) (by decide) (by decide)
  · rfl
  · rfl
  refine word_step G K (i := 23) (by decide) ?_
  refine assume_step (chk25 (word_row c ⟨23, by decide⟩ (by decide))) ?_
  refine recv_step G K 8 (X' := iprop(src G c 12 ∗ B)) (by decide) (by decide) ?_ ?_ ?_
  · rfl
  · exact pass_one G 8 12 (by decide) (by decide)
  refine word_step G K (i := 23) (by decide) ?_
  refine assume_step (chk26 (word_row c ⟨23, by decide⟩ (by decide))) ?_
  refine send_step G K 12 rfl ?_ ?_ ?_ ?_ ?_
  · exact to_dev 12 (i := ⟨1, by decide⟩) (by decide) (by decide) rfl
  · exact to_row 12 (i := ⟨23, by decide⟩) (by decide) (by decide)
  · rfl
  · rfl
  refine word_step G K (i := 14) (by decide) ?_
  refine assume_step (chk27 (word_row c ⟨14, by decide⟩ (by decide))) ?_
  exact pure_step hk

set_option maxHeartbeats 1000000 in
theorem part10 {h2 : k0_chk2 (word c ⟨0, by decide⟩)} {h27 : k0_chk27 (word c ⟨14, by decide⟩)} {o : BitVec 32} {Q}
    (hk : St G K c 14 11 iprop(src G c 14 ∗ B) ⊢ Q ⟨(word c ⟨14, by decide⟩), chk28 (word_row c ⟨14, by decide⟩ (by decide)), (word c ⟨31, by decide⟩), chk30 (word_row c ⟨31, by decide⟩ (by decide))⟩) :
    St G K c 13 9 B ⊢ WP defs c (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10
      (word c ⟨0, by decide⟩) h2 (word c ⟨1, by decide⟩) (word c ⟨14, by decide⟩) h27 o) Q := by
  rw [k0_part10_eq_skeleton]; unfold k0_part10_skel
  refine recv_step G K 9 (X' := iprop(src G c 13 ∗ B)) (by decide) (by decide) ?_ ?_ ?_
  · rfl
  · exact pass_one G 9 13 (by decide) (by decide)
  refine word_step G K (i := 14) (by decide) ?_
  refine assume_step (chk28 (word_row c ⟨14, by decide⟩ (by decide))) ?_
  refine send_step G K 13 rfl ?_ ?_ ?_ ?_ ?_
  · exact to_dev 13 (i := ⟨0, by decide⟩) (by decide) (by decide) rfl
  · exact to_row 13 (i := ⟨14, by decide⟩) (by decide) (by decide)
  · rfl
  · rfl
  refine word_step G K (i := 31) (by decide) ?_
  refine assume_step (chk29 (word_row c ⟨31, by decide⟩ (by decide))) ?_
  refine recv_step G K 10 (X' := iprop(src G c 14 ∗ B)) (by decide) (by decide) ?_ ?_ ?_
  · rfl
  · exact pass_one G 10 14 (by decide) (by decide)
  refine word_step G K (i := 31) (by decide) ?_
  refine assume_step (chk30 (word_row c ⟨31, by decide⟩ (by decide))) ?_
  exact pure_step hk

set_option maxHeartbeats 1000000 in
theorem part11 {h3 : k0_chk3 (word c ⟨1, by decide⟩)} {h30 : k0_chk30 (word c ⟨31, by decide⟩)} {Q}
    (hk : St G K c 15 12 iprop(src G c 15 ∗ B) ⊢ Q ⟨(word c ⟨7, by decide⟩), chk32 (word_row c ⟨7, by decide⟩ (by decide))⟩) :
    St G K c 14 11 iprop(src G c 14 ∗ B) ⊢ WP defs c (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10
      (word c ⟨0, by decide⟩) (word c ⟨1, by decide⟩) h3 (word c ⟨31, by decide⟩) h30) Q := by
  rw [k0_part11_eq_skeleton]; unfold k0_part11_skel
  refine send_step G K 14 rfl ?_ ?_ ?_ ?_ ?_
  · exact to_dev 14 (i := ⟨1, by decide⟩) (by decide) (by decide) rfl
  · exact to_row 14 (i := ⟨31, by decide⟩) (by decide) (by decide)
  · rfl
  · rfl
  refine word_step G K (i := 7) (by decide) ?_
  refine assume_step (chk31 (word_row c ⟨7, by decide⟩ (by decide))) ?_
  refine recv_step G K 11 (X' := iprop(src G c 15 ∗ B)) (by decide) (by decide) ?_ ?_ ?_
  · rfl
  · exact pass_one G 11 15 (by decide) (by decide)
  refine word_step G K (i := 7) (by decide) ?_
  refine assume_step (chk32 (word_row c ⟨7, by decide⟩ (by decide))) ?_
  exact pure_step hk

end Cert.KernelIdeal.Gather
-- ==== Proof.KernelIdeal.PartsC.lean ====
/-
  The gather, parts 12 to 17.
-/
module

public import proofs.«01_k».proof.Proof.Gen.KernelIdeal.Skeleton
public import proofs.«01_k».proof.Proof.KernelIdeal.Steps

@[expose] public section

set_option maxRecDepth 16384

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Ring Cert.KernelIdeal.Gen

variable {F : FTy → Type} [FloatOps F]
variable (G : Gx F) (K : GSem nD τ sig → ℕ) {c : Dev nD} {defs : Defs nD τ sig (Elt F) Λ₀}
variable {B : sProp (MT nD τ sig Unit (Elt F) ℕ UU ℕ)}

set_option maxHeartbeats 1000000 in
theorem part12 {h2 : k0_chk2 (word c ⟨0, by decide⟩)} {h3 : k0_chk3 (word c ⟨1, by decide⟩)} {h32 : k0_chk32 (word c ⟨7, by decide⟩)} {Q}
    (hk : St G K c 17 13 B ⊢ Q ⟨(word c ⟨24, by decide⟩), chk34 (word_row c ⟨24, by decide⟩ (by decide)), (word c ⟨15, by decide⟩), chk35 (word_row c ⟨15, by decide⟩ (by decide))⟩) :
    St G K c 15 12 iprop(src G c 15 ∗ B) ⊢ WP defs c (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10
      (word c ⟨0, by decide⟩) h2 (word c ⟨1, by decide⟩) h3 (word c ⟨7, by decide⟩) h32) Q := by
  rw [k0_part12_eq_skeleton]; unfold k0_part12_skel
  refine send_step G K 15 rfl ?_ ?_ ?_ ?_ ?_
  · exact to_dev 15 (i := ⟨0, by decide⟩) (by decide) (by decide) rfl
  · exact to_row 15 (i := ⟨7, by decide⟩) (by decide) (by decide)
  · rfl
  · rfl
  refine word_step G K (i := 24) (by decide) ?_
  refine assume_step (chk33 (word_row c ⟨24, by decide⟩ (by decide))) ?_
  refine recv_step G K 12 (X' := iprop(src G c 16 ∗ B)) (by decide) (by decide) ?_ ?_ ?_
  · rfl
  · exact pass_one G 12 16 (by decide) (by decide)
  refine word_step G K (i := 24) (by decide) ?_
  refine assume_step (chk34 (word_row c ⟨24, by decide⟩ (by decide))) ?_
  refine send_step G K 16 rfl ?_ ?_ ?_ ?_ ?_
  · exact to_dev 16 (i := ⟨1, by decide⟩) (by decide) (by decide) rfl
  · exact to_row 16 (i := ⟨24, by decide⟩) (by decide) (by decide)
  · rfl
  · rfl
  refine word_step G K (i := 15) (by decide) ?_
  refine assume_step (chk35 (word_row c ⟨15, by decide⟩ (by decide))) ?_
  exact pure_step hk

set_option maxHeartbeats 1000000 in
theorem part13 {h2 : k0_chk2 (word c ⟨0, by decide⟩)} {h35 : k0_chk35 (word c ⟨15, by decide⟩)} {Q}
    (hk : St G K c 18 15 iprop(src G c 18 ∗ B) ⊢ Q ⟨(word c ⟨15, by decide⟩), chk36 (word_row c ⟨15, by decide⟩ (by decide)), (word c ⟨32, by decide⟩), chk38 (word_row c ⟨32, by decide⟩ (by decide))⟩) :
    St G K c 17 13 B ⊢ WP defs c (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10
      (word c ⟨0, by decide⟩) h2 (word c ⟨1, by decide⟩) (word c ⟨15, by decide⟩) h35) Q := by
  rw [k0_part13_eq_skeleton]; unfold k0_part13_skel
  refine recv_step G K 13 (X' := iprop(src G c 17 ∗ B)) (by decide) (by decide) ?_ ?_ ?_
  · rfl
  · exact pass_one G 13 17 (by decide) (by decide)
  refine word_step G K (i := 15) (by decide) ?_
  refine assume_step (chk36 (word_row c ⟨15, by decide⟩ (by decide))) ?_
  refine send_step G K 17 rfl ?_ ?_ ?_ ?_ ?_
  · exact to_dev 17 (i := ⟨0, by decide⟩) (by decide) (by decide) rfl
  · exact to_row 17 (i := ⟨15, by decide⟩) (by decide) (by decide)
  · rfl
  · rfl
  refine word_step G K (i := 32) (by decide) ?_
  refine assume_step (chk37 (word_row c ⟨32, by decide⟩ (by decide))) ?_
  refine recv_step G K 14 (X' := iprop(src G c 18 ∗ B)) (by decide) (by decide) ?_ ?_ ?_
  · rfl
  · exact pass_one G 14 18 (by decide) (by decide)
  refine word_step G K (i := 32) (by decide) ?_
  refine assume_step (chk38 (word_row c ⟨32, by decide⟩ (by decide))) ?_
  exact pure_step hk

set_option maxHeartbeats 1000000 in
theorem part14 {h2 : k0_chk2 (word c ⟨0, by decide⟩)} {h3 : k0_chk3 (word c ⟨1, by decide⟩)} {h38 : k0_chk38 (word c ⟨32, by decide⟩)} {Q}
    (hk : St G K c 20 16 B ⊢ Q ⟨(word c ⟨8, by decide⟩), chk40 (word_row c ⟨8, by decide⟩ (by decide)), (word c ⟨25, by decide⟩), chk41 (word_row c ⟨25, by decide⟩ (by decide))⟩) :
    St G K c 18 15 iprop(src G c 18 ∗ B) ⊢ WP defs c (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10
      (word c ⟨0, by decide⟩) h2 (word c ⟨1, by decide⟩) h3 (word c ⟨32, by decide⟩) h38) Q := by
  rw [k0_part14_eq_skeleton]; unfold k0_part14_skel
  refine send_step G K 18 rfl ?_ ?_ ?_ ?_ ?_
  · exact to_dev 18 (i := ⟨1, by decide⟩) (by decide) (by decide) rfl
  · exact to_row 18 (i := ⟨32, by decide⟩) (by decide) (by decide)
  · rfl
  · rfl
  refine word_step G K (i := 8) (by decide) ?_
  refine assume_step (chk39 (word_row c ⟨8, by decide⟩ (by decide))) ?_
  refine recv_step G K 15 (X' := iprop(src G c 19 ∗ B)) (by decide) (by decide) ?_ ?_ ?_
  · rfl
  · exact pass_one G 15 19 (by decide) (by decide)
  refine word_step G K (i := 8) (by decide) ?_
  refine assume_step (chk40 (word_row c ⟨8, by decide⟩ (by decide))) ?_
  refine send_step G K 19 rfl ?_ ?_ ?_ ?_ ?_
  · exact to_dev 19 (i := ⟨0, by decide⟩) (by decide) (by decide) rfl
  · exact to_row 19 (i := ⟨8, by decide⟩) (by decide) (by decide)
  · rfl
  · rfl
  refine word_step G K (i := 25) (by decide) ?_
  refine assume_step (chk41 (word_row c ⟨25, by decide⟩ (by decide))) ?_
  exact pure_step hk

set_option maxHeartbeats 1000000 in
theorem part15 {h3 : k0_chk3 (word c ⟨1, by decide⟩)} {h41 : k0_chk41 (word c ⟨25, by decide⟩)} {Q}
    (hk : St G K c 21 17 B ⊢ Q ⟨(word c ⟨25, by decide⟩), chk42 (word_row c ⟨25, by decide⟩ (by decide)), (word c ⟨16, by decide⟩), chk43 (word_row c ⟨16, by decide⟩ (by decide))⟩) :
    St G K c 20 16 B ⊢ WP defs c (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10
      (word c ⟨0, by decide⟩) (word c ⟨1, by decide⟩) h3 (word c ⟨25, by decide⟩) h41) Q := by
  rw [k0_part15_eq_skeleton]; unfold k0_part15_skel
  refine recv_step G K 16 (X' := iprop(src G c 20 ∗ B)) (by decide) (by decide) ?_ ?_ ?_
  · rfl
  · exact pass_one G 16 20 (by decide) (by decide)
  refine word_step G K (i := 25) (by decide) ?_
  refine assume_step (chk42 (word_row c ⟨25, by decide⟩ (by decide))) ?_
  refine send_step G K 20 rfl ?_ ?_ ?_ ?_ ?_
  · exact to_dev 20 (i := ⟨1, by decide⟩) (by decide) (by decide) rfl
  · exact to_row 20 (i := ⟨25, by decide⟩) (by decide) (by decide)
  · rfl
  · rfl
  refine word_step G K (i := 16) (by decide) ?_
  refine assume_step (chk43 (word_row c ⟨16, by decide⟩ (by decide))) ?_
  exact pure_step hk

set_option maxHeartbeats 1000000 in
theorem part16 {h2 : k0_chk2 (word c ⟨0, by decide⟩)} {h43 : k0_chk43 (word c ⟨16, by decide⟩)} {Q}
    (hk : St G K c 22 19 iprop(src G c 22 ∗ B) ⊢ Q ⟨(word c ⟨16, by decide⟩), chk44 (word_row c ⟨16, by decide⟩ (by decide)), (word c ⟨33, by decide⟩), chk46 (word_row c ⟨33, by decide⟩ (by decide))⟩) :
    St G K c 21 17 B ⊢ WP defs c (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10
      (word c ⟨0, by decide⟩) h2 (word c ⟨1, by decide⟩) (word c ⟨16, by decide⟩) h43) Q := by
  rw [k0_part16_eq_skeleton]; unfold k0_part16_skel
  refine recv_step G K 17 (X' := iprop(src G c 21 ∗ B)) (by decide) (by decide) ?_ ?_ ?_
  · rfl
  · exact pass_one G 17 21 (by decide) (by decide)
  refine word_step G K (i := 16) (by decide) ?_
  refine assume_step (chk44 (word_row c ⟨16, by decide⟩ (by decide))) ?_
  refine send_step G K 21 rfl ?_ ?_ ?_ ?_ ?_
  · exact to_dev 21 (i := ⟨0, by decide⟩) (by decide) (by decide) rfl
  · exact to_row 21 (i := ⟨16, by decide⟩) (by decide) (by decide)
  · rfl
  · rfl
  refine word_step G K (i := 33) (by decide) ?_
  refine assume_step (chk45 (word_row c ⟨33, by decide⟩ (by decide))) ?_
  refine recv_step G K 18 (X' := iprop(src G c 22 ∗ B)) (by decide) (by decide) ?_ ?_ ?_
  · rfl
  · exact pass_one G 18 22 (by decide) (by decide)
  refine word_step G K (i := 33) (by decide) ?_
  refine assume_step (chk46 (word_row c ⟨33, by decide⟩ (by decide))) ?_
  exact pure_step hk

set_option maxHeartbeats 1000000 in
theorem part17 {h2 : k0_chk2 (word c ⟨0, by decide⟩)} {h3 : k0_chk3 (word c ⟨1, by decide⟩)} {h46 : k0_chk46 (word c ⟨33, by decide⟩)} {Q}
    (hk : St G K c 24 20 B ⊢ Q ⟨(word c ⟨9, by decide⟩), chk48 (word_row c ⟨9, by decide⟩ (by decide)), (word c ⟨26, by decide⟩), chk49 (word_row c ⟨26, by decide⟩ (by decide))⟩) :
    St G K c 22 19 iprop(src G c 22 ∗ B) ⊢ WP defs c (k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10
      (word c ⟨0, by decide⟩) h2 (word c ⟨1, by decide⟩) h3 (word c ⟨33, by decide⟩) h46) Q := by
  rw [k0_part17_eq_skeleton]; unfold k0_part17_skel
  refine send_step G K 22 rfl ?_ ?_ ?_ ?_ ?_
  · exact to_dev 22 (i := ⟨1, by decide⟩) (by decide) (by decide) rfl
  · exact to_row 22 (i := ⟨33, by decide⟩) (by decide) (by decide)
  · rfl
  · rfl
  refine word_step G K (i := 9) (by decide) ?_
  refine assume_step (chk47 (word_row c ⟨9, by decide⟩ (by decide))) ?_
  refine recv_step G K 19 (X' := iprop(src G c 23 ∗ B)) (by decide) (by decide) ?_ ?_ ?_
  · rfl
  · exact pass_one G 19 23 (by decide) (by decide)
  refine word_step G K (i := 9) (by decide) ?_
  refine assume_step (chk48 (word_row c ⟨9, by decide⟩ (by decide))) ?_
  refine send_step G K 23 rfl ?_ ?_ ?_ ?_ ?_
  · exact to_dev 23 (i := ⟨0, by decide⟩) (by decide) (by decide) rfl
  · exact to_row 23 (i := ⟨9, by decide⟩) (by decide) (by decide)
  · rfl
  · rfl
  refine word_step G K (i := 26) (by decide) ?_
  refine assume_step (chk49 (word_row c ⟨26, by decide⟩ (by decide))) ?_
  exact pure_step hk

end Cert.KernelIdeal.Gather
-- ==== Proof.KernelIdeal.PartsD.lean ====
/-
  The gather, parts 18 to 23: the last transfers.
-/
module

public import proofs.«01_k».proof.Proof.Gen.KernelIdeal.Skeleton
public import proofs.«01_k».proof.Proof.KernelIdeal.Steps

@[expose] public section

set_option maxRecDepth 16384

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Ring Cert.KernelIdeal.Gen

variable {F : FTy → Type} [FloatOps F]
variable (G : Gx F) (K : GSem nD τ sig → ℕ) {c : Dev nD} {defs : Defs nD τ sig (Elt F) Λ₀}
variable {B : sProp (MT nD τ sig Unit (Elt F) ℕ UU ℕ)}

set_option maxHeartbeats 1000000 in
theorem part18 {h3 : k0_chk3 (word c ⟨1, by decide⟩)} {h49 : k0_chk49 (word c ⟨26, by decide⟩)} {Q}
    (hk : St G K c 25 22 iprop(src G c 25 ∗ B) ⊢ Q ⟨(word c ⟨26, by decide⟩), chk50 (word_row c ⟨26, by decide⟩ (by decide)), (word c ⟨17, by decide⟩)⟩) :
    St G K c 24 20 B ⊢ WP defs c (k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10
      (word c ⟨0, by decide⟩) (word c ⟨1, by decide⟩) h3 (word c ⟨26, by decide⟩) h49) Q := by
  rw [k0_part18_eq_skeleton]; unfold k0_part18_skel
  refine recv_step G K 20 (X' := iprop(src G c 24 ∗ B)) (by decide) (by decide) ?_ ?_ ?_
  · rfl
  · exact pass_one G 20 24 (by decide) (by decide)
  refine word_step G K (i := 26) (by decide) ?_
  refine assume_step (chk50 (word_row c ⟨26, by decide⟩ (by decide))) ?_
  refine send_step G K 24 rfl ?_ ?_ ?_ ?_ ?_
  · exact to_dev 24 (i := ⟨1, by decide⟩) (by decide) (by decide) rfl
  · exact to_row 24 (i := ⟨26, by decide⟩) (by decide) (by decide)
  · rfl
  · rfl
  refine word_step G K (i := 17) (by decide) ?_
  refine assume_step (chk51 (word_row c ⟨17, by decide⟩ (by decide))) ?_
  refine recv_step G K 21 (X' := iprop(src G c 25 ∗ B)) (by decide) (by decide) ?_ ?_ ?_
  · rfl
  · exact pass_one G 21 25 (by decide) (by decide)
  refine word_step G K (i := 17) (by decide) ?_
  exact pure_step hk

set_option maxHeartbeats 1000000 in
theorem part19 {h2 : k0_chk2 (word c ⟨0, by decide⟩)} {Q : (Σ' (_ : k0_chk52 (word c ⟨17, by decide⟩)) (v511 : Elt F .i32), k0_chk54 v511) → sProp (MT nD τ sig Unit (Elt F) ℕ UU ℕ)}
    (hk : St G K c 26 23 iprop(src G c 26 ∗ B) ⊢ Q ⟨chk52 (word_row c ⟨17, by decide⟩ (by decide)), (word c ⟨34, by decide⟩), chk54 (word_row c ⟨34, by decide⟩ (by decide))⟩) :
    St G K c 25 22 iprop(src G c 25 ∗ B) ⊢ WP defs c (k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10
      (word c ⟨0, by decide⟩) h2 (word c ⟨1, by decide⟩) (word c ⟨17, by decide⟩)) Q := by
  rw [k0_part19_eq_skeleton]; unfold k0_part19_skel
  refine assume_step (chk52 (word_row c ⟨17, by decide⟩ (by decide))) ?_
  refine send_step G K 25 rfl ?_ ?_ ?_ ?_ ?_
  · exact to_dev 25 (i := ⟨0, by decide⟩) (by decide) (by decide) rfl
  · exact to_row 25 (i := ⟨17, by decide⟩) (by decide) (by decide)
  · rfl
  · rfl
  refine word_step G K (i := 34) (by decide) ?_
  refine assume_step (chk53 (word_row c ⟨34, by decide⟩ (by decide))) ?_
  refine recv_step G K 22 (X' := iprop(src G c 26 ∗ B)) (by decide) (by decide) ?_ ?_ ?_
  · rfl
  · exact pass_one G 22 26 (by decide) (by decide)
  refine word_step G K (i := 34) (by decide) ?_
  refine assume_step (chk54 (word_row c ⟨34, by decide⟩ (by decide))) ?_
  exact pure_step hk

set_option maxHeartbeats 1000000 in
theorem part20 {h2 : k0_chk2 (word c ⟨0, by decide⟩)} {h3 : k0_chk3 (word c ⟨1, by decide⟩)} {h54 : k0_chk54 (word c ⟨34, by decide⟩)} {Q}
    (hk : St G K c 28 24 B ⊢ Q ⟨(word c ⟨10, by decide⟩), chk56 (word_row c ⟨10, by decide⟩ (by decide)), (word c ⟨27, by decide⟩), chk57 (word_row c ⟨27, by decide⟩ (by decide)), 1#32⟩) :
    St G K c 26 23 iprop(src G c 26 ∗ B) ⊢ WP defs c (k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10
      (word c ⟨0, by decide⟩) h2 (word c ⟨1, by decide⟩) h3 (word c ⟨34, by decide⟩) h54) Q := by
  rw [k0_part20_eq_skeleton]; unfold k0_part20_skel
  refine send_step G K 26 rfl ?_ ?_ ?_ ?_ ?_
  · exact to_dev 26 (i := ⟨1, by decide⟩) (by decide) (by decide) rfl
  · exact to_row 26 (i := ⟨34, by decide⟩) (by decide) (by decide)
  · rfl
  · rfl
  refine word_step G K (i := 10) (by decide) ?_
  refine assume_step (chk55 (word_row c ⟨10, by decide⟩ (by decide))) ?_
  refine recv_step G K 23 (X' := iprop(src G c 27 ∗ B)) (by decide) (by decide) ?_ ?_ ?_
  · rfl
  · exact pass_one G 23 27 (by decide) (by decide)
  refine word_step G K (i := 10) (by decide) ?_
  refine assume_step (chk56 (word_row c ⟨10, by decide⟩ (by decide))) ?_
  refine send_step G K 27 rfl ?_ ?_ ?_ ?_ ?_
  · exact to_dev 27 (i := ⟨0, by decide⟩) (by decide) (by decide) rfl
  · exact to_row 27 (i := ⟨10, by decide⟩) (by decide) (by decide)
  · rfl
  · rfl
  refine word_step G K (i := 27) (by decide) ?_
  refine assume_step (chk57 (word_row c ⟨27, by decide⟩ (by decide))) ?_
  exact pure_step hk

set_option maxHeartbeats 1000000 in
theorem part21 {h3 : k0_chk3 (word c ⟨1, by decide⟩)} {h57 : k0_chk57 (word c ⟨27, by decide⟩)} {o : BitVec 32} {Q}
    (hk : St G K c 29 26 iprop(src G c 29 ∗ B) ⊢ Q ⟨(word c ⟨27, by decide⟩), chk58 (word_row c ⟨27, by decide⟩ (by decide)), (word c ⟨18, by decide⟩), chk60 (word_row c ⟨18, by decide⟩ (by decide))⟩) :
    St G K c 28 24 B ⊢ WP defs c (k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10
      (word c ⟨0, by decide⟩) (word c ⟨1, by decide⟩) h3 (word c ⟨27, by decide⟩) h57 o) Q := by
  rw [k0_part21_eq_skeleton]; unfold k0_part21_skel
  refine recv_step G K 24 (X' := iprop(src G c 28 ∗ B)) (by decide) (by decide) ?_ ?_ ?_
  · rfl
  · exact pass_one G 24 28 (by decide) (by decide)
  refine word_step G K (i := 27) (by decide) ?_
  refine assume_step (chk58 (word_row c ⟨27, by decide⟩ (by decide))) ?_
  refine send_step G K 28 rfl ?_ ?_ ?_ ?_ ?_
  · exact to_dev 28 (i := ⟨1, by decide⟩) (by decide) (by decide) rfl
  · exact to_row 28 (i := ⟨27, by decide⟩) (by decide) (by decide)
  · rfl
  · rfl
  refine word_step G K (i := 18) (by decide) ?_
  refine assume_step (chk59 (word_row c ⟨18, by decide⟩ (by decide))) ?_
  refine recv_step G K 25 (X' := iprop(src G c 29 ∗ B)) (by decide) (by decide) ?_ ?_ ?_
  · rfl
  · exact pass_one G 25 29 (by decide) (by decide)
  refine word_step G K (i := 18) (by decide) ?_
  refine assume_step (chk60 (word_row c ⟨18, by decide⟩ (by decide))) ?_
  exact pure_step hk

set_option maxHeartbeats 1000000 in
theorem part22 {h2 : k0_chk2 (word c ⟨0, by decide⟩)} {h60 : k0_chk60 (word c ⟨18, by decide⟩)} {Q}
    (hk : St G K c 30 27 iprop(src G c 30 ∗ B) ⊢ Q ⟨(word c ⟨35, by decide⟩), chk62 (word_row c ⟨35, by decide⟩ (by decide))⟩) :
    St G K c 29 26 iprop(src G c 29 ∗ B) ⊢ WP defs c (k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10
      (word c ⟨0, by decide⟩) h2 (word c ⟨1, by decide⟩) (word c ⟨18, by decide⟩) h60) Q := by
  rw [k0_part22_eq_skeleton]; unfold k0_part22_skel
  refine send_step G K 29 rfl ?_ ?_ ?_ ?_ ?_
  · exact to_dev 29 (i := ⟨0, by decide⟩) (by decide) (by decide) rfl
  · exact to_row 29 (i := ⟨18, by decide⟩) (by decide) (by decide)
  · rfl
  · rfl
  refine word_step G K (i := 35) (by decide) ?_
  refine assume_step (chk61 (word_row c ⟨35, by decide⟩ (by decide))) ?_
  refine recv_step G K 26 (X' := iprop(src G c 30 ∗ B)) (by decide) (by decide) ?_ ?_ ?_
  · rfl
  · exact pass_one G 26 30 (by decide) (by decide)
  refine word_step G K (i := 35) (by decide) ?_
  refine assume_step (chk62 (word_row c ⟨35, by decide⟩ (by decide))) ?_
  exact pure_step hk

set_option maxHeartbeats 1000000 in
theorem part23 {h3 : k0_chk3 (word c ⟨1, by decide⟩)} {h62 : k0_chk62 (word c ⟨35, by decide⟩)} {Q}
    (hk : St G K c 31 29 iprop(spare G c 28 ∗ spare G c 27 ∗ B) ⊢ Q ⟨(word c ⟨19, by decide⟩), chk65 (word_row c ⟨19, by decide⟩ (by decide))⟩) :
    St G K c 30 27 iprop(src G c 30 ∗ B) ⊢ WP defs c (k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10
      (word c ⟨0, by decide⟩) (word c ⟨1, by decide⟩) h3 (word c ⟨35, by decide⟩) h62) Q := by
  rw [k0_part23_eq_skeleton]; unfold k0_part23_skel
  refine send_step G K 30 rfl ?_ ?_ ?_ ?_ ?_
  · exact to_dev 30 (i := ⟨1, by decide⟩) (by decide) (by decide) rfl
  · exact to_row 30 (i := ⟨35, by decide⟩) (by decide) (by decide)
  · rfl
  · rfl
  refine word_step G K (i := 11) (by decide) ?_
  refine assume_step (chk63 (word_row c ⟨11, by decide⟩ (by decide))) ?_
  refine recv_step G K 27 (X' := iprop(spare G c 27 ∗ B)) (by decide) (by decide) ?_ ?_ ?_
  · rfl
  · exact Entails.rfl
  refine word_step G K (i := 28) (by decide) ?_
  refine assume_step (chk64 (word_row c ⟨28, by decide⟩ (by decide))) ?_
  refine recv_step G K 28 (X' := iprop(spare G c 28 ∗ spare G c 27 ∗ B)) (by decide) (by decide) ?_ ?_ ?_
  · rfl
  · exact Entails.rfl
  refine word_step G K (i := 19) (by decide) ?_
  refine assume_step (chk65 (word_row c ⟨19, by decide⟩ (by decide))) ?_
  exact pure_step hk

end Cert.KernelIdeal.Gather
-- ==== Proof.KernelIdeal.PartsE.lean ====
/-
  The waits for the transfers to have left, parts 25 to 30.
-/
module

public import proofs.«01_k».proof.Proof.Gen.KernelIdeal.Skeleton
public import proofs.«01_k».proof.Proof.KernelIdeal.Steps

@[expose] public section

set_option maxRecDepth 16384

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Ring Cert.KernelIdeal.Gen

variable {F : FTy → Type} [FloatOps F]
variable (G : Gx F) (K : GSem nD τ sig → ℕ) {c : Dev nD} {defs : Defs nD τ sig (Elt F) Λ₀}
variable {B : sProp (MT nD τ sig Unit (Elt F) ℕ UU ℕ)}

set_option maxHeartbeats 1000000 in
theorem part25 {h5 : k0_chk5 (word c ⟨3, by decide⟩)} {h6 : k0_chk6 (word c ⟨3, by decide⟩)} {h7 : k0_chk7 (word c ⟨20, by decide⟩)} {h9 : k0_chk9 (word c ⟨4, by decide⟩)} {h11 : k0_chk11 (word c ⟨21, by decide⟩)} {Q}
    (hk : Sw G K c 5 B ⊢ Q ⟨⟩) :
    Sw G K c 0 B ⊢ WP defs c (k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10
      (word c ⟨3, by decide⟩) h5 (word c ⟨3, by decide⟩) h6 (word c ⟨20, by decide⟩) h7 (word c ⟨4, by decide⟩) h9 (word c ⟨21, by decide⟩) h11) Q := by
  rw [k0_part25_eq_skeleton]; unfold k0_part25_skel
  refine left_step G K 0 rfl ?_ ?_
  · rfl
  refine left_step G K 1 rfl ?_ ?_
  · rfl
  refine left_step G K 2 rfl ?_ ?_
  · rfl
  refine left_step G K 3 rfl ?_ ?_
  · rfl
  refine left_step G K 4 rfl ?_ ?_
  · rfl
  exact pure_step hk

set_option maxHeartbeats 1000000 in
theorem part26 {h13 : k0_chk13 (word c ⟨12, by decide⟩)} {h14 : k0_chk14 (word c ⟨29, by decide⟩)} {h16 : k0_chk16 (word c ⟨5, by decide⟩)} {h18 : k0_chk18 (word c ⟨22, by decide⟩)} {h20 : k0_chk20 (word c ⟨13, by decide⟩)} {Q}
    (hk : Sw G K c 10 B ⊢ Q ⟨⟩) :
    Sw G K c 5 B ⊢ WP defs c (k0_part26 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10
      (word c ⟨12, by decide⟩) h13 (word c ⟨29, by decide⟩) h14 (word c ⟨5, by decide⟩) h16 (word c ⟨22, by decide⟩) h18 (word c ⟨13, by decide⟩) h20) Q := by
  rw [k0_part26_eq_skeleton]; unfold k0_part26_skel
  refine left_step G K 5 rfl ?_ ?_
  · rfl
  refine left_step G K 6 rfl ?_ ?_
  · rfl
  refine left_step G K 7 rfl ?_ ?_
  · rfl
  refine left_step G K 8 rfl ?_ ?_
  · rfl
  refine left_step G K 9 rfl ?_ ?_
  · rfl
  exact pure_step hk

set_option maxHeartbeats 1000000 in
theorem part27 {h22 : k0_chk22 (word c ⟨30, by decide⟩)} {h24 : k0_chk24 (word c ⟨6, by decide⟩)} {h26 : k0_chk26 (word c ⟨23, by decide⟩)} {h28 : k0_chk28 (word c ⟨14, by decide⟩)} {h30 : k0_chk30 (word c ⟨31, by decide⟩)} {Q}
    (hk : Sw G K c 15 B ⊢ Q ⟨⟩) :
    Sw G K c 10 B ⊢ WP defs c (k0_part27 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10
      (word c ⟨30, by decide⟩) h22 (word c ⟨6, by decide⟩) h24 (word c ⟨23, by decide⟩) h26 (word c ⟨14, by decide⟩) h28 (word c ⟨31, by decide⟩) h30) Q := by
  rw [k0_part27_eq_skeleton]; unfold k0_part27_skel
  refine left_step G K 10 rfl ?_ ?_
  · rfl
  refine left_step G K 11 rfl ?_ ?_
  · rfl
  refine left_step G K 12 rfl ?_ ?_
  · rfl
  refine left_step G K 13 rfl ?_ ?_
  · rfl
  refine left_step G K 14 rfl ?_ ?_
  · rfl
  exact pure_step hk

set_option maxHeartbeats 1000000 in
theorem part28 {h32 : k0_chk32 (word c ⟨7, by decide⟩)} {h34 : k0_chk34 (word c ⟨24, by decide⟩)} {h36 : k0_chk36 (word c ⟨15, by decide⟩)} {h38 : k0_chk38 (word c ⟨32, by decide⟩)} {h40 : k0_chk40 (word c ⟨8, by decide⟩)} {Q}
    (hk : Sw G K c 20 B ⊢ Q ⟨⟩) :
    Sw G K c 15 B ⊢ WP defs c (k0_part28 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10
      (word c ⟨7, by decide⟩) h32 (word c ⟨24, by decide⟩) h34 (word c ⟨15, by decide⟩) h36 (word c ⟨32, by decide⟩) h38 (word c ⟨8, by decide⟩) h40) Q := by
  rw [k0_part28_eq_skeleton]; unfold k0_part28_skel
  refine left_step G K 15 rfl ?_ ?_
  · rfl
  refine left_step G K 16 rfl ?_ ?_
  · rfl
  refine left_step G K 17 rfl ?_ ?_
  · rfl
  refine left_step G K 18 rfl ?_ ?_
  · rfl
  refine left_step G K 19 rfl ?_ ?_
  · rfl
  exact pure_step hk

set_option maxHeartbeats 1000000 in
theorem part29 {h42 : k0_chk42 (word c ⟨25, by decide⟩)} {h44 : k0_chk44 (word c ⟨16, by decide⟩)} {h46 : k0_chk46 (word c ⟨33, by decide⟩)} {h48 : k0_chk48 (word c ⟨9, by decide⟩)} {h50 : k0_chk50 (word c ⟨26, by decide⟩)} {Q}
    (hk : Sw G K c 25 B ⊢ Q ⟨⟩) :
    Sw G K c 20 B ⊢ WP defs c (k0_part29 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10
      (word c ⟨25, by decide⟩) h42 (word c ⟨16, by decide⟩) h44 (word c ⟨33, by decide⟩) h46 (word c ⟨9, by decide⟩) h48 (word c ⟨26, by decide⟩) h50) Q := by
  rw [k0_part29_eq_skeleton]; unfold k0_part29_skel
  refine left_step G K 20 rfl ?_ ?_
  · rfl
  refine left_step G K 21 rfl ?_ ?_
  · rfl
  refine left_step G K 22 rfl ?_ ?_
  · rfl
  refine left_step G K 23 rfl ?_ ?_
  · rfl
  refine left_step G K 24 rfl ?_ ?_
  · rfl
  exact pure_step hk

set_option maxHeartbeats 1000000 in
theorem part30 {h52 : k0_chk52 (word c ⟨17, by decide⟩)} {h54 : k0_chk54 (word c ⟨34, by decide⟩)} {h56 : k0_chk56 (word c ⟨10, by decide⟩)} {h58 : k0_chk58 (word c ⟨27, by decide⟩)} {h60 : k0_chk60 (word c ⟨18, by decide⟩)} {Q}
    (hk : Sw G K c 30 B ⊢ Q ⟨⟩) :
    Sw G K c 25 B ⊢ WP defs c (k0_part30 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 cc0_scratch4 cc0_scratch5 cc0_scratch6 cc0_scratch7 cc0_scratch8 cc0_scratch9 cc0_scratch10
      (word c ⟨17, by decide⟩) h52 (word c ⟨34, by decide⟩) h54 (word c ⟨10, by decide⟩) h56 (word c ⟨27, by decide⟩) h58 (word c ⟨18, by decide⟩) h60) Q := by
  rw [k0_part30_eq_skeleton]; unfold k0_part30_skel
  refine left_step G K 25 rfl ?_ ?_
  · rfl
  refine left_step G K 26 rfl ?_ ?_
  · rfl
  refine left_step G K 27 rfl ?_ ?_
  · rfl
  refine left_step G K 28 rfl ?_ ?_
  · rfl
  refine left_step G K 29 rfl ?_ ?_
  · rfl
  exact pure_step hk

end Cert.KernelIdeal.Gather
-- ==== Proof.KernelIdeal.Start.lean ====
/-
  The start of the gather (part 1): a device puts its own rows in place, tells its three neighbours that they may fill the rows
  it has given up, and waits for the same word from them.
-/
module

public import proofs.«01_k».proof.Proof.Gen.KernelIdeal.Skeleton
public import proofs.«01_k».proof.Proof.KernelIdeal.Steps

@[expose] public section

set_option maxRecDepth 16384

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Ring Cert.KernelIdeal.Gen

variable {F : FTy → Type} [FloatOps F]

local notation "𝕄" => MT nD τ sig Unit (Elt F) ℕ UU ℕ

variable (G : Gx F) (K : GSem nD τ sig → ℕ)

/-! ## Over all devices, from one device -/

theorem bigSep_opt (Φ : Option (Fin 31) → sProp 𝕄) :
    bigSep Finset.univ Φ = iprop(Φ none ∗ bigSep Finset.univ fun k => Φ (some k)) := by
  rw [bigSep_univ_split none]
  refine congrArg (fun X => iprop(Φ none ∗ X)) ?_
  rw [show (Finset.univ.erase none : Finset (Option (Fin 31))) = Finset.univ.map Function.Embedding.some from by
    ext o; cases o <;> simp]
  exact bigSep_map _

/-- One for each device is one for the device itself and one for each of the 31 it receives from. -/
theorem bigSep_around (c : Dev nD) (Φ : Dev nD → sProp 𝕄) :
    bigSep Finset.univ Φ = iprop(Φ c ∗ bigSep Finset.univ fun k => Φ (sh c (rcvOff k))) := by
  rw [bigSep_univ_equiv (around c) Φ, bigSep_univ_equiv slots, bigSep_opt]
  have h0 : around c (slots none) = c := sh_zero c
  rw [h0]
  rfl

/-- The buffer by rows: the device's own, and those it receives. -/
theorem rows_any (c : Dev nD) :
    (iprop(∃ f : Buf (Elt F) (gxLoc c), gxLoc c ↦{fullShare} f) : sProp 𝕄)
      ⊢ iprop(rowAny c c ∗ bigSep Finset.univ fun k => rowAny c (sh c (rcvOff k))) := by
  have h0 : ∀ (f : Buf (Elt F) (gxLoc c)) (d : Dev nD), (gxLoc c ↦[rowSet d]{fullShare} f : sProp 𝕄) ⊢ rowAny c d := by
    intro f d; iintro H; iexists f; iexact H
  iintro ⟨%f, H⟩
  ihave H := (Entails.of_eq (Ring.pointsTo_blocks (ℓ := gxLoc c) (q := fullShare) rowSet (fun b b' h => rowSet_disjoint b b' h) rowSet_cover f)) $$ H
  have h : (bigSep Finset.univ fun d => (gxLoc c ↦[rowSet d]{fullShare} f : sProp 𝕄))
      ⊢ bigSep Finset.univ fun d => (rowAny c d : sProp 𝕄) :=
    bigSep_mono fun d _ => h0 f d
  ihave H := h $$ H
  ihave H := (Entails.of_eq (bigSep_around c fun d => (rowAny c d : sProp 𝕄))) $$ H
  iexact H

/-- The rights to the transfers into device `c`, by the neighbour that gets them. -/
theorem mine_by_nbr (c : Dev nD) :
    (bigSep Finset.univ (fun k => mine c k) : sProp 𝕄)
      = iprop(barPay (sh c (nbr 0)) 0 ∗ barPay (sh c (nbr 1)) 1 ∗ barPay (sh c (nbr 2)) 2) := by
  have h : ∀ j : Fin 3, (barPay (sh c (nbr j)) j : sProp 𝕄) = bigSep Finset.univ fun k => if nbrOf k = j then mine c k else iprop(emp) := by
    intro j
    unfold barPay
    rw [show (bigSep Finset.univ fun k => if nbrOf k = j then mine c k else iprop(emp) : sProp 𝕄)
      = bigSep (Finset.univ.filter fun k => nbrOf k = j) fun k => mine c k from (bigSep_filter _ _ _).symm]
    refine bigSep_congr fun k hk => ?_
    have hk := (Finset.mem_filter.mp hk).2
    rw [sh_sh, ← hk, nbr_dst, sh_zero]
  rw [h 0, h 1, h 2, ← bigSep_sep', ← bigSep_sep']
  refine bigSep_congr fun k _ => ?_
  have e1 : ∀ P : sProp 𝕄, iprop(emp ∗ P) = P := fun P => equiv_iff.mp emp_sep
  have e2 : ∀ P : sProp 𝕄, iprop(P ∗ emp) = P := fun P => equiv_iff.mp sep_emp
  rcases (by revert k; decide : ∀ k : Fin 31, nbrOf k = 0 ∨ nbrOf k = 1 ∨ nbrOf k = 2) k with h | h | h <;> rw [h]
  · rw [if_pos rfl, if_neg (by decide), if_neg (by decide), e2, e2]
  · rw [if_neg (by decide), if_pos rfl, if_neg (by decide), e2, e1]
  · rw [if_neg (by decide), if_neg (by decide), if_pos rfl, e1, e1]

/-- The device's own rows, divided among the three transfers that carry them and the product that reads them. -/
theorem own_split (c : Dev nD) : (row G c c fullShare : sProp 𝕄)
    ⊢ iprop(row G c c fullShare.left ∗ src G c 0 ∗ src G c 1 ∗ src G c 2) := by
  have h0 : (src G c 0 : sProp 𝕄) = row G c c fullShare.right.left := by
    unfold src; rw [show srcOff 0 = 0 from rfl, sh_zero, show lent 0 = fullShare.right.left from rfl]
  have h1 : (src G c 1 : sProp 𝕄) = row G c c fullShare.right.right.left := by
    unfold src; rw [show srcOff 1 = 0 from rfl, sh_zero, show lent 1 = fullShare.right.right.left from rfl]
  have h2 : (src G c 2 : sProp 𝕄) = row G c c fullShare.right.right.right := by
    unfold src; rw [show srcOff 2 = 0 from rfl, sh_zero, show lent 2 = fullShare.right.right.right from rfl]
  rw [h0, h1, h2]
  iintro H
  ihave H := (pointsTo_share (PosShare.mem_left_op_right fullShare)).1 $$ H
  icases H with ⟨Hl, H⟩
  ihave H := (pointsTo_share (PosShare.mem_left_op_right fullShare.right)).1 $$ H
  icases H with ⟨H0, H⟩
  ihave H := (pointsTo_share (PosShare.mem_left_op_right fullShare.right.right)).1 $$ H
  icases H with ⟨H1, H2⟩
  isplitl [Hl]; · iexact Hl
  isplitl [H0]; · iexact H0
  isplitl [H1] <;> iassumption

/-! ## The operations -/

variable {α : Type} {c : Dev nD} {defs : Defs nD τ sig (Elt F) Λ₀}
variable {Q : α → sProp (MT nD τ sig Unit (Elt F) ℕ UU ℕ)}

abbrev xLoc (c : Dev nD) : Loc nD τ sig := (Memref.whole cc0_stg0_0).view.loc (c : Thread nD τ)

theorem zero_off : (![0, 0] : Fin 2 → ℕ) = fun _ => 0 := by
  funext a; fin_cases a <;> rfl

/-- The store of a device's own rows leaves them at the common contents. -/
theorem own_eq (c : Dev nD) (f : Buf (Elt F) (gxLoc c)) (w : S64x2048.Idx → Elt F .bf16)
    (hG : (rowM c).view.read (Elt F) (G : Buf (Elt F) (gxLoc c)) = w) :
    (gxLoc c ↦[rowSet c]{fullShare} ((rowM c).view.write (Elt F) f w Finset.univ) : sProp 𝕄) = row G c c fullShare := by
  refine pointsTo_congr fun i hi => ?_
  obtain ⟨x, -, rfl⟩ := Finset.mem_map.mp hi
  exact (View.write_emb_of_mem _ _ (Finset.mem_univ x)).trans (congrFun hG x).symm

/-- Giving the `j`-th signal. -/
theorem signal_core (j : Fin 3) {I P : sProp 𝕄} [BI.Persistent I] {n : Dev nD} (hn : n = sh c (nbr j)) {O₁ O₂ : CellTallies nD τ sig Unit}
    (hO : O₁ = O₂ + tallyAt (barCell (sh c (nbr j))) () 1)
    (hI : I ⊢ cellInv ER (gatherRd G) (K (barCell (sh c (nbr j)))) (barCell (sh c (nbr j))))
    (hP : P ⊢ iprop(dutyTok ER (barCell (sh c (nbr j))) 0 j ∗ barPay (sh c (nbr j)) j ∗ reached ER (barCell (sh c (nbr j))) 0))
    {kont : PUnit → Prog (TpuEff nD τ sig (Elt F) Λ₀ .tc) α} :
    iprop(I ∗ P ∗ (∃ W, owes (c : Thread nD τ) O₁ W))
      ⊢ iprop(((∃ W, owes (c : Thread nD τ) O₂ W) -∗ WP defs c (kont ⟨⟩) Q)
        -∗ WP defs c (semSignalWord n ((SemArray.scalar (sig.barrier 0 rfl) : Sems sig S_).sem) 1#32 >>= kont) Q) := by
  subst hn
  show _ ⊢ iprop(_ -∗ WP defs c (.op (.semSignal (Dev.tc (sh c (nbr j))) barrier0 (1#32 : BitVec 32).toInt) kont) Q)
  rw [show (1#32 : BitVec 32).toInt = ((1#32 : BitVec 32).toNat : Int) from rfl]
  iintro ⟨#HI, HP, ⟨%W, HO⟩⟩ Hk
  ihave HP := hP $$ HP
  icases HP with ⟨Ht, Hp, Hr⟩
  ihave HI := hI $$ HI
  iapply (Rounds.wp_signal 𝒱₀ ER (gatherRd G) (c : Thread nD τ) none (dst := (sh c (nbr j) : Thread nD τ)) (κ := K (barCell (sh c (nbr j))))
      (sem := barrier0) (r := 0) (d := j) (by rw [duties_bar]; exact Finset.mem_univ _) (show (gatherRd G).amount (barCell (sh c (nbr j))) 0 j = (1#32 : BitVec 32).toNat from rfl) ()
      (O₀ := O₁) O₂ hO (W := W)) $$ [HI HO Ht Hp Hr]
  · isplitl [HI]; · iexact HI
    isplitl [HO]; · iexact HO
    isplitl [Ht]; · iexact Ht
    isplitl [Hp]; · rw [payload_bar]; iexact Hp
    iexact Hr
  iintro HO
  iapply Hk
  iexists W; iexact HO

/-- Waiting for the three signals: with them comes the right to every transfer. -/
theorem gate_core {I : sProp 𝕄} [BI.Persistent I] {O : CellTallies nD τ sig Unit}
    (hM : (levAts L lv : sProp 𝕄) ⊢ MayWait (c : Thread nD τ) (.reg barrier0) () O)
    (hI : I ⊢ cellInv ER (gatherRd G) (K (barCell c)) (barCell c))
    {kont : PUnit → Prog (TpuEff nD τ sig (Elt F) Λ₀ .tc) α} :
    iprop(I ∗ levAts L lv ∗ cred (tallyAt (barCell c) () 3) ∗ atPos ER (barCell c) 0 ∅ 0 ∗ (∃ W, owes (c : Thread nD τ) O W))
      ⊢ iprop((((∃ W, owes (c : Thread nD τ) O W) ∗ atPos ER (barCell c) 1 ∅ 0 ∗ bigSep Finset.univ fun k => mine (sh c (dstOff k)) k) -∗ WP defs c (kont ⟨⟩) Q)
        -∗ WP defs c (semWaitWord ((SemArray.scalar (sig.barrier 0 rfl) : Sems sig S_).sem) 3#32 >>= kont) Q) := by
  show _ ⊢ iprop(_ -∗ WP defs c (.op (.semWait barrier0 (3#32 : BitVec 32).toInt) kont) Q)
  rw [show (3#32 : BitVec 32).toInt = ((3#32 : BitVec 32).toNat : Int) from rfl]
  iintro ⟨#HI, #HL, Hc, Hat, ⟨%W, HO⟩⟩ Hk
  ihave HI := hI $$ HI
  iapply (Rounds.wp_wait_rest_token 𝒱₀ ER (gatherRd G) (c : Thread nD τ) none (κ := K (barCell c))
      (wpE_semWait_eq 𝒱₀ (c : Thread nD τ) none Set.univ) (Set.mem_univ _) () (O := O) (W := W) (R := 0) (m := 0) (T := ∅)
      ((Nat.zero_add _).trans (expect_bar G c).symm)) $$ [HI Hc HO Hat]
  · isplitl [HI]; · iexact HI
    isplitl [Hc]; · iexact Hc
    isplitl [HO]; · iexact HO
    isplitr; · iapply hM; iexact HL
    iexact Hat
  iintro ⟨HO, Hat, -, Hpay⟩
  ihave Hpay := (Entails.of_eq (rest_bar G c)) $$ Hpay
  iapply Hk
  isplitl [HO]; · iexists _; iexact HO
  isplitl [Hat] <;> iassumption

/-- What the `j`-th signal takes: the token for it and what it hands over. -/
def toSignal (c : Dev nD) (j : Fin 3) : sProp 𝕄 :=
  iprop(dutyTok ER (barCell (sh c (nbr j))) 0 j ∗ barPay (sh c (nbr j)) j ∗ reached ER (barCell (sh c (nbr j))) 0)

/-- The device's rows put in place, the three signals given, the three signals received; whatever else is held. -/
theorem start_core {I T R : sProp 𝕄} [BI.Persistent I] (xv : Buf (Elt F) (xLoc c))
    (hG : (rowM c).view.read (Elt F) (G : Buf (Elt F) (gxLoc c)) = k0_pay1 (F := F) xv)
    (hI : ∀ d, I ⊢ cellInv ER (gatherRd G) (K (barCell d)) (barCell d))
    {off : Fin 2 → ℕ} (hoff : off = ![64 * c.val, 0]) {hinb : ∀ a, off a + S64x2048.size a ≤ S2048x2048.size a}
    {hin0 : ∀ a, (![0, 0] : Fin 2 → ℕ) a + S64x2048.size a ≤ S64x2048.size a}
    {hl0 : (Memref.whole cc0_stg0_0).view.LoadsAt (Rect.unit (s := S64x2048) ![0, 0] S64x2048.size hin0).toLoadRect}
    {hl : gxM.view.LoadsAt (Rect.unit (s := S2048x2048) off S64x2048.size hinb).toLoadRect}
    {hst : (gxM.access (Rect.unit (s := S2048x2048) off S64x2048.size hinb)).Stores Finset.univ}
    {hm : (Finset.univ : Finset S64x2048.Idx) = Finset.univ ∨ ∀ a, (Rect.unit (s := S2048x2048) off S64x2048.size hinb).stride a = 1}
    {n0 n1 n2 : Dev nD} (h0 : n0 = sh c (nbr 0)) (h1 : n1 = sh c (nbr 1)) (h2 : n2 = sh c (nbr 2))
    {kont : PUnit → Prog (TpuEff nD τ sig (Elt F) Λ₀ .tc) α}
    (hk : iprop(I ∗ levAts L lv ∗ T ∗ (∃ W, owes (c : Thread nD τ) (OS c 0) W) ∗ (bigSep Finset.univ fun k => mine (sh c (dstOff k)) k)
      ∗ (xLoc c ↦{fullShare} xv) ∗ row G c c fullShare ∗ atPos ER (barCell c) 1 ∅ 0 ∗ R) ⊢ WP defs c (kont ⟨⟩) Q) :
    iprop(I ∗ levAts L lv ∗ T ∗ (∃ W, owes (c : Thread nD τ) (O₀ c) W) ∗ toSignal c 0 ∗ toSignal c 1 ∗ toSignal c 2
      ∗ cred (tallyAt (barCell c) () 3) ∗ atPos ER (barCell c) 0 ∅ 0 ∗ (xLoc c ↦{fullShare} xv) ∗ rowAny c c ∗ R)
    ⊢ WP defs c (Prog.lift (.load (Memref.whole cc0_stg0_0) (Rect.unit (s := S64x2048) ![0, 0] S64x2048.size hin0).toLoadRect hl0) >>= fun v5 =>
        Prog.lift (.load gxM (Rect.unit (s := S2048x2048) off S64x2048.size hinb).toLoadRect hl) >>= fun _ =>
        Prog.lift (.store gxM (Rect.unit (s := S2048x2048) off S64x2048.size hinb) (k0_pay1 v5) Finset.univ hst hm) >>= fun _ =>
        semSignalWord n0 ((SemArray.scalar (sig.barrier 0 rfl) : Sems sig S_).sem) 1#32 >>= fun _ =>
        semSignalWord n1 ((SemArray.scalar (sig.barrier 0 rfl) : Sems sig S_).sem) 1#32 >>= fun _ =>
        semSignalWord n2 ((SemArray.scalar (sig.barrier 0 rfl) : Sems sig S_).sem) 1#32 >>= fun _ =>
        semWaitWord ((SemArray.scalar (sig.barrier 0 rfl) : Sems sig S_).sem) 3#32 >>= kont) Q := by
  subst hoff
  rw [lift_bind]
  iintro ⟨#HI, #HL, HT, HO, Hs0, Hs1, Hs2, Hc, Hat, Hx, ⟨%f, Hg⟩, HR⟩
  iapply (wp_load_rect (defs := defs) 𝒱₀ (c : Thread nD τ) none Set.univ (m := Memref.whole cc0_stg0_0) (r := Rect.unit (s := S64x2048) ![0, 0] S64x2048.size hin0)
      (q := fullShare) (f := xv) (Finset.subset_univ _)) $$ Hx
  iintro Hx
  rw [show ((Memref.whole cc0_stg0_0).access (Rect.unit (s := S64x2048) ![0, 0] S64x2048.size hin0)).read (Elt F) xv = xv from
    Memref.read_access_unit_zero (Elt F) cc0_stg0_0 zero_off hin0 xv, lift_bind]
  iapply (wp_load_rect (defs := defs) 𝒱₀ (c : Thread nD τ) none Set.univ (m := gxM) (r := Rect.unit (s := S2048x2048) ![64 * c.val, 0] S64x2048.size hinb)
      (S := rowSet c) (q := fullShare) (f := f) (Finset.Subset.refl _)) $$ Hg
  iintro Hg
  rw [lift_bind]
  iapply (wp_store (defs := defs) 𝒱₀ (c : Thread nD τ) none Set.univ (m := gxM) (r := Rect.unit (s := S2048x2048) ![64 * c.val, 0] S64x2048.size hinb)
      (S := rowSet c) (f := f) (Finset.Subset.refl _)) $$ Hg
  iintro Hg
  ihave Hg := (Entails.of_eq (own_eq G c f (k0_pay1 (F := F) xv) hG)) $$ Hg
  iapply (signal_core G K 0 h0 (O₁ := O₀ c) (O₂ := OS c 0 + OB c 1) (by unfold O₀; rw [OB_succ c 0 (n := 0) rfl, ← add_assoc]) (hI _) (P := toSignal c 0) (by unfold toSignal; exact .refl)) $$ [Hs0 HO]
  · isplitr; · iexact HI
    isplitl [Hs0] <;> iassumption
  iintro HO
  iapply (signal_core G K 1 h1 (O₁ := OS c 0 + OB c 1) (O₂ := OS c 0 + OB c 2) (by rw [OB_succ c 1 (n := 1) rfl, ← add_assoc]) (hI _) (P := toSignal c 1) (by unfold toSignal; exact .refl)) $$ [Hs1 HO]
  · isplitr; · iexact HI
    isplitl [Hs1] <;> iassumption
  iintro HO
  iapply (signal_core G K 2 h2 (O₁ := OS c 0 + OB c 2) (O₂ := OS c 0) (by rw [OB_succ c 2 (n := 2) rfl, OB_end, zero_add]) (hI _) (P := toSignal c 2) (by unfold toSignal; exact .refl)) $$ [Hs2 HO]
  · isplitr; · iexact HI
    isplitl [Hs2] <;> iassumption
  iintro HO
  iapply (gate_core G K (mayWait_bar c) (hI c)) $$ [Hc Hat HO]
  · isplitr; · iexact HI
    isplitr; · iexact HL
    isplitl [Hc]; · iexact Hc
    isplitl [Hat] <;> iassumption
  iintro ⟨HO, Hat, Hm⟩
  iapply hk
  isplitr; · iexact HI
  isplitr; · iexact HL
  isplitl [HT]; · iexact HT
  isplitl [HO]; · iexact HO
  isplitl [Hm]; · iexact Hm
  isplitl [Hx]; · iexact Hx
  isplitl [Hg]; · iexact Hg
  isplitl [Hat] <;> iassumption

/-! ## Part 1 -/

/-- What transfer `k` needs of its sender besides the rows, before the right to write them has come. -/
def sendKit (c : Dev nD) (k : Fin 31) : sProp 𝕄 :=
  iprop(dutyTok ER (recvCell (sh c (dstOff k)) k) 0 0
    ∗ dutyTok ER (sendCell c k) 0 0 ∗ reached ER (sendCell c k) 0 ∗ atPos ER (sendCell c k) 0 ∅ 0)

theorem kit_join (c : Dev nD) :
    iprop((bigSep Finset.univ fun k => mine (F := F) (sh c (dstOff k)) k) ∗ bigSep Finset.univ (sendKit (F := F) c))
      ⊢ bigSep Finset.univ (toSend (F := F) c) := by
  have h : ∀ k, iprop(mine (F := F) (sh c (dstOff k)) k ∗ sendKit (F := F) c k) ⊢ toSend c k := by
    intro k
    unfold sendKit toSend
    iintro ⟨Hm, H1, H2, H3, H4⟩
    isplitl [H1]; · iexact H1
    isplitl [Hm]; · iexact Hm
    isplitl [H2]; · iexact H2
    isplitl [H3] <;> iassumption
  rw [← bigSep_sep']
  exact bigSep_mono fun k _ => h k

/-- The state at the start of the body. -/
def Entry (c : Dev nD) (xv : Buf (Elt F) (xLoc c)) (X : sProp 𝕄) : sProp 𝕄 :=
  iprop(invs G K ∗ levAts L lv ∗ tbl c ∗ (∃ W, owes (c : Thread nD τ) (O₀ c) W) ∗ toSignal c 0 ∗ toSignal c 1 ∗ toSignal c 2
      ∗ cred (tallyAt (barCell c) () 3) ∗ atPos ER (barCell c) 0 ∅ 0 ∗ (xLoc c ↦{fullShare} xv) ∗ rowAny c c
      ∗ bigSep Finset.univ (sendKit c) ∗ bigSep Finset.univ (toRecv c) ∗ X)

theorem entry_core {I Lv T O P E M Ks Ks' Ts Ts' Es Es' own a b d e X Y : sProp 𝕄}
    (hK : iprop(M ∗ Ks) ⊢ Ks') (hE : (iprop(emp) : sProp 𝕄) ⊢ Es) (hE' : (iprop(emp) : sProp 𝕄) ⊢ Es') (hT : Ts ⊢ Ts')
    (hown : own ⊢ iprop(a ∗ b ∗ d ∗ e)) (hY : iprop(a ∗ P ∗ E ∗ X) ⊢ Y) :
    iprop(I ∗ Lv ∗ T ∗ O ∗ M ∗ P ∗ own ∗ E ∗ Ks ∗ Ts ∗ X) ⊢ iprop(I ∗ Lv ∗ T ∗ O ∗ Ks' ∗ Es ∗ Ts' ∗ Es' ∗ b ∗ d ∗ e ∗ Y) := by
  iintro ⟨HI, HL, HT, HO, HM, HP, Hown, HE, HK, Hts, HX⟩
  ihave Hown := hown $$ Hown
  icases Hown with ⟨Ha, Hb, Hd, He⟩
  isplitl [HI]; · iexact HI
  isplitl [HL]; · iexact HL
  isplitl [HT]; · iexact HT
  isplitl [HO]; · iexact HO
  isplitl [HM HK]
  · iapply hK; isplitl [HM] <;> iassumption
  isplitr; · iapply hE; iempintro
  isplitl [Hts]; · iapply hT; iexact Hts
  isplitr; · iapply hE'; iempintro
  isplitl [Hb]; · iexact Hb
  isplitl [Hd]; · iexact Hd
  isplitl [He]; · iexact He
  iapply hY
  isplitl [Ha]; · iexact Ha
  isplitl [HP]; · iexact HP
  isplitl [HE] <;> iassumption

theorem entry_St {xv : Buf (Elt F) (xLoc c)} {X : sProp 𝕄} :
    iprop(invs G K ∗ levAts L lv ∗ tbl c ∗ (∃ W, owes (c : Thread nD τ) (OS c 0) W) ∗ (bigSep Finset.univ fun k => mine (sh c (dstOff k)) k)
      ∗ (xLoc c ↦{fullShare} xv) ∗ row G c c fullShare ∗ atPos ER (barCell c) 1 ∅ 0 ∗ bigSep Finset.univ (sendKit c) ∗ bigSep Finset.univ (toRecv c) ∗ X)
    ⊢ St G K c 0 0 iprop(src G c 0 ∗ src G c 1 ∗ src G c 2 ∗ row G c c fullShare.left ∗ (xLoc c ↦{fullShare} xv) ∗ atPos ER (barCell c) 1 ∅ 0 ∗ X) := by
  unfold St
  have hge : (Finset.univ.filter fun k : Fin 31 => 0 ≤ k.val) = Finset.univ := by decide
  have hge' : (Finset.univ.filter fun k : Fin 31 => 0 ≤ (turn k).val) = Finset.univ := by decide
  have hlt : (Finset.univ.filter fun k : Fin 31 => k.val < 0) = ∅ := by decide
  have hlt' : (Finset.univ.filter fun k : Fin 31 => (turn k).val < 0) = ∅ := by decide
  rw [hge, hge', hlt, hlt', bigSep_empty, bigSep_empty]
  exact entry_core (kit_join c) .refl .refl .refl (own_split G c) .refl

set_option maxHeartbeats 1000000 in
theorem part1 {xv : Buf (Elt F) (xLoc c)} {X : sProp 𝕄}
    (hG : (rowM c).view.read (Elt F) (G : Buf (Elt F) (gxLoc c)) = k0_pay1 (F := F) xv) {Q}
    (hk : St G K c 0 0 iprop(src G c 0 ∗ src G c 1 ∗ src G c 2 ∗ row G c c fullShare.left ∗ (xLoc c ↦{fullShare} xv) ∗ atPos ER (barCell c) 1 ∅ 0 ∗ X)
      ⊢ Q ⟨word c ⟨0, by decide⟩, chk2 (word_dev c ⟨0, by decide⟩ (by decide)), word c ⟨1, by decide⟩, chk3 (word_dev c ⟨1, by decide⟩ (by decide)),
        word c ⟨2, by decide⟩, chk4 (word_dev c ⟨2, by decide⟩ (by decide)), word c ⟨3, by decide⟩, chk5 (word_row c ⟨3, by decide⟩ (by decide))⟩) :
    Entry G K c xv X ⊢ WP defs c (k0_part1 (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _) (Memref.whole cc0_scratch0) (Memref.isWhole_whole _)
      cc0_scratch1 cc0_scratch2 cc0_scratch3 cc0_scratch4 cc0_scratch5 cc0_scratch6 cc0_scratch7 cc0_scratch8 cc0_scratch9 cc0_scratch10) Q := by
  rw [k0_part1_eq_skeleton]; unfold k0_part1_skel Entry
  refine word_core (i := 0) (by decide) ?_
  refine assume_step (chk2 (word_dev c ⟨0, by decide⟩ (by decide))) ?_
  refine word_core (i := 1) (by decide) ?_
  refine assume_step (chk3 (word_dev c ⟨1, by decide⟩ (by decide))) ?_
  refine word_core (i := 2) (by decide) ?_
  refine assume_step (chk4 (word_dev c ⟨2, by decide⟩ (by decide))) ?_
  refine word_core (i := 3) (by decide) ?_
  refine assume_step (chk1 (word_row c ⟨3, by decide⟩ (by decide))) ?_
  refine start_core G K xv hG (fun d => invs_at G K (bar_mem d)) ?_ ?_ ?_ ?_ ?_
  · exact row_off₀ ((word_row c ⟨3, by decide⟩ (by decide)).trans (by rw [show wordOff ⟨3, by decide⟩ = 0 from rfl, sh_zero]))
  · exact Fin.ext (dev_eq (word_dev c ⟨0, by decide⟩ (by decide)))
  · exact Fin.ext (dev_eq (word_dev c ⟨1, by decide⟩ (by decide)))
  · exact Fin.ext (dev_eq (word_dev c ⟨2, by decide⟩ (by decide)))
  refine (entry_St G K).trans ?_
  refine word_step G K (i := 3) (by decide) ?_
  refine assume_step (chk5 (word_row c ⟨3, by decide⟩ (by decide))) ?_
  exact pure_step hk

end Cert.KernelIdeal.Gather
-- ==== Proof.KernelIdeal.Finish.lean ====
/-
  The gathered buffer made whole, the product (part 24), and the end of the body: everything lent has come back, and the counters
  are out of use.
-/
module

public import proofs.«01_k».proof.Proof.Gen.KernelIdeal.Skeleton
public import proofs.«01_k».proof.Proof.KernelIdeal.Start

@[expose] public section

set_option maxRecDepth 16384

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Ring Cert.KernelIdeal.Gen

variable {F : FTy → Type} [FloatOps F]

local notation "𝕄" => MT nD τ sig Unit (Elt F) ℕ UU ℕ

variable (G : Gx F) (K : GSem nD τ sig → ℕ)

/-! ## The gathered buffer, whole -/

/-- The rows received and the device's own are the whole buffer. -/
theorem gather_left (c : Dev nD) :
    iprop(bigSep Finset.univ (received G c) ∗ row G c c fullShare.left)
      ⊢ iprop((gxLoc c ↦{fullShare.left} (G : Buf (Elt F) (gxLoc c))) ∗ bigSep Finset.univ fun k => (atPos ER (recvCell c k) 1 ∅ 0 : sProp 𝕄)) := by
  have h : (bigSep Finset.univ (received G c) : sProp 𝕄)
      = iprop((bigSep Finset.univ fun k => row G c (sh c (rcvOff k)) fullShare.left) ∗ bigSep Finset.univ fun k => atPos ER (recvCell c k) 1 ∅ 0) :=
    bigSep_sep' _ _ _
  have h' : (gxLoc c ↦{fullShare.left} (G : Buf (Elt F) (gxLoc c)) : sProp 𝕄)
      = iprop(row G c c fullShare.left ∗ bigSep Finset.univ fun k => row G c (sh c (rcvOff k)) fullShare.left) := by
    rw [Ring.pointsTo_blocks (ℓ := gxLoc c) (q := fullShare.left) rowSet (fun b b' h => rowSet_disjoint b b' h) rowSet_cover (G : Buf (Elt F) (gxLoc c))]
    exact bigSep_around c fun d => row G c d fullShare.left
  rw [h, h']
  iintro ⟨⟨Hr, Ha⟩, Ho⟩
  isplitl [Hr Ho]
  · isplitl [Ho] <;> iassumption
  iexact Ha

/-- The transfers that pass rows on, each carrying what one transfer brought (the fifth and sixth, which share one arrival, apart). -/
def passK : Fin 26 ↪ Fin 31 := ⟨![3, 4, 7, 8, 9, 10, 11, 12, 13, 14, 15, 16, 17, 18, 19, 20, 21, 22, 23, 24, 25, 26, 27, 28, 29, 30], by decide⟩
def fromK : Fin 26 ↪ Fin 31 := ⟨![1, 2, 3, 4, 5, 6, 7, 8, 9, 10, 11, 12, 13, 14, 15, 16, 17, 18, 19, 20, 21, 22, 23, 24, 25, 26], by decide⟩
theorem pass_from (j : Fin 26) : srcOff (passK j) = rcvOff (fromK j) := by revert j; decide
theorem pass_ge (j : Fin 26) : 3 ≤ (passK j).val ∧ (passK j).val ≠ 5 ∧ (passK j).val ≠ 6 := by revert j; decide

theorem sep_arrange {a0 a1 a2 a5 a6 r l p q s t : sProp 𝕄} {own z : sProp 𝕄}
    (ho : iprop(a0 ∗ a1 ∗ a2) ⊢ own) (hz : iprop(a5 ∗ a6) ⊢ z) :
    iprop((a0 ∗ a1 ∗ a2 ∗ a5 ∗ a6 ∗ r) ∗ (p ∗ q ∗ s ∗ t) ∗ l) ⊢ iprop((own ∗ (z ∗ s ∗ t ∗ q ∗ p ∗ r)) ∗ l) := by
  iintro ⟨⟨H0, H1, H2, H5, H6, Hr⟩, ⟨Hp, Hq, Hs, Ht⟩, Hl⟩
  isplitr [Hl]
  · isplitl [H0 H1 H2]
    · iapply ho
      isplitl [H0]; · iexact H0
      isplitl [H1] <;> iassumption
    isplitl [H5 H6]
    · iapply hz
      isplitl [H5] <;> iassumption
    isplitl [Hs]; · iexact Hs
    isplitl [Ht]; · iexact Ht
    isplitl [Hq]; · iexact Hq
    isplitl [Hp] <;> iassumption
  iexact Hl

theorem join_right {l : Loc nD τ sig} {S : Finset (Idx l)} {q : PosShare TreeShare} {f : Buf (Elt F) l} :
    (iprop((l ↦[S]{q.left} f) ∗ (l ↦[S]{q.right} f)) : sProp 𝕄) ⊢ l ↦[S]{q} f :=
  (pointsTo_share (PosShare.mem_left_op_right q)).2

/-- Everything lent out has come back: the right halves of all rows, and with the left halves the buffer. -/
theorem regather (c : Dev nD) :
    iprop((bigSep Finset.univ fun k => src G c k) ∗ (spare G c 30 ∗ spare G c 29 ∗ spare G c 28 ∗ spare G c 27)
      ∗ (gxLoc c ↦{fullShare.left} (G : Buf (Elt F) (gxLoc c))))
      ⊢ iprop(∃ f : Buf (Elt F) (gxLoc c), gxLoc c ↦{fullShare} f) := by
  have hs : (bigSep Finset.univ (fun k => src G c k) : sProp 𝕄)
      = iprop(src G c 0 ∗ src G c 1 ∗ src G c 2 ∗ src G c 5 ∗ src G c 6 ∗ bigSep Finset.univ fun j => spare G c (fromK j)) := by
    rw [show (Finset.univ : Finset (Fin 31)) = insert 0 (insert 1 (insert 2 (insert 5 (insert 6 (Finset.univ.map passK))))) from by decide,
      bigSep_ins (by decide), bigSep_ins (by decide), bigSep_ins (by decide), bigSep_ins (by decide), bigSep_ins (by decide), bigSep_map]
    have : ∀ j, (src G c (passK j) : sProp 𝕄) = spare G c (fromK j) := fun j => by
      unfold src spare; rw [pass_from, lent_pass _ (pass_ge j)]
    rw [bigSep_congr fun j _ => this j]
  have hr : (gxLoc c ↦{fullShare.right} (G : Buf (Elt F) (gxLoc c)) : sProp 𝕄)
      = iprop(row G c c fullShare.right ∗ (spare G c 0 ∗ spare G c 28 ∗ spare G c 27 ∗ spare G c 29 ∗ spare G c 30
        ∗ bigSep Finset.univ fun j => spare G c (fromK j))) := by
    rw [Ring.pointsTo_blocks (ℓ := gxLoc c) (q := fullShare.right) rowSet (fun b b' h => rowSet_disjoint b b' h) rowSet_cover (G : Buf (Elt F) (gxLoc c)),
      bigSep_around c fun d => row G c d fullShare.right]
    rw [show (Finset.univ : Finset (Fin 31)) = insert 0 (insert 28 (insert 27 (insert 29 (insert 30 (Finset.univ.map fromK))))) from by decide,
      bigSep_ins (by decide), bigSep_ins (by decide), bigSep_ins (by decide), bigSep_ins (by decide), bigSep_ins (by decide), bigSep_map]
  have h0 : iprop(src G c 0 ∗ src G c 1 ∗ src G c 2) ⊢ (row G c c fullShare.right : sProp 𝕄) := by
    have e0 : (src G c 0 : sProp 𝕄) = row G c c fullShare.right.left := by
      unfold src; rw [show srcOff 0 = 0 from rfl, sh_zero, show lent 0 = fullShare.right.left from rfl]
    have e1 : (src G c 1 : sProp 𝕄) = row G c c fullShare.right.right.left := by
      unfold src; rw [show srcOff 1 = 0 from rfl, sh_zero, show lent 1 = fullShare.right.right.left from rfl]
    have e2 : (src G c 2 : sProp 𝕄) = row G c c fullShare.right.right.right := by
      unfold src; rw [show srcOff 2 = 0 from rfl, sh_zero, show lent 2 = fullShare.right.right.right from rfl]
    rw [e0, e1, e2]
    iintro ⟨H0, H1, H2⟩
    iapply join_right
    isplitl [H0]; · iexact H0
    iapply join_right
    isplitl [H1] <;> iassumption
  have h5 : iprop(src G c 5 ∗ src G c 6) ⊢ (spare G c 0 : sProp 𝕄) := by
    have e5 : (src G c 5 : sProp 𝕄) = row G c (sh c (rcvOff 0)) fullShare.right.left := by
      unfold src; rw [show srcOff 5 = rcvOff 0 from by decide, show lent 5 = fullShare.right.left from by unfold lent; simp]
    have e6 : (src G c 6 : sProp 𝕄) = row G c (sh c (rcvOff 0)) fullShare.right.right := by
      unfold src; rw [show srcOff 6 = rcvOff 0 from by decide, show lent 6 = fullShare.right.right from by unfold lent; simp]
    rw [e5, e6]
    exact join_right
  rw [hs]
  refine (sep_arrange h0 h5).trans ?_
  rw [show iprop(spare G c 0 ∗ spare G c 28 ∗ spare G c 27 ∗ spare G c 29 ∗ spare G c 30 ∗ bigSep Finset.univ fun j => spare G c (fromK j))
    = (iprop(spare G c 0 ∗ spare G c 28 ∗ spare G c 27 ∗ spare G c 29 ∗ spare G c 30 ∗ bigSep Finset.univ fun j => spare G c (fromK j)) : sProp 𝕄) from rfl, ← hr]
  iintro ⟨Hr, Hl⟩
  iexists G
  iapply join_right
  isplitl [Hl] <;> iassumption

/-! ## The counters, out of use again -/

theorem close_cells (c : Dev nD) :
    iprop(invs G K ∗ (bigSep Finset.univ fun k => (atPos ER (sendCell c k) 1 ∅ 0 : sProp 𝕄)) ∗ (bigSep Finset.univ fun k => (atPos ER (recvCell c k) 1 ∅ 0 : sProp 𝕄))
      ∗ atPos ER (barCell c) 1 ∅ 0)
    ⊢ iprop(|={Set.univ}=> (semVal (barCell c) 0 ∗ bigSep Finset.univ fun x : Fin 31 × Bool => semVal ((c : Thread nD τ), .dma (dmaNo x)) 0) : sProp 𝕄) := by
  have hone : ∀ g, g ∈ barCells ∪ dmaCells → iprop(invs G K ∗ (atPos ER g 1 ∅ 0 : sProp 𝕄)) ⊢ (iprop(|={Set.univ}=> semVal g 0) : sProp 𝕄) := fun g hg => by
    iintro ⟨HI, Ha⟩
    ihave HI := (invs_at G K hg) $$ HI
    iapply (Rounds.cell_close ER (gatherRd G) (Set.mem_univ (K g)) id (duties_later G g))
    isplitl [HI] <;> iassumption
  have hmany : ∀ (h : Fin 31 → GSem nD τ sig), (∀ k, h k ∈ barCells ∪ dmaCells) →
      iprop(invs G K ∗ bigSep Finset.univ fun k => (atPos ER (h k) 1 ∅ 0 : sProp 𝕄)) ⊢ (iprop(|={Set.univ}=> bigSep Finset.univ fun k => semVal (h k) 0) : sProp 𝕄) := fun h hh => by
    refine BIBase.Entails.trans ?_ (bigSep_fupd (Fr := frame) (E := Set.univ) Finset.univ _)
    exact bigSep_with_persistent fun k _ => hone _ (hh k)
  have hd : (bigSep Finset.univ (fun x : Fin 31 × Bool => semVal ((c : Thread nD τ), .dma (dmaNo x)) 0) : sProp 𝕄)
      = iprop((bigSep Finset.univ fun k => semVal (sendCell c k) 0) ∗ bigSep Finset.univ fun k => semVal (recvCell c k) 0) := by
    rw [bigSep_univ_prod, ← bigSep_sep']
    refine bigSep_congr fun k _ => ?_
    rw [show (Finset.univ : Finset Bool) = insert false {true} from by decide, bigSep_ins (by decide), bigSep_singleton]
    rfl
  rw [hd]
  iintro ⟨#HI, Hs, Hr, Hb⟩
  imod (hmany (sendCell c) (send_mem c)) $$ [Hs] with Hs
  · isplitr; · iexact HI
    iexact Hs
  imod (hmany (recvCell c) (recv_mem c)) $$ [Hr] with Hr
  · isplitr; · iexact HI
    iexact Hr
  imod (hone _ (bar_mem c)) $$ [Hb] with Hb
  · isplitr; · iexact HI
    iexact Hb
  imodintro
  isplitl [Hb]; · iexact Hb
  isplitl [Hs] <;> iassumption

/-! ## The product -/

variable {α : Type} {c : Dev nD} {defs : Defs nD τ sig (Elt F) Λ₀}
variable {Q : α → sProp (MT nD τ sig Unit (Elt F) ℕ UU ℕ)}

abbrev wLoc (c : Dev nD) : Loc nD τ sig := (Memref.whole cc0_stg1_0).view.loc (c : Thread nD τ)
abbrev oLoc (c : Dev nD) : Loc nD τ sig := (Memref.whole cc0_stg3_0).view.loc (c : Thread nD τ)

/-- Reading the whole of both factors and writing the whole of the result. -/
theorem product_core {R : sProp 𝕄} (wv : Buf (Elt F) (wLoc c))
    {hi1 : ∀ a, (![0, 0] : Fin 2 → ℕ) a + S2048x64.size a ≤ S2048x64.size a} {hi4 : ∀ a, (![0, 0] : Fin 2 → ℕ) a + S2048x2048.size a ≤ S2048x2048.size a}
    {hl1 : (Memref.whole cc0_stg1_0).view.LoadsAt (Rect.unit (s := S2048x64) ![0, 0] S2048x64.size hi1).toLoadRect}
    {hl4 : gxM.view.LoadsAt (Rect.unit (s := S2048x2048) ![0, 0] S2048x2048.size hi4).toLoadRect}
    {hl3 : (Memref.whole cc0_stg3_0).view.LoadsAt (Rect.unit (s := S2048x64) ![0, 0] S2048x64.size hi1).toLoadRect}
    {hst : ((Memref.whole cc0_stg3_0).access (Rect.unit (s := S2048x64) ![0, 0] S2048x64.size hi1)).Stores Finset.univ}
    {hm : (Finset.univ : Finset S2048x64.Idx) = Finset.univ ∨ ∀ a, (Rect.unit (s := S2048x64) ![0, 0] S2048x64.size hi1).stride a = 1}
    {kont : PUnit → Prog (TpuEff nD τ sig (Elt F) Λ₀ .tc) α}
    (hk : iprop((wLoc c ↦{fullShare} wv) ∗ (gxLoc c ↦{fullShare.left} (G : Buf (Elt F) (gxLoc c)))
      ∗ (oLoc c ↦{fullShare} (k0_pay2 (F := F) wv G : Buf (Elt F) (oLoc c))) ∗ R) ⊢ WP defs c (kont ⟨⟩) Q) :
    iprop((wLoc c ↦{fullShare} wv) ∗ (gxLoc c ↦{fullShare.left} (G : Buf (Elt F) (gxLoc c))) ∗ (∃ f : Buf (Elt F) (oLoc c), oLoc c ↦{fullShare} f) ∗ R)
    ⊢ WP defs c (Prog.lift (.load (Memref.whole cc0_stg1_0) (Rect.unit (s := S2048x64) ![0, 0] S2048x64.size hi1).toLoadRect hl1) >>= fun v638 =>
        Prog.lift (.load gxM (Rect.unit (s := S2048x2048) ![0, 0] S2048x2048.size hi4).toLoadRect hl4) >>= fun v640 =>
        Prog.lift (.load (Memref.whole cc0_stg3_0) (Rect.unit (s := S2048x64) ![0, 0] S2048x64.size hi1).toLoadRect hl3) >>= fun _ =>
        Prog.lift (.store (Memref.whole cc0_stg3_0) (Rect.unit (s := S2048x64) ![0, 0] S2048x64.size hi1) (k0_pay2 v638 v640) Finset.univ hst hm) >>= kont) Q := by
  rw [lift_bind]
  iintro ⟨Hw, Hg, ⟨%f, Ho⟩, HR⟩
  iapply (wp_load_rect (defs := defs) 𝒱₀ (c : Thread nD τ) none Set.univ (m := Memref.whole cc0_stg1_0) (r := Rect.unit (s := S2048x64) ![0, 0] S2048x64.size hi1)
      (q := fullShare) (f := wv) (Finset.subset_univ _)) $$ Hw
  iintro Hw
  rw [show ((Memref.whole cc0_stg1_0).access (Rect.unit (s := S2048x64) ![0, 0] S2048x64.size hi1)).read (Elt F) wv = wv from
    Memref.read_access_unit_zero (Elt F) cc0_stg1_0 zero_off hi1 wv, lift_bind]
  iapply (wp_load_rect (defs := defs) 𝒱₀ (c : Thread nD τ) none Set.univ (m := gxM) (r := Rect.unit (s := S2048x2048) ![0, 0] S2048x2048.size hi4)
      (q := fullShare.left) (f := (G : Buf (Elt F) (gxLoc c))) (Finset.subset_univ _)) $$ Hg
  iintro Hg
  rw [show (gxM.access (Rect.unit (s := S2048x2048) ![0, 0] S2048x2048.size hi4)).read (Elt F) G = G from
    Memref.read_access_unit_zero (Elt F) cc0_scratch0 zero_off hi4 G, lift_bind]
  iapply (wp_load_rect (defs := defs) 𝒱₀ (c : Thread nD τ) none Set.univ (m := Memref.whole cc0_stg3_0) (r := Rect.unit (s := S2048x64) ![0, 0] S2048x64.size hi1)
      (q := fullShare) (f := f) (Finset.subset_univ _)) $$ Ho
  iintro Ho
  rw [lift_bind]
  iapply (wp_store (defs := defs) 𝒱₀ (c : Thread nD τ) none Set.univ (m := Memref.whole cc0_stg3_0) (r := Rect.unit (s := S2048x64) ![0, 0] S2048x64.size hi1)
      (f := f) (Finset.subset_univ _)) $$ Ho
  iintro Ho
  rw [show ((Memref.whole cc0_stg3_0).access (Rect.unit (s := S2048x64) ![0, 0] S2048x64.size hi1)).write (Elt F) f (k0_pay2 (F := F) wv G) Finset.univ = k0_pay2 (F := F) wv G from
    Memref.write_access_unit_zero_univ (Elt F) cc0_stg3_0 zero_off hi1 f _]
  iapply hk
  isplitl [Hw]; · iexact Hw
  isplitl [Hg]; · iexact Hg
  isplitl [Ho] <;> iassumption

/-! ## Part 24 -/

/-- What is held beside the transfers when the product has been written. -/
def Tail (c : Dev nD) (xv : Buf (Elt F) (xLoc c)) (wv : Buf (Elt F) (wLoc c)) (X : sProp 𝕄) : sProp 𝕄 :=
  iprop((wLoc c ↦{fullShare} wv) ∗ (gxLoc c ↦{fullShare.left} (G : Buf (Elt F) (gxLoc c))) ∗ (oLoc c ↦{fullShare} (k0_pay2 (F := F) wv G : Buf (Elt F) (oLoc c)))
    ∗ (spare G c 30 ∗ spare G c 29 ∗ spare G c 28 ∗ spare G c 27) ∗ (bigSep Finset.univ fun k => atPos ER (recvCell c k) 1 ∅ 0)
    ∗ (xLoc c ↦{fullShare} xv) ∗ atPos ER (barCell c) 1 ∅ 0 ∗ tbl c ∗ X)

theorem before_core {I Lv T O Ks Es Ts Rc s0 s1 s2 s3 own x b w g a o X : sProp 𝕄} (hg : iprop(Rc ∗ own) ⊢ iprop(g ∗ a)) :
    iprop(I ∗ Lv ∗ T ∗ O ∗ Ks ∗ Es ∗ Ts ∗ Rc ∗ (s0 ∗ s1 ∗ s2 ∗ s3 ∗ (own ∗ x ∗ b ∗ w ∗ o ∗ X)))
      ⊢ iprop(w ∗ g ∗ o ∗ (I ∗ Lv ∗ T ∗ O ∗ Ks ∗ Es ∗ Ts ∗ (s0 ∗ s1 ∗ s2 ∗ s3) ∗ a ∗ x ∗ b ∗ X)) := by
  iintro ⟨HI, HL, HT, HO, HK, HE, HTs, HR, H0, H1, H2, H3, Hown, Hx, Hb, Hw, Ho, HX⟩
  ihave Hg := hg $$ [HR Hown]
  · isplitl [HR] <;> iassumption
  icases Hg with ⟨Hg, Ha⟩
  isplitl [Hw]; · iexact Hw
  isplitl [Hg]; · iexact Hg
  isplitl [Ho]; · iexact Ho
  isplitl [HI]; · iexact HI
  isplitl [HL]; · iexact HL
  isplitl [HT]; · iexact HT
  isplitl [HO]; · iexact HO
  isplitl [HK]; · iexact HK
  isplitl [HE]; · iexact HE
  isplitl [HTs]; · iexact HTs
  isplitl [H0 H1 H2 H3]
  · isplitl [H0]; · iexact H0
    isplitl [H1]; · iexact H1
    isplitl [H2] <;> iassumption
  isplitl [Ha]; · iexact Ha
  isplitl [Hx]; · iexact Hx
  isplitl [Hb] <;> iassumption

theorem after_core {I Lv T O Es Es' Bs x b w g a o s X Ks Ts : sProp 𝕄} (hE : Es ⊢ Es') (hB : (iprop(emp) : sProp 𝕄) ⊢ Bs)
    (hK : Ks ⊢ (iprop(emp) : sProp 𝕄)) (hT : Ts ⊢ (iprop(emp) : sProp 𝕄)) (hL : Lv ⊢ (iprop(emp) : sProp 𝕄)) :
    iprop(w ∗ g ∗ o ∗ (I ∗ Lv ∗ T ∗ O ∗ Ks ∗ Es ∗ Ts ∗ s ∗ a ∗ x ∗ b ∗ X))
      ⊢ iprop(I ∗ O ∗ Es' ∗ Bs ∗ (w ∗ g ∗ o ∗ s ∗ a ∗ x ∗ b ∗ T ∗ X)) := by
  iintro ⟨Hw, Hg, Ho, HI, HL, HT, HO, HK, HE, HTs, Hs, Ha, Hx, Hb, HX⟩
  ihave HK := hK $$ HK
  ihave HTs := hT $$ HTs
  ihave HL := hL $$ HL
  icases HK with -
  icases HTs with -
  icases HL with -
  isplitl [HI]; · iexact HI
  isplitl [HO]; · iexact HO
  isplitl [HE]; · iapply hE; iexact HE
  isplitr; · iapply hB; iempintro
  isplitl [Hw]; · iexact Hw
  isplitl [Hg]; · iexact Hg
  isplitl [Ho]; · iexact Ho
  isplitl [Hs]; · iexact Hs
  isplitl [Ha]; · iexact Ha
  isplitl [Hx]; · iexact Hx
  isplitl [Hb]; · iexact Hb
  isplitl [HT] <;> iassumption

/-- What is held beside the gather up to the product. -/
abbrev Mid (c : Dev nD) (xv : Buf (Elt F) (xLoc c)) (wv : Buf (Elt F) (wLoc c)) (X : sProp 𝕄) : sProp 𝕄 :=
  iprop(row G c c fullShare.left ∗ (xLoc c ↦{fullShare} xv) ∗ atPos ER (barCell c) 1 ∅ 0 ∗ (wLoc c ↦{fullShare} wv)
    ∗ (∃ f : Buf (Elt F) (oLoc c), oLoc c ↦{fullShare} f) ∗ X)

set_option maxHeartbeats 1000000 in
theorem part24 {h65 : k0_chk65 (word c ⟨19, by decide⟩)} {xv : Buf (Elt F) (xLoc c)} {wv : Buf (Elt F) (wLoc c)} {X : sProp 𝕄} {Q}
    (hk : Sw G K c 0 (Tail G c xv wv X) ⊢ Q ⟨⟩) :
    St G K c 31 29 iprop(spare G c 28 ∗ spare G c 27 ∗ Mid G c xv wv X) ⊢ WP defs c (k0_part24 (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _) (Memref.whole cc0_scratch0) (Memref.isWhole_whole _)
      cc0_scratch1 cc0_scratch2 cc0_scratch3 cc0_scratch4 cc0_scratch5 cc0_scratch6 cc0_scratch7 cc0_scratch8 cc0_scratch9 cc0_scratch10
      (word c ⟨1, by decide⟩) (word c ⟨19, by decide⟩) h65) Q := by
  rw [k0_part24_eq_skeleton]; unfold k0_part24_skel
  refine recv_step G K 29 (X' := iprop(spare G c 29 ∗ spare G c 28 ∗ spare G c 27 ∗ Mid G c xv wv X)) (by decide) (by decide) ?_ ?_ ?_
  · rfl
  · exact Entails.rfl
  refine word_step G K (i := 36) (by decide) ?_
  refine assume_step (chk66 (word_row c ⟨36, by decide⟩ (by decide))) ?_
  refine recv_step G K 30 (X' := iprop(spare G c 30 ∗ spare G c 29 ∗ spare G c 28 ∗ spare G c 27 ∗ Mid G c xv wv X)) (by decide) (by decide) ?_ ?_ ?_
  · rfl
  · exact Entails.rfl
  unfold St
  have hall : (Finset.univ.filter fun k : Fin 31 => (turn k).val < 29 + 1 + 1) = Finset.univ := by decide
  have hallE : (Finset.univ.filter fun k : Fin 31 => k.val < 31) = Finset.univ := by decide
  have hnoK : (Finset.univ.filter fun k : Fin 31 => 31 ≤ k.val) = ∅ := by decide
  have hnoT : (Finset.univ.filter fun k : Fin 31 => 29 + 1 + 1 ≤ (turn k).val) = ∅ := by decide
  rw [hall, hallE, hnoK, hnoT, bigSep_empty, bigSep_empty, OS_end]
  refine (before_core (gather_left G c)).trans ?_
  refine product_core G wv ?_
  refine BIBase.Entails.trans ?_ (pure_step hk)
  unfold Sw Tail
  have h0 : (Finset.univ.filter fun k : Fin 31 => 0 ≤ k.val) = Finset.univ := by decide
  have h0' : (Finset.univ.filter fun k : Fin 31 => k.val < 0) = ∅ := by decide
  rw [h0, h0', bigSep_empty]
  exact after_core .rfl .rfl .rfl .rfl (by iintro -; iempintro)

end Cert.KernelIdeal.Gather
-- ==== Proof.KernelIdeal.Body.lean ====
/-
  The body, its thirty parts in order: from what a device holds at the start to what it holds at the end.
-/
module

public import proofs.«01_k».proof.Proof.KernelIdeal.PartsA
public import proofs.«01_k».proof.Proof.KernelIdeal.PartsB
public import proofs.«01_k».proof.Proof.KernelIdeal.PartsC
public import proofs.«01_k».proof.Proof.KernelIdeal.PartsD
public import proofs.«01_k».proof.Proof.KernelIdeal.PartsE
public import proofs.«01_k».proof.Proof.KernelIdeal.Finish

@[expose] public section

set_option maxRecDepth 16384

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Ring Cert.KernelIdeal.Gen

variable {F : FTy → Type} [FloatOps F]

local notation "𝕄" => MT nD τ sig Unit (Elt F) ℕ UU ℕ

variable (G : Gx F) (K : GSem nD τ sig → ℕ) {c : Dev nD} {defs : Defs nD τ sig (Elt F) Λ₀}

theorem bind_step {α β : Type} {X : sProp 𝕄} {p : Prog (TpuEff nD τ sig (Elt F) Λ₀ .tc) β} {k : β → Prog (TpuEff nD τ sig (Elt F) Λ₀ .tc) α}
    {Q : α → sProp (MT nD τ sig Unit (Elt F) ℕ UU ℕ)} (h : X ⊢ WP defs c p (fun a => WP defs c (k a) Q)) : X ⊢ WP defs c (p >>= k) Q := by
  unfold WP at h ⊢
  rw [wp_bind]
  exact h

/-- What a device holds at the end of the body. -/
def Leave (c : Dev nD) (xv : Buf (Elt F) (xLoc c)) (wv : Buf (Elt F) (wLoc c)) (X : sProp 𝕄) : sProp 𝕄 :=
  iprop((∃ W, owes (c : Thread nD τ) (0 : CellTallies nD τ sig Unit) W) ∗ (xLoc c ↦{fullShare} xv) ∗ (wLoc c ↦{fullShare} wv) ∗ tbl c
    ∗ (oLoc c ↦{fullShare} (k0_pay2 (F := F) wv G : Buf (Elt F) (oLoc c))) ∗ (∃ f : Buf (Elt F) (gxLoc c), gxLoc c ↦{fullShare} f)
    ∗ semVal (barCell c) 0 ∗ (bigSep Finset.univ fun x : Fin 31 × Bool => semVal ((c : Thread nD τ), .dma (dmaNo x)) 0) ∗ X)

theorem leave_core {I O S BK BA w gl o s a x b T X g b0 d : sProp 𝕄} [BI.Persistent I]
    (hS : S ⊢ (iprop(emp) : sProp 𝕄)) (hB : BK ⊢ iprop(BA ∗ bigSep Finset.univ fun k => (atPos ER (sendCell c k) 1 ∅ 0 : sProp 𝕄)))
    (hg : iprop(BA ∗ s ∗ gl) ⊢ g)
    (hc : iprop(I ∗ (bigSep Finset.univ fun k => (atPos ER (sendCell c k) 1 ∅ 0 : sProp 𝕄)) ∗ a ∗ b) ⊢ (iprop(|={Set.univ}=> (b0 ∗ d)) : sProp 𝕄)) :
    iprop(I ∗ O ∗ S ∗ BK ∗ (w ∗ gl ∗ o ∗ s ∗ a ∗ x ∗ b ∗ T ∗ X)) ⊢ (iprop(|={Set.univ}=> (O ∗ x ∗ w ∗ T ∗ o ∗ g ∗ b0 ∗ d ∗ X)) : sProp 𝕄) := by
  iintro ⟨#HI, HO, HS, HBK, Hw, Hgl, Ho, Hs, Ha, Hx, Hb, HT, HX⟩
  ihave HS := hS $$ HS
  icases HS with -
  ihave HB := hB $$ HBK
  icases HB with ⟨HB, Hat⟩
  ihave Hg := hg $$ [HB Hs Hgl]
  · isplitl [HB]; · iexact HB
    isplitl [Hs] <;> iassumption
  imod hc $$ [Hat Ha Hb] with ⟨Hb0, Hd⟩
  · isplitr; · iexact HI
    isplitl [Hat]; · iexact Hat
    isplitl [Ha] <;> iassumption
  imodintro
  isplitl [HO]; · iexact HO
  isplitl [Hx]; · iexact Hx
  isplitl [Hw]; · iexact Hw
  isplitl [HT]; · iexact HT
  isplitl [Ho]; · iexact Ho
  isplitl [Hg]; · iexact Hg
  isplitl [Hb0]; · iexact Hb0
  isplitl [Hd] <;> iassumption

theorem leave {xv : Buf (Elt F) (xLoc c)} {wv : Buf (Elt F) (wLoc c)} {X : sProp 𝕄} :
    Sw G K c 31 (Tail G c xv wv X) ⊢ (iprop(|={Set.univ}=> Leave G c xv wv X) : sProp 𝕄) := by
  unfold Sw Tail Leave
  have hno : (Finset.univ.filter fun k : Fin 31 => 31 ≤ k.val) = ∅ := by decide
  have hall : (Finset.univ.filter fun k : Fin 31 => k.val < 31) = Finset.univ := by decide
  rw [hno, hall, bigSep_empty]
  have hB : (bigSep Finset.univ (backed G c) : sProp 𝕄)
      = iprop((bigSep Finset.univ fun k => src G c k) ∗ bigSep Finset.univ fun k => (atPos ER (sendCell c k) 1 ∅ 0 : sProp 𝕄)) :=
    bigSep_sep' _ _ _
  exact leave_core .rfl (Entails.of_eq hB) (regather G c) (close_cells G K c)

set_option maxHeartbeats 4000000 in
/-- The body, from start to end. -/
theorem body_run {xv : Buf (Elt F) (xLoc c)} {wv : Buf (Elt F) (wLoc c)} {X : sProp 𝕄}
    (hG : (rowM c).view.read (Elt F) (G : Buf (Elt F) (gxLoc c)) = k0_pay1 (F := F) xv) :
    Entry G K c xv iprop((wLoc c ↦{fullShare} wv) ∗ (∃ f : Buf (Elt F) (oLoc c), oLoc c ↦{fullShare} f) ∗ X)
      ⊢ WP defs c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _)
      cc0_scratch1 cc0_scratch2 cc0_scratch3 cc0_scratch4 cc0_scratch5 cc0_scratch6 cc0_scratch7 cc0_scratch8 cc0_scratch9 cc0_scratch10) (fun _ => Leave G c xv wv X) := by
  rw [cc0_body_eq_skeleton]; unfold cc0_body_skel
  refine bind_step (part1 G K hG ?_)
  refine bind_step (part2 G K ?_)
  refine bind_step (part3 G K ?_)
  refine bind_step (part4 G K ?_)
  refine bind_step (part5 G K ?_)
  refine bind_step (part6 G K ?_)
  refine bind_step (part7 G K ?_)
  refine bind_step (part8 G K ?_)
  refine bind_step (part9 G K ?_)
  refine bind_step (part10 G K ?_)
  refine bind_step (part11 G K ?_)
  refine bind_step (part12 G K ?_)
  refine bind_step (part13 G K ?_)
  refine bind_step (part14 G K ?_)
  refine bind_step (part15 G K ?_)
  refine bind_step (part16 G K ?_)
  refine bind_step (part17 G K ?_)
  refine bind_step (part18 G K ?_)
  refine bind_step (part19 G K ?_)
  refine bind_step (part20 G K ?_)
  refine bind_step (part21 G K ?_)
  refine bind_step (part22 G K ?_)
  refine bind_step (part23 G K ?_)
  refine bind_step (part24 G K ?_)
  refine bind_step (part25 G K ?_)
  refine bind_step (part26 G K ?_)
  refine bind_step (part27 G K ?_)
  refine bind_step (part28 G K ?_)
  refine bind_step (part29 G K ?_)
  refine bind_step (part30 G K ?_)
  refine left_step G K 30 rfl ?_ ?_
  · rfl
  show _ ⊢ iprop(|={Set.univ}[frame]=> Leave G c xv wv X)
  exact leave G K

end Cert.KernelIdeal.Gather
-- ==== Proof.KernelIdeal.Deal.lean ====
/-
  What the launch deals: the credit for every arrival, the tokens of every transfer and signal, and the counters put in use.
-/
module

public import proofs.«01_k».proof.Proof.KernelIdeal.Finish
public import proofs.«01_k».proof.Proof.Gen.KernelIdeal.Launch
public import Idealize.ShloMosaic.Lib.Pipeline.Launch

@[expose] public section

set_option maxRecDepth 16384

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Ring Cert.KernelIdeal.Gen

variable {F : FTy → Type} [FloatOps F]

local notation "𝕄" => MT nD τ sig Unit (Elt F) ℕ UU ℕ

/-! ## The launch credit -/

/-- What is owed to device `c`: three signals, and one arrival on each of its 31 transfers. -/
def due (c : Dev nD) : CellTallies nD τ sig Unit :=
  tallyAt (barCell c) () 3 + ∑ k : Fin 31, tallyAt (recvCell c k) () N

theorem sum_OB : (∑ d : Dev nD, OB d 0) = ∑ d : Dev nD, (tallyAt (barCell d) () 3 : CellTallies nD τ sig Unit) := by
  have h : ∀ d : Dev nD, OB d 0 = ∑ j : Fin 3, tallyAt (barCell (sh d (nbr j))) () 1 := fun d => by
    unfold OB; rw [show (Finset.univ.filter fun j : Fin 3 => 0 ≤ j.val) = Finset.univ from by decide]
  rw [Finset.sum_congr rfl fun d _ => h d, Finset.sum_comm]
  have e : ∀ j : Fin 3, (∑ d : Dev nD, (tallyAt (barCell (sh d (nbr j))) () 1 : CellTallies nD τ sig Unit)) = ∑ d : Dev nD, tallyAt (barCell d) () 1 := fun j =>
    Equiv.sum_comp (shift (nbr j)) (fun d : Dev nD => (tallyAt (barCell d) () 1 : CellTallies nD τ sig Unit))
  rw [Finset.sum_congr rfl fun j _ => e j, Finset.sum_comm]
  refine Finset.sum_congr rfl fun d _ => ?_
  rw [Fin.sum_univ_three, tallyAt_add, tallyAt_add]

theorem sum_OS : (∑ d : Dev nD, OS d 0) = ∑ d : Dev nD, ∑ k : Fin 31, (tallyAt (recvCell d k) () N : CellTallies nD τ sig Unit) := by
  have h : ∀ d : Dev nD, OS d 0 = ∑ k : Fin 31, tallyAt (recvCell (sh d (dstOff k)) k) () N := fun d => by
    unfold OS; rw [show (Finset.univ.filter fun j : Fin 31 => 0 ≤ j.val) = Finset.univ from by decide]
  rw [Finset.sum_congr rfl fun d _ => h d, Finset.sum_comm]
  have e : ∀ k : Fin 31, (∑ d : Dev nD, (tallyAt (recvCell (sh d (dstOff k)) k) () N : CellTallies nD τ sig Unit)) = ∑ d : Dev nD, tallyAt (recvCell d k) () N := fun k =>
    Equiv.sum_comp (shift (dstOff k)) (fun d : Dev nD => (tallyAt (recvCell d k) () N : CellTallies nD τ sig Unit))
  rw [Finset.sum_congr rfl fun k _ => e k, Finset.sum_comm]

theorem sum_owed : (∑ d : Dev nD, O₀ d) = ∑ d : Dev nD, due d := by
  unfold O₀ due
  rw [Finset.sum_add_distrib, Finset.sum_add_distrib, sum_OS, sum_OB, add_comm]

theorem due_dev (d : Dev nD) (g : GSem nD τ sig) (h : due d g ≠ 0) : g.1 = (d.tc : Thread nD τ) := by
  by_contra hg
  refine h ?_
  unfold due
  rw [Pi.add_apply, Finset.sum_apply, tallyAt_ne_cell (fun e => hg (congrArg Prod.fst e)), zero_add]
  exact Finset.sum_eq_zero fun k _ => tallyAt_ne_cell (fun e => hg (congrArg Prod.fst e)) _ _

/-- The credit each device is dealt. -/
theorem launch_credit (c : Dev nD) : (Pipeline.launchCred O₀ c : sProp 𝕄)
    ⊢ iprop(cred (tallyAt (barCell c) () 3) ∗ bigSep Finset.univ fun k : Fin 31 => cred (tallyAt (recvCell c k) () N)) := by
  rw [Pipeline.launchCred_of_sum O₀ due sum_owed due_dev c, ← Pipeline.cred_finsetSum]
  exact (cred_add _ _).1

/-! ## The tokens -/

abbrev TokIx : Type := Dev nD × (Fin 3 ⊕ Fin 31 × Bool)
/-- The token at each index: a signal's, or a transfer's on one of its two counters. -/
def tokOf : TokIx → GSem nD τ sig × ℕ × Fin 3
  | (c, .inl j) => (barCell c, 0, j)
  | (c, .inr x) => (((c : Thread nD τ), .dma (dmaNo x)), 0, 0)
theorem tokOf_inj : Function.Injective tokOf := by
  rintro ⟨c, j | x⟩ ⟨c', j' | x'⟩ h
  · have h1 : c = c' := congrArg (fun t : GSem nD τ sig × ℕ × Fin 3 => t.1.1.1) h
    have h2 : j = j' := congrArg (fun t : GSem nD τ sig × ℕ × Fin 3 => t.2.2) h
    rw [h1, h2]
  · exact absurd (congrArg (fun t : GSem nD τ sig × ℕ × Fin 3 => t.1.2) h) (fun e => by injection e)
  · exact absurd (congrArg (fun t : GSem nD τ sig × ℕ × Fin 3 => t.1.2) h) (fun e => by injection e)
  · have h1 : c = c' := congrArg (fun t : GSem nD τ sig × ℕ × Fin 3 => t.1.1.1) h
    have h2 : dmaNo x = dmaNo x' := SemLoc.dma.inj (congrArg (fun t : GSem nD τ sig × ℕ × Fin 3 => t.1.2) h)
    rw [h1, dmaNo_inj h2]
def toks : Finset (GSem nD τ sig × ℕ × Fin 3) := Finset.univ.map ⟨tokOf, tokOf_inj⟩

theorem cells_disjoint : Disjoint barCells dmaCells := by
  unfold barCells dmaCells
  rw [Finset.disjoint_left]
  rintro g h1 h2
  obtain ⟨c, -, rfl⟩ := Finset.mem_map.mp h1
  obtain ⟨x, -, h⟩ := Finset.mem_map.mp h2
  exact absurd (congrArg (fun g : GSem nD τ sig => g.2) h) (fun e => by injection e)

/-- What a device spends: the tokens of the signals it gives and of the transfers it issues. -/
def spend (c : Dev nD) : sProp 𝕄 :=
  iprop((bigSep Finset.univ fun j : Fin 3 => dutyTok ER (barCell (sh c (nbr j))) 0 j)
    ∗ (bigSep Finset.univ fun k : Fin 31 => dutyTok ER (sendCell c k) 0 0)
    ∗ (bigSep Finset.univ fun k : Fin 31 => dutyTok ER (recvCell (sh c (dstOff k)) k) 0 0))

theorem bigSep_sides (Φ : Fin 31 × Bool → sProp 𝕄) :
    bigSep Finset.univ Φ = iprop((bigSep Finset.univ fun k : Fin 31 => Φ (k, false)) ∗ bigSep Finset.univ fun k : Fin 31 => Φ (k, true)) := by
  rw [bigSep_univ_prod, ← bigSep_sep']
  refine bigSep_congr fun k _ => ?_
  rw [show (Finset.univ : Finset Bool) = insert false {true} from by decide, bigSep_ins (by decide), bigSep_singleton]

theorem swap_around {I : Type} [Fintype I] [DecidableEq I] (o : I → Fin 32) (Φ : Dev nD → I → sProp 𝕄) :
    (bigSep Finset.univ fun c : Dev nD => bigSep Finset.univ fun i => Φ c i)
      = bigSep Finset.univ fun c : Dev nD => bigSep Finset.univ fun i => Φ (sh c (o i)) i := by
  rw [bigSep_univ_comm]
  rw [bigSep_univ_comm (fun (c : Dev nD) (i : I) => Φ (sh c (o i)) i)]
  exact bigSep_congr fun i _ => bigSep_univ_equiv (shift (o i)) (fun c : Dev nD => Φ c i)

theorem toks_dealt : (bigSep toks fun x => (dutyTok ER x.1 x.2.1 x.2.2 : sProp 𝕄)) = bigSep Finset.univ fun c : Dev nD => spend c := by
  unfold toks
  rw [bigSep_map, bigSep_univ_prod]
  have h1 : ∀ c : Dev nD, (bigSep Finset.univ fun y : Fin 3 ⊕ Fin 31 × Bool =>
        (fun x : GSem nD τ sig × ℕ × Fin 3 => (dutyTok ER x.1 x.2.1 x.2.2 : sProp 𝕄)) (tokOf (c, y)))
      = iprop((bigSep Finset.univ fun j : Fin 3 => dutyTok ER (barCell c) 0 j)
        ∗ (bigSep Finset.univ fun k : Fin 31 => dutyTok ER (sendCell c k) 0 0)
        ∗ (bigSep Finset.univ fun k : Fin 31 => dutyTok ER (recvCell c k) 0 0)) := fun c => by
    refine (bigSep_univ_sum _).trans ?_
    refine congrArg (fun P => iprop((bigSep Finset.univ fun j : Fin 3 => (dutyTok ER (barCell c) 0 j : sProp 𝕄)) ∗ P)) ?_
    exact bigSep_sides (fun x : Fin 31 × Bool => dutyTok ER ((c : Thread nD τ), .dma (dmaNo x)) 0 0)
  refine (bigSep_congr fun c _ => h1 c).trans ?_
  unfold spend
  rw [bigSep_sep', bigSep_sep', bigSep_sep', bigSep_sep']
  rw [swap_around nbr fun c j => dutyTok ER (barCell c) 0 j, swap_around dstOff fun c k => dutyTok ER (recvCell c k) 0 0]

/-! ## What each device gets at the launch -/

variable (G : Gx F) (K : GSem nD τ sig → ℕ)

def marks : sProp 𝕄 := bigSep barCells fun g => reached ER g 0
instance marks_persistent : BI.Persistent (marks (F := F)) := by unfold marks; infer_instance
theorem mark_at (c : Dev nD) : marks (F := F) ⊢ reached ER (barCell c) 0 :=
  BI.bigSep_elim (Φ := fun g => (reached ER g 0 : sProp 𝕄)) (Finset.mem_map.mpr ⟨c, Finset.mem_univ _, rfl⟩)

/-- A device's own share of the protocol at the launch. -/
def own0 (c : Dev nD) : sProp 𝕄 :=
  iprop(atPos ER (barCell c) 0 ∅ 0 ∗ (bigSep Finset.univ fun x : Fin 31 × Bool => openTok ER ((c : Thread nD τ), .dma (dmaNo x))) ∗ spend c)

theorem fund : iprop((bigSep Finset.univ fun c : Dev nD => semVal (barCell c) 0) ∗ BI.own (ER (launchOf barCells dmaCells toks)))
    ⊢ (iprop(|={Set.univ}=> ∃ K, (invs G K ∗ marks) ∗ bigSep Finset.univ fun c : Dev nD => own0 c) : sProp 𝕄) := by
  have hv : (bigSep Finset.univ fun c : Dev nD => (semVal (barCell c) 0 : sProp 𝕄)) = bigSep barCells fun g => semVal g 0 :=
    (bigSep_map barEmb (Φ := fun g : GSem nD τ sig => (semVal g 0 : sProp 𝕄))).symm
  have ha : (bigSep barCells fun g => (atPos ER g 0 ∅ 0 : sProp 𝕄)) = bigSep Finset.univ fun c : Dev nD => atPos ER (barCell c) 0 ∅ 0 :=
    bigSep_map barEmb
  have ho : (bigSep dmaCells fun g => (openTok ER g : sProp 𝕄))
      = bigSep Finset.univ fun c : Dev nD => bigSep Finset.univ fun x : Fin 31 × Bool => openTok ER ((c : Thread nD τ), .dma (dmaNo x)) :=
    (bigSep_map dmaEmb).trans (bigSep_univ_prod _)
  unfold own0
  rw [hv, bigSep_sep', bigSep_sep', ← ha, ← ho, ← toks_dealt]
  iintro H
  imod (Rounds.fund_launch ER (gatherRd G) cells_disjoint (fun g _ h => h) toks) $$ H with ⟨%κ, -, Hinv, Hr, Hat, Hopen, Htok⟩
  imodintro
  iexists κ
  unfold invs marks
  isplitl [Hinv Hr]; · isplitl [Hinv] <;> iassumption
  isplitl [Hat]; · iexact Hat
  isplitl [Hopen] <;> iassumption

/-! ## The counters of the transfers put in use -/

theorem open_one (c : Dev nD) (x : Fin 31 × Bool) : iprop(invs G K ∗ openTok ER ((c : Thread nD τ), .dma (dmaNo x)) ∗ semVal ((c : Thread nD τ), .dma (dmaNo x)) 0)
    ⊢ (iprop(|={Set.univ}=> (atPos ER ((c : Thread nD τ), .dma (dmaNo x)) 0 ∅ 0 ∗ reached ER ((c : Thread nD τ), .dma (dmaNo x)) 0)) : sProp 𝕄) := by
  have hm : (((c : Thread nD τ), .dma (dmaNo x)) : GSem nD τ sig) ∈ barCells ∪ dmaCells :=
    Finset.mem_union_right _ (Finset.mem_map.mpr ⟨(c, x), Finset.mem_univ _, rfl⟩)
  exact (sep_mono_left (invs_at G K hm)).trans (Rounds.cell_open ER (gatherRd G) (Set.mem_univ _))

theorem open_cells (c : Dev nD) : iprop(invs G K ∗ (bigSep Finset.univ fun x : Fin 31 × Bool => openTok ER ((c : Thread nD τ), .dma (dmaNo x)))
      ∗ bigSep Finset.univ fun x : Fin 31 × Bool => semVal ((c : Thread nD τ), .dma (dmaNo x)) 0)
    ⊢ (iprop(|={Set.univ}=> ((bigSep Finset.univ fun k : Fin 31 => iprop(atPos ER (sendCell c k) 0 ∅ 0 ∗ reached ER (sendCell c k) 0))
      ∗ bigSep Finset.univ fun k : Fin 31 => iprop(atPos ER (recvCell c k) 0 ∅ 0 ∗ reached ER (recvCell c k) 0))) : sProp 𝕄) := by
  have e := bigSep_sides (fun x : Fin 31 × Bool => (iprop(atPos ER ((c : Thread nD τ), .dma (dmaNo x)) 0 ∅ 0 ∗ reached ER ((c : Thread nD τ), .dma (dmaNo x)) 0) : sProp 𝕄))
  refine .trans ?_ (fupd_mono (Entails.of_eq e))
  rw [← bigSep_sep']
  refine .trans (bigSep_with_persistent (Ψ := fun x : Fin 31 × Bool => (iprop(|={Set.univ}=> (atPos ER ((c : Thread nD τ), .dma (dmaNo x)) 0 ∅ 0
      ∗ reached ER ((c : Thread nD τ), .dma (dmaNo x)) 0)) : sProp 𝕄)) fun x _ => open_one G K c x) ?_
  exact bigSep_fupd _ _

end Cert.KernelIdeal.Gather
-- ==== Proof.KernelIdeal.Host.lean ====
/-
  The host's part before the kernel: the row of the table that each device takes is the device's own.
-/
module

public import proofs.«01_k».proof.Proof.KernelIdeal.Cells
public import proofs.«01_k».proof.Proof.Gen.KernelIdeal.Regions

@[expose] public section

set_option maxRecDepth 16384

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Ring Cert.KernelIdeal.Gen

variable {F : FTy → Type} [FloatOps F]

local notation "𝕄" => MT nD τ sig Unit (Elt F) ℕ UU ℕ

/-! ## The row taken, as the host computes it -/

/-- The device's number, as the host brings it into range. -/
def devIx (c : Dev nD) : IVec S_ 32 :=
  Host.remui (Host.divui (constantI S_ 32 (Dev.word c)) (constantI S_ 32 1#32)) (constantI S_ 32 32#32)
/-- The row's index, a negative one counted from the end. -/
def rowIx (c : Dev nD) : IVec S1 32 :=
  broadcastInDim S1 ![] bcast_S_S1 (select (cmpi .slt (devIx c) (constantI S_ 32 0#32)) (addi (devIx c) (constantI S_ 32 32#32)) (devIx c))
/-- Whether the index is in range. -/
def inRange (c : Dev nD) : IVec S_ 1 :=
  Host.reduce IntOp.andi (andi (cmpi .sge (rowIx c) (broadcastInDim S1 ![] bcast_S_S1 (constantI S_ 32 0#32))) (cmpi .sle (rowIx c) (constantI S1 32 31#32)))
    (constantI S_ 1 1#1) reducesTo_S1_S_d0 h_S_
/-- The row itself. -/
def rowOf (c : Dev nD) : IVec S37 32 :=
  select (broadcastInDim S37 ![] bcast_S_S37 (inRange c))
    (Host.gather gather_S32x37_S1_S37_0_0_n_n_0_0_137 (fun i => lit0 (S32x37.rowMajor i)) (rowIx c))
    (broadcastInDim S37 ![] bcast_S_S37 (constantI S_ 32 2147483648#32))

/-- The index of element `i` of a row. -/
def ix37 (i : Fin 37) : S37.Idx := fun a => ⟨i.val, by fin_cases a; exact i.isLt⟩

theorem in_range : ∀ c : Dev nD, inRange c (fun a => a.elim0) = 1#1 := by decide +kernel
theorem row_word : ∀ (c : Dev nD) (i : Fin 37),
    Host.gather gather_S32x37_S1_S37_0_0_n_n_0_0_137 (fun i => lit0 (S32x37.rowMajor i)) (rowIx c) (ix37 i) = word c i := by decide +kernel

theorem rowOf_eq (c : Dev nD) : rowOf c = fun i => word c (i 0) := by
  funext i
  have hi : i = ix37 (i 0) := funext fun a => by fin_cases a; rfl
  have h1 : broadcastInDim S37 ![] bcast_S_S37 (inRange c) i = 1#1 := by
    rw [← in_range c]
    exact congrArg (inRange c) (funext fun a => a.elim0)
  have h2 := row_word c (i 0)
  rw [← hi] at h2
  rw [← h2]
  show (if broadcastInDim S37 ![] bcast_S_S37 (inRange c) i = 1#1 then _ else _) = _
  rw [if_pos h1]

variable (m : (ℓ : Loc nD τ sig) → Buf (Elt F) ℓ)

theorem V1_dev (c : Dev nD) : V1 m c main_v4 = devIx c := by
  show StableHlo.after (hostOps0 c) (V0 m c) main_v4 = _
  unfold devIx
  after_results
  rfl
theorem V1_lit (c : Dev nD) : V1 m c main_c = fun i => lit0 (S32x37.rowMajor i) := by
  show StableHlo.after (hostOps0 c) (V0 m c) main_c = _
  after_results
  rfl

theorem table_eq (c : Dev nD) : V2 m c main_v5 = rowOf c := by
  have h : ∀ W : Valuation τ sig (Elt F), W main_v4 = devIx c → W main_c = (fun i => lit0 (S32x37.rowMajor i)) →
      StableHlo.after hostOps0_1 W main_v5 = rowOf c := fun W h1 h2 => by
    unfold rowOf inRange rowIx
    after_results
    simp only [StableHlo.TRef.ofBuf_toBuf]
    have e1 : (StableHlo.TRef.of main_v4 rfl (by decide) rfl : StableHlo.TRef sig _).ofBuf (W main_v4) = devIx c := h1
    have e2 : (StableHlo.TRef.of main_c rfl (by decide) rfl : StableHlo.TRef sig _).ofBuf (W main_c)
      = (fun i => lit0 (S32x37.rowMajor i) : IVec S32x37 32) := h2
    erw [e1, e2]
    rfl
  exact h _ (V1_dev m c) (V1_lit m c)

theorem V2_x (c : Dev nD) : V2 m c main_arg0 = m ((c : Thread nD τ).loc main_arg0) :=
  (V2_of m c main_arg0 (by decide)).trans ((V1_of m c main_arg0 (by decide)).trans rfl)
theorem V2_w (c : Dev nD) : V2 m c main_arg1 = m ((c : Thread nD τ).loc main_arg1) :=
  (V2_of m c main_arg1 (by decide)).trans ((V1_of m c main_arg1 (by decide)).trans rfl)

end Cert.KernelIdeal.Gather
-- ==== Proof.KernelIdeal.Region.lean ====
/-
  The kernel's region: what it holds before and after its one point, and the run of its body between them.
-/
module

public import proofs.«01_k».proof.Proof.KernelIdeal.Body
public import proofs.«01_k».proof.Proof.KernelIdeal.Deal
public import proofs.«01_k».proof.Proof.KernelIdeal.Host
public import proofs.«01_k».proof.Proof.Gen.KernelIdeal.Points

@[expose] public section

set_option maxRecDepth 16384

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Ring Cert.KernelIdeal.Gen
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The contents of the gathered buffer -/

/-- Device `d`'s rows of `x`. -/
abbrev xOf (d : Dev nD) : S64x2048.Idx → Elt F .bf16 := m ((d : Thread nD τ).loc main_arg0)
/-- Device `d`'s columns of `w`. -/
abbrev wOf (d : Dev nD) : S2048x64.Idx → Elt F .bf16 := m ((d : Thread nD τ).loc main_arg1)

/-- The device that holds row `i` of `x`, and the row's place among its rows. -/
def devOf (i : S2048x2048.Idx) : Dev nD :=
  ⟨(i 0).val / 64, by have h : (i 0).val < 2048 := (i 0).isLt; show _ < 32; omega⟩
def inDev (i : S2048x2048.Idx) : S64x2048.Idx := fun a =>
  ⟨(![(i 0).val % 64, (i 1).val] : Fin 2 → ℕ) a, by
    have h : (i 1).val < 2048 := (i 1).isLt
    fin_cases a
    · exact Nat.mod_lt _ (by decide)
    · exact h⟩

/-- All rows of `x`, each as its device puts it in place. -/
def gath : Gx F := fun i => k0_pay1 (F := F) (xOf m (devOf i)) (inDev i)

theorem gath_at (c : Dev nD) (i : S2048x2048.Idx) (x : S64x2048.Idx) (h0 : (i 0).val = 64 * c.val + (x 0).val) (h1 : (i 1).val = (x 1).val) :
    gath m i = k0_pay1 (F := F) (xOf m c) x := by
  have hx : (x 0).val < 64 := (x 0).isLt
  have hd : devOf i = c := Fin.ext (by show (i 0).val / 64 = c.val; omega)
  have hi : inDev i = x := funext fun a => Fin.ext (by
    fin_cases a
    · show (i 0).val % 64 = (x 0).val; omega
    · exact h1)
  unfold gath
  rw [hd, hi]

theorem gath_rows (c : Dev nD) : (rowM c).view.read (Elt F) (gath m : Buf (Elt F) (gxLoc c)) = k0_pay1 (F := F) (xOf m c) := by
  funext x
  rw [View.read_apply]
  refine gath_at m c _ x ?_ ?_
  · show 64 * c.val + 1 * (x 0).val = _; omega
  · show 0 + 1 * (x 1).val = _; omega

/-! ## The protocol's part of a device, before the region and in it -/

/-- The counters of the transfers, as the region owns them. -/
abbrev osem (x : Fin 31 × Bool) : SemLoc sig := .dma (dmaNo x)

variable (G : Gx F)

/-- Between the launch and the region. -/
def Kept (c : Dev nD) : sProp 𝕄 :=
  iprop((∃ K, (invs G K ∗ marks) ∗ own0 c) ∗ cred (tallyAt (barCell c) () 3) ∗ bigSep Finset.univ fun k : Fin 31 => cred (tallyAt (recvCell c k) () N))

abbrev sendsOpen (c : Dev nD) : sProp 𝕄 := bigSep Finset.univ fun k : Fin 31 => iprop(atPos ER (sendCell c k) 0 ∅ 0 ∗ reached ER (sendCell c k) 0)
abbrev recvsOpen (c : Dev nD) : sProp 𝕄 := bigSep Finset.univ fun k : Fin 31 => iprop(atPos ER (recvCell c k) 0 ∅ 0 ∗ reached ER (recvCell c k) 0)

/-- In the region, the counters of the transfers in use. -/
def Ready (c : Dev nD) : sProp 𝕄 :=
  iprop(∃ K, invs G K ∗ marks ∗ atPos ER (barCell c) 0 ∅ 0 ∗ spend c ∗ sendsOpen c ∗ recvsOpen c
    ∗ cred (tallyAt (barCell c) () 3) ∗ (bigSep Finset.univ fun k : Fin 31 => cred (tallyAt (recvCell c k) () N)) ∗ levAts L lv)

theorem make_ready (c : Dev nD) : iprop(Kept G c ∗ Pipeline.ownSems0 osem c ∗ levAts L lv) ⊢ (iprop(|={Set.univ}=> Ready G c) : sProp 𝕄) := by
  have hs : (Pipeline.ownSems0 osem c : sProp 𝕄) ⊢ bigSep Finset.univ fun x : Fin 31 × Bool => semVal ((c : Thread nD τ), .dma (dmaNo x)) 0 := .rfl
  unfold Kept Ready own0
  iintro ⟨⟨⟨%K, ⟨#HI, #HM⟩, Hat, Hop, Hsp⟩, Hc, Hcs⟩, Hs, HL⟩
  ihave Hs := hs $$ Hs
  imod (open_cells G K c) $$ [Hop Hs] with ⟨HS, HR⟩
  · isplitr; · iexact HI
    isplitl [Hop] <;> iassumption
  imodintro
  iexists K
  isplitr; · iexact HI
  isplitr; · iexact HM
  isplitl [Hat]; · iexact Hat
  isplitl [Hsp]; · iexact Hsp
  isplitl [HS]; · iexact HS
  isplitl [HR]; · iexact HR
  isplitl [Hc]; · iexact Hc
  isplitl [Hcs] <;> iassumption

/-! ## Into the body -/

theorem enter_core {I M at0 t3 tS tR S R cb cs Lv T O xs gx W o X own rows atR rR p0 p1 p2 t0 t1 t2 s0 s1 s2 ks ts : sProp 𝕄}
    [BI.Persistent M] (hrows : gx ⊢ iprop(own ∗ rows)) (hR : R ⊢ iprop(atR ∗ rR)) (hmine : iprop(rows ∗ rR) ⊢ iprop(p0 ∗ p1 ∗ p2))
    (ht : t3 ⊢ iprop(t0 ∗ t1 ∗ t2)) (h0 : iprop(M ∗ t0 ∗ p0) ⊢ s0) (h1 : iprop(M ∗ t1 ∗ p1) ⊢ s1) (h2 : iprop(M ∗ t2 ∗ p2) ⊢ s2)
    (hks : iprop(tR ∗ tS ∗ S) ⊢ ks) (hts : iprop(cs ∗ atR) ⊢ ts) :
    iprop((I ∗ M ∗ at0 ∗ (t3 ∗ tS ∗ tR) ∗ S ∗ R ∗ cb ∗ cs ∗ Lv) ∗ T ∗ O ∗ xs ∗ gx ∗ W ∗ o ∗ X)
      ⊢ iprop(I ∗ Lv ∗ T ∗ O ∗ s0 ∗ s1 ∗ s2 ∗ cb ∗ at0 ∗ xs ∗ own ∗ ks ∗ ts ∗ W ∗ o ∗ X) := by
  iintro ⟨⟨HI, #HM, Hat, ⟨Ht3, HtS, HtR⟩, HS, HR, Hcb, Hcs, HL⟩, HT, HO, Hx, Hg, HW, Ho, HX⟩
  ihave Hg := hrows $$ Hg
  icases Hg with ⟨Hown, Hrows⟩
  ihave HR := hR $$ HR
  icases HR with ⟨HatR, HrR⟩
  ihave Hp := hmine $$ [Hrows HrR]
  · isplitl [Hrows] <;> iassumption
  icases Hp with ⟨Hp0, Hp1, Hp2⟩
  ihave Ht3 := ht $$ Ht3
  icases Ht3 with ⟨Ht0, Ht1, Ht2⟩
  isplitl [HI]; · iexact HI
  isplitl [HL]; · iexact HL
  isplitl [HT]; · iexact HT
  isplitl [HO]; · iexact HO
  isplitl [Ht0 Hp0]
  · iapply h0; isplitr; · iexact HM
    isplitl [Ht0] <;> iassumption
  isplitl [Ht1 Hp1]
  · iapply h1; isplitr; · iexact HM
    isplitl [Ht1] <;> iassumption
  isplitl [Ht2 Hp2]
  · iapply h2; isplitr; · iexact HM
    isplitl [Ht2] <;> iassumption
  isplitl [Hcb]; · iexact Hcb
  isplitl [Hat]; · iexact Hat
  isplitl [Hx]; · iexact Hx
  isplitl [Hown]; · iexact Hown
  isplitl [HtR HtS HS]
  · iapply hks; isplitl [HtR]; · iexact HtR
    isplitl [HtS] <;> iassumption
  isplitl [Hcs HatR]
  · iapply hts; isplitl [Hcs] <;> iassumption
  isplitl [HW]; · iexact HW
  isplitl [Ho] <;> iassumption

theorem signal_kit (c : Dev nD) (j : Fin 3) :
    iprop(marks (F := F) ∗ dutyTok ER (barCell (sh c (nbr j))) 0 j ∗ barPay (F := F) (sh c (nbr j)) j) ⊢ (toSignal (F := F) c j) := by
  unfold toSignal
  iintro ⟨HM, Ht, Hp⟩
  isplitl [Ht]; · iexact Ht
  isplitl [Hp]; · iexact Hp
  iapply (mark_at (sh c (nbr j))); iexact HM

theorem three (Φ : Fin 3 → sProp 𝕄) : bigSep Finset.univ Φ = iprop(Φ 0 ∗ Φ 1 ∗ Φ 2) :=
  bigSep_univ_eq_bigSepL [(0 : Fin 3), 1, 2] (by decide) (by decide) Φ

theorem mine_kit (c : Dev nD) : iprop((bigSep Finset.univ fun k => rowAny (F := F) c (sh c (rcvOff k))) ∗ bigSep Finset.univ fun k : Fin 31 => reached ER (recvCell c k) 0)
    ⊢ (iprop(barPay (sh c (nbr 0)) 0 ∗ barPay (sh c (nbr 1)) 1 ∗ barPay (sh c (nbr 2)) 2) : sProp 𝕄) := by
  rw [← mine_by_nbr, ← bigSep_sep']
  exact bigSep_mono fun k _ => by unfold mine; exact BI.Entails.refl _

theorem send_kits (c : Dev nD) : iprop((bigSep Finset.univ fun k : Fin 31 => dutyTok ER (recvCell (sh c (dstOff k)) k) 0 0)
      ∗ (bigSep Finset.univ fun k : Fin 31 => dutyTok ER (sendCell c k) 0 0) ∗ sendsOpen c)
    ⊢ (bigSep Finset.univ (sendKit c) : sProp 𝕄) := by
  have h : ∀ k : Fin 31, iprop(dutyTok ER (recvCell (sh c (dstOff k)) k) 0 0 ∗ dutyTok ER (sendCell c k) 0 0 ∗ atPos ER (sendCell c k) 0 ∅ 0 ∗ reached ER (sendCell c k) 0)
      ⊢ (sendKit c k : sProp 𝕄) := by
    intro k
    unfold sendKit
    iintro ⟨H1, H2, H3, H4⟩
    isplitl [H1]; · iexact H1
    isplitl [H2]; · iexact H2
    isplitl [H4] <;> iassumption
  rw [← bigSep_sep', ← bigSep_sep']
  exact bigSep_mono fun k _ => h k

theorem recv_kits (c : Dev nD) : iprop((bigSep Finset.univ fun k : Fin 31 => cred (tallyAt (recvCell c k) () N)) ∗ bigSep Finset.univ fun k : Fin 31 => atPos ER (recvCell c k) 0 ∅ 0)
    ⊢ (bigSep Finset.univ (toRecv c) : sProp 𝕄) := by
  rw [← bigSep_sep']
  exact bigSep_mono fun k _ => by unfold toRecv; exact BI.Entails.refl _

variable (K : GSem nD τ sig → ℕ)

theorem enter (c : Dev nD) (xv : Buf (Elt F) (xLoc c)) {W o X : sProp 𝕄} :
    iprop((invs G K ∗ marks ∗ atPos ER (barCell c) 0 ∅ 0 ∗ spend c ∗ sendsOpen c ∗ recvsOpen c
        ∗ cred (tallyAt (barCell c) () 3) ∗ (bigSep Finset.univ fun k : Fin 31 => cred (tallyAt (recvCell c k) () N)) ∗ levAts L lv)
      ∗ tbl c ∗ (∃ W, owes (c : Thread nD τ) (O₀ c) W) ∗ (xLoc c ↦{fullShare} xv) ∗ (∃ f : Buf (Elt F) (gxLoc c), gxLoc c ↦{fullShare} f) ∗ W ∗ o ∗ X)
    ⊢ Entry G K c xv iprop(W ∗ o ∗ X) := by
  unfold Entry spend
  exact enter_core (rows_any c) (Entails.of_eq (bigSep_sep' _ _ _)) (mine_kit c) (Entails.of_eq (three _)) (signal_kit c 0) (signal_kit c 1) (signal_kit c 2)
    (send_kits c) (recv_kits c)

/-! ## The region's data -/

/-- What the region leaves of the protocol: the counters at zero. -/
def Left (c : Dev nD) : sProp 𝕄 :=
  iprop(semVal (barCell c) 0 ∗ bigSep Finset.univ fun x : Fin 31 × Bool => semVal ((c : Thread nD τ), .dma (dmaNo x)) 0)

/-- The gathered buffer, at some contents. -/
abbrev gxAny (c : Dev nD) : sProp 𝕄 := iprop(∃ f : Buf (Elt F) ((c : Thread nD τ).loc cc0_scratch0), ((c : Thread nD τ).loc cc0_scratch0) ↦{fullShare} f)

def Before (c : Dev nD) : sProp 𝕄 := iprop(Ready G c ∗ gxAny c ∗ ∃ r, prngReg c r)
def After (c : Dev nD) : sProp 𝕄 := iprop(Left (F := F) c ∗ gxAny c ∗ ∃ r, prngReg c r)

/-- The result on device `c`. -/
def outOf (c : Dev nD) : S2048x64.Idx → Elt F .f32 := k0_pay2 (F := F) (wOf m c) (gath m)

def dats (_ : Fin 1) (c : Dev nD) : Dat τ (Elt F) Unit ℕ UU ℕ cfg0 c where
  A w := V2 m c (Pipeline.arrRef spec0 w)
  after w _ := match w with
    | ⟨0, _⟩ => xOf m c
    | ⟨1, _⟩ => wOf m c
    | ⟨2, _⟩ => fun i => word c (i 0)
    | ⟨3, _⟩ => outOf m c
  Φ t := match t with
    | ⟨0, _⟩ => Before (gath m) c
    | ⟨_ + 1, _⟩ => After c
  q _ := fullShare
  owed t := match t with
    | ⟨0, _⟩ => O₀ c
    | ⟨_ + 1, _⟩ => 0

theorem read_x (t : Fin grid0.N) (f : S64x2048.Idx → Elt F .bf16) : (win0_0.blk t).view.read (Elt F) f = f :=
  Memref.read_access_unit_zero (Elt F) main_arg0
    (show (fun a => (win0_0.index t) a * main_arg0.ty.shape.size a) = fun _ => 0 from
      funext fun a => by rw [fin_N0 t]; fin_cases a <;> decide) (fun a => by rw [fin_N0 t]; fin_cases a <;> decide) f
theorem read_w (t : Fin grid0.N) (f : S2048x64.Idx → Elt F .bf16) : (win0_1.blk t).view.read (Elt F) f = f :=
  Memref.read_access_unit_zero (Elt F) main_arg1
    (show (fun a => (win0_1.index t) a * main_arg1.ty.shape.size a) = fun _ => 0 from
      funext fun a => by rw [fin_N0 t]; fin_cases a <;> decide) (fun a => by rw [fin_N0 t]; fin_cases a <;> decide) f
theorem read_t (t : Fin grid0.N) (f : S37.Idx → Elt F .i32) : (win0_2.blk t).view.read (Elt F) f = f :=
  Memref.read_access_unit_zero (Elt F) main_v5
    (show (fun a => (win0_2.index t) a * main_v5.ty.shape.size a) = fun _ => 0 from
      funext fun a => by rw [fin_N0 t]; fin_cases a <;> decide) (fun a => by rw [fin_N0 t]; fin_cases a <;> decide) f
theorem read_o (t : Fin grid0.N) (f : S2048x64.Idx → Elt F .f32) : (win0_3.blk t).view.read (Elt F) f = f :=
  Memref.read_access_unit_zero (Elt F) main_v6
    (show (fun a => (win0_3.index t) a * main_v6.ty.shape.size a) = fun _ => 0 from
      funext fun a => by rw [fin_N0 t]; fin_cases a <;> decide) (fun a => by rw [fin_N0 t]; fin_cases a <;> decide) f

theorem before_x (c : Dev nD) (d) : (dats m 0 c).before (0 : Fin 4) t0_0 d = xOf m c := by
  unfold Dat.before
  rw [if_pos (fetch0_0 t0_0)]
  exact (read_x t0_0 _).trans (V2_x m c)
theorem before_w (c : Dev nD) (d) : (dats m 0 c).before (1 : Fin 4) t0_0 d = wOf m c := by
  unfold Dat.before
  rw [if_pos (fetch0_1 t0_0)]
  exact (read_w t0_0 _).trans (V2_w m c)
theorem before_t (c : Dev nD) (d) : (dats m 0 c).before (2 : Fin 4) t0_0 d = fun i => word c (i 0) := by
  unfold Dat.before
  rw [if_pos (fetch0_2 t0_0)]
  exact (read_t t0_0 _).trans ((table_eq m c).trans (rowOf_eq c))

theorem owesAt_intro {c : Dev nD} (dat : Dat τ (Elt F) Unit ℕ UU ℕ cfg0 c) (t : Fin (cfg0.N + 1))
    (O : CellTallies nD τ sig Unit) (h0 : dat.owed t = O) (hr : dat.recorded t = Set.univ) :
    iprop(∃ W, owes (c : Thread nD τ) O W) ⊢ (dat.owesAt () t : sProp 𝕄) := by
  unfold Dat.owesAt Pipeline.owesWithin Dat.bound
  rw [h0, hr]
  iintro ⟨%W, HO⟩
  iexists W
  isplitr; · ipureintro; exact fun _ _ => Or.inl trivial
  iexact HO
theorem owesAt_elim {c : Dev nD} (dat : Dat τ (Elt F) Unit ℕ UU ℕ cfg0 c) (t : Fin (cfg0.N + 1))
    (O : CellTallies nD τ sig Unit) (h0 : dat.owed t = O) :
    (dat.owesAt () t : sProp 𝕄) ⊢ iprop(∃ W, owes (c : Thread nD τ) O W) := by
  unfold Dat.owesAt Pipeline.owesWithin
  rw [h0]
  iintro ⟨%W, -, HO⟩
  iexists W; iexact HO

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_intro (c : Dev nD) (b : Ref sig .tc) (X : Buf (Elt F) (((c : Dev nD) : Thread nD τ).loc b)) :
    (((c : Thread nD τ).loc b) ↦{fullShare} X : sProp 𝕄) ⊢ stg c b X := by
  iintro H; iexists X
  isplitr; · ipureintro; rfl
  iexact H
theorem stg_elim (c : Dev nD) (b : Ref sig .tc) (X : Buf (Elt F) (((c : Dev nD) : Thread nD τ).loc b)) {D : Type} (B : D → b.ty.Contents (Elt F)) (hB : ∀ d, B d = X) :
    iprop(∃ d, stg c b (B d)) ⊢ (((c : Thread nD τ).loc b) ↦{fullShare} X : sProp 𝕄) := by
  iintro ⟨%d, %f, %hf, H⟩
  rw [hB d] at hf
  subst hf
  iexact H
theorem stg_any (c : Dev nD) (b : Ref sig .tc) {D : Type} (B : D → b.ty.Contents (Elt F)) :
    iprop(∃ d, stg c b (B d)) ⊢ (iprop(∃ f : Buf (Elt F) (((c : Dev nD) : Thread nD τ).loc b), ((c : Thread nD τ).loc b) ↦{fullShare} f) : sProp 𝕄) := by
  iintro ⟨%d, %f, %hf, H⟩
  iexists f
  iexact H

def bodyPre (c : Dev nD) : sProp 𝕄 :=
  iprop(Before (gath m) c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))
def bodyPost (c : Dev nD) : sProp 𝕄 :=
  iprop(After (F := F) c ∗ (dats m 0 c).owesAt () t0_0.succ ∗ stg c cc0_stg0_0 (xOf m c) ∗ stg c cc0_stg1_0 (wOf m c)
    ∗ stg c cc0_stg2_0 (fun i => word c (i 0)) ∗ stg c cc0_stg3_0 (outOf m c))

theorem leave_post (c : Dev nD) : Leave (gath m) c (xOf m c) (wOf m c) iprop(∃ r, prngReg c r) ⊢ bodyPost m c := by
  unfold Leave bodyPost After Left
  iintro ⟨HO, Hx, Hw, Ht, Ho, Hg, Hb, Hd, Hp⟩
  isplitl [Hb Hd Hg Hp]
  · isplitl [Hb Hd]; · isplitl [Hb] <;> iassumption
    isplitl [Hg]; · iexact Hg
    iexact Hp
  isplitl [HO]; · iapply (owesAt_intro (dats m 0 c) t0_0.succ 0 rfl rfl); iexact HO
  isplitl [Hx]; · iapply (stg_intro c cc0_stg0_0 (xOf m c)); iexact Hx
  isplitl [Hw]; · iapply (stg_intro c cc0_stg1_0 (wOf m c)); iexact Hw
  isplitl [Ht]; · iapply (stg_intro c cc0_stg2_0 (fun i => word c (i 0))); iexact Ht
  iapply (stg_intro c cc0_stg3_0 (outOf m c)); iexact Ho

theorem pre_enter (c : Dev nD) : bodyPre m c ⊢ iprop(∃ K, Entry (gath m) K c (xOf m c)
    iprop((wLoc c ↦{fullShare} wOf m c) ∗ (∃ f : Buf (Elt F) (oLoc c), oLoc c ↦{fullShare} f) ∗ ∃ r, prngReg c r)) := by
  unfold bodyPre Before Ready
  iintro ⟨⟨⟨%K, HK⟩, Hg, Hp⟩, HO, Hx, Hw, Ht, Ho⟩
  ihave HO := (owesAt_elim (dats m 0 c) t0_0.castSucc (O₀ c) rfl) $$ HO
  ihave Hx := (stg_elim c cc0_stg0_0 (xOf m c) _ (before_x m c)) $$ Hx
  ihave Hw := (stg_elim c cc0_stg1_0 (wOf m c) _ (before_w m c)) $$ Hw
  ihave Ht := (stg_elim c cc0_stg2_0 (fun i => word c (i 0)) _ (before_t m c)) $$ Ht
  ihave Ho := (stg_any c cc0_stg3_0 _) $$ Ho
  iexists K
  iapply (enter (gath m) K c (xOf m c))
  isplitl [HK]; · iexact HK
  isplitl [Ht]; · iexact Ht
  isplitl [HO]; · iexact HO
  isplitl [Hx]; · iexact Hx
  isplitl [Hg]; · iexact Hg
  isplitl [Hw]; · iexact Hw
  isplitl [Ho]; · iexact Ho
  iexact Hp

theorem of_some {A : Type} {Φ : A → sProp 𝕄} {P : sProp 𝕄} (h : ∀ a, Φ a ⊢ P) : iprop(∃ a, Φ a) ⊢ P := by
  iintro ⟨%a, H⟩
  iapply (h a); iexact H

theorem body_obligation (c : Dev nD) : BodyObligation (dats m 0 c) (defs₀ (F := F)) 𝒱₀ () Set.univ := fun t => by
  rw [fin_N0 t]
  have hW : ∀ Φ : Fin cfg0.W → sProp 𝕄, bigSep Finset.univ Φ = iprop(Φ (0 : Fin 4) ∗ Φ (1 : Fin 4) ∗ Φ (2 : Fin 4) ∗ Φ (3 : Fin 4)) := fun Φ => bigSep_W0 Φ
  rw [hW, hW]
  simp only [owns_whole_eq]
  show bodyPre m c ⊢ WP (defs₀ (F := F)) c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _)
      cc0_scratch1 cc0_scratch2 cc0_scratch3 cc0_scratch4 cc0_scratch5 cc0_scratch6 cc0_scratch7 cc0_scratch8 cc0_scratch9 cc0_scratch10) (fun _ => bodyPost m c)
  refine (pre_enter m c).trans (of_some fun K => ?_)
  exact (body_run (gath m) K (defs := defs₀ (F := F)) (gath_rows m c)).trans (wp_mono _ _ _ fun _ => leave_post m c)

end Cert.KernelIdeal.Gather
-- ==== Proof.KernelIdeal.Run.lean ====
/-
  The kernel's run: its region's record, the launch, and what every final memory holds.
-/
module

public import proofs.«01_k».proof.Proof.KernelIdeal.Region
public import proofs.«01_k».proof.Proof.Gen.KernelIdeal.Regions

public import Idealize.ShloMosaic.Lib.Pipeline.RegionTalk
public import Idealize.ShloMosaic.Lib.Pipeline.CollectiveSegs
public import Idealize.ShloMosaic.Lib.Quiescent

@[expose] public section

set_option maxRecDepth 16384

noncomputable section

namespace Cert.KernelIdeal.Gather

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Ring Cert.KernelIdeal.Gen
open Idealize.ShloMosaic.Pipeline (Dat Seg HostSeg RegionSeg)

variable {F : FTy → Type} [FloatOps F]

local notation "𝕄" => MT nD τ sig Unit (Elt F) ℕ UU ℕ

variable (m : (ℓ : Loc nD τ sig) → Buf (Elt F) ℓ) (ρ : Dev nD → PrngReg)

/-! ## The region's record -/

/-- What the region leaves in the array it writes. -/
def outs : Outs (F := F) := fun _ r c => if h : r = main_v6 then h ▸ (outOf m c : Buf (Elt F) ((c : Thread nD τ).loc main_v6)) else m ((c : Thread nD τ).loc r)
theorem outs_out (c : Dev nD) : outs m 3 main_v6 c = outOf m c := dif_pos rfl

theorem dats_share (c : Dev nD) (w : Fin 4) : (dats m 0 c).share w = fullShare := by unfold Dat.share; split <;> rfl

theorem arr_out (c : Dev nD) : (dats m 0 c).arrAt (3 : Fin 4) cfg0.N = outOf m c := by
  have h : (win0_3.blk t0_0).view.read (Elt F) ((dats m 0 c).arrAt (3 : Fin 4) cfg0.N) = outOf m c := by
    rw [show cfg0.N = t0_0.val + 1 from rfl, (dats m 0 c).arrAt_succ (3 : Fin 4) t0_0, flush0_3, if_pos rfl]
    refine (View.read_write_univ _ _).trans ?_
    funext _
    rfl
  exact (read_o t0_0 _).symm.trans h

theorem arr_start (c : Dev nD) (w : Fin 4) : (dats m 0 c).arrAt w 0 = V2 m c (Proc.devRef .tc (Pipeline.arrRef spec0 w)) := rfl

theorem arr_stop (c : Dev nD) (w : Fin 4) : (dats m 0 c).arrAt w cfg0.N = V3 m (outs m) c (Proc.devRef .tc (Pipeline.arrRef spec0 w)) := by
  fin_cases w
  · exact ((dats m 0 c).arrAt_in (0 : Fin 4) rfl _).trans (V3_of m (outs m) c main_arg0 (by decide)).symm
  · exact ((dats m 0 c).arrAt_in (1 : Fin 4) rfl _).trans (V3_of m (outs m) c main_arg1 (by decide)).symm
  · exact ((dats m 0 c).arrAt_in (2 : Fin 4) rfl _).trans (V3_of m (outs m) c main_v5 (by decide)).symm
  · refine (arr_out m c).trans (((?_ : V3 m (outs m) c (Proc.devRef .tc main_v6) = outs m 3 main_v6 c)).trans (outs_out m c)).symm
    exact Function.update_self _ _ _

/-- The buffers between the host's and the region's, the region's arrays apart. -/
abbrev others : Finset (DevRef τ sig) := Pipeline.ucRefs τ sig \ Pipeline.arrRefs spec0

theorem others_same (c : Dev nD) : ∀ b ∈ others \ (∅ : Finset (DevRef τ sig)), V3 m (outs m) c b = V2 m c b := by
  intro b hb
  have hne : b ≠ Proc.devRef .tc main_v6 := by
    rintro rfl
    exact absurd hb (by decide)
  exact Function.update_of_ne hne _ _

theorem arrays_unscoped : Pipeline.arrRefs spec0 ⊆ Pipeline.ucRefs τ sig := by decide

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem own_sems : Pipeline.OwnSemFacts spec0 osem := by decide

theorem owed_known (c : Dev nD) (t : Fin (cfg0.N + 1)) (g : GSem nD τ sig) (i : Unit) (h : 0 < (dats m 0 c).owed t g i) :
    i ∈ L g ∧ (0 : ℕ) < lv g i := by
  obtain ⟨t, ht⟩ := t
  rcases t with - | t
  · exact O₀_pos (c := c) h
  · exact absurd h (Nat.lt_irrefl 0)

theorem stage_level (c : Dev nD) (w : Fin 4) (s : Fin (spec0 w).nbuf) : lv ((c : Thread nD τ), .dma ((spec0 w).sem s)) () ≤ 0 := by
  have h : tagR ((spec0 w).sem s) = false := by revert w s; decide
  show (if tagR ((spec0 w).sem s) then 2 + (tagK ((spec0 w).sem s)).val else 0) ≤ 0
  rw [h]; exact le_refl _

/-- The region writes only the output's array, and leaves the barrier's counter at zero. -/
abbrev barZero (c : Dev nD) : sProp 𝕄 := semVal (barCell c) 0

theorem into_before (c : Dev nD) : iprop(Pipeline.scopedRest (Pipeline.pin (pcfgs (F := F)) adm 0).spec c ∗ (∃ r, prngReg c r) ∗ StableHlo.held (c.tc : Thread nD τ) ∅ (V2 m c) ∗ Ready (gath m) c)
    ⊢ (dats m 0 c).Φ 0 := by
  have e : (Pipeline.scopedRest (Ix := Unit) (Name := ℕ) (U := UU) (Lvl := ℕ) (Val := Elt F) (Pipeline.pin (pcfgs (F := F)) adm 0).spec c : sProp 𝕄) = gxAny c := scopedRest0_eq c
  rw [e]
  show _ ⊢ Before (gath m) c
  unfold Before
  iintro ⟨Hg, Hp, -, HR⟩
  isplitl [HR]; · iexact HR
  isplitl [Hg] <;> iassumption

theorem from_after (c : Dev nD) : (dats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V3 m (outs m) c)
      ∗ Pipeline.ownSems0 osem c ∗ barZero c) := by
  have e : (Pipeline.scopedRest (Ix := Unit) (Name := ℕ) (U := UU) (Lvl := ℕ) (Val := Elt F) (Pipeline.pin (pcfgs (F := F)) adm 0).spec c : sProp 𝕄) = gxAny c := scopedRest0_eq c
  have eh : (StableHlo.held (c.tc : Thread nD τ) ∅ (V3 m (outs m) c) : sProp 𝕄) = BI.emp := by unfold StableHlo.held; exact BI.bigSep_empty
  have es : (bigSep Finset.univ fun x : Fin 31 × Bool => semVal ((c : Thread nD τ), .dma (dmaNo x)) 0) ⊢ (Pipeline.ownSems0 osem c : sProp 𝕄) := .rfl
  rw [e, eh]
  show After (F := F) c ⊢ _
  unfold After Left
  iintro ⟨⟨Hb, Hs⟩, Hg, Hp⟩
  isplitl [Hg]; · iexact Hg
  isplitl [Hp]; · iexact Hp
  isplitr; · iempintro
  isplitl [Hs]; · iapply es; iexact Hs
  iexact Hb

set_option backward.isDefEq.respectTransparency.types false in
def reg : RegionSeg (pcfgs (F := F)) adm (dats m) () defs₀ 𝒱₀ L lv 0 :=
  RegionSeg.ofTalk (pcfgs (F := F)) adm (dats m) () defs₀ 𝒱₀ L lv 0 osem own_sems
    ∅ others (Finset.empty_subset _) kit rfl (fun c => (body_obligation m c).loose)
    (fun _ => 0) O₀ (fun c => (show (dats m 0 c).owed 0 = O₀ c from rfl).trans (zero_add _).symm) (fun _ => rfl) (fun _ => rfl) (dats_share m)
    (V2 m) (V3 m (outs m)) (others_same m)
    (Kept (gath m)) barZero (Ready (gath m)) barZero (make_ready (gath m)) (into_before m) (from_after m)
    (fun c => by iintro H; imodintro; iexact H)
    (fun _ => 0)
    ⟨fun c w s => by rw [L_tc]; exact Finset.mem_singleton_self _, fun c w s => stage_level c w s, fun c t g i h => owed_known m c t g i h⟩
    (fun _ => iprop(emp)) (arr_start m) (arr_stop m)

/-! ## Between the items -/

/-- What a device holds beside its buffers before the region, and after it. -/
def E (j : Fin 2) (c : Dev nD) : sProp 𝕄 := match j with
  | 0 => iprop((∃ r, prngReg c r) ∗ Kept (gath m) c ∗ ∃ W, owes (c : Thread nD τ) (O₀ c) W)
  | 1 => iprop(barZero c ∗ ∃ W, owes (c : Thread nD τ) (0 : CellTallies nD τ sig Unit) W)

theorem to_region (c : Dev nD) : iprop(StableHlo.held (c : Thread nD τ) (Pipeline.ucRefs τ sig) (V2 m c) ∗ E m 0 c) ⊢ (reg m).pre c := by
  show _ ⊢ iprop(StableHlo.held (c.tc : Thread nD τ) (Pipeline.arrRefs (τ := τ) spec0) (V2 m c) ∗ (∃ r, prngReg c r)
    ∗ (StableHlo.held (c.tc : Thread nD τ) others (V2 m c) ∗ emp) ∗ Kept (gath m) c ∗ ∃ Wd, owes (c : Thread nD τ) (0 + O₀ c) Wd)
  rw [StableHlo.held_sub_split (c.tc) arrays_unscoped (V2 m c), zero_add]
  unfold E
  iintro ⟨⟨Ha, Ho⟩, Hp, HK, HO⟩
  isplitl [Ha]; · iexact Ha
  isplitl [Hp]; · iexact Hp
  isplitl [Ho]
  · isplitl [Ho]; · iexact Ho
    iempintro
  isplitl [HK]; · iexact HK
  iexact HO

theorem of_region (c : Dev nD) : (reg m).post c ⊢ iprop(StableHlo.held (c : Thread nD τ) (Pipeline.ucRefs τ sig) (V3 m (outs m) c) ∗ E m 1 c) := by
  show iprop(StableHlo.held (c.tc : Thread nD τ) (Pipeline.arrRefs (τ := τ) spec0) (V3 m (outs m) c) ∗ (∃ r, prngReg c r)
    ∗ (StableHlo.held (c.tc : Thread nD τ) others (V3 m (outs m) c) ∗ emp) ∗ barZero c ∗ ∃ Wd, owes (c : Thread nD τ) (0 : CellTallies nD τ sig Unit) Wd) ⊢ _
  rw [StableHlo.held_sub_split (c.tc) arrays_unscoped (V3 m (outs m) c)]
  unfold E
  iintro ⟨Ha, -, ⟨Ho, -⟩, Hb, HO⟩
  isplitl [Ha Ho]; · isplitl [Ha] <;> iassumption
  isplitl [Hb]; · iexact Hb
  iexact HO

/-! ## The launch -/

def u₀ : UU :=
  (initOf (Pipeline.cells cfgs cellOf_inj) (Pipeline.launchToks cfgs cellOf_inj), launchOf barCells dmaCells toks)

/-- The protocol's element at the launch, kept on device 0 until it is dealt. -/
def parked (c : Dev nD) : sProp 𝕄 := if c = 0 then BI.own (ER (launchOf barCells dmaCells toks)) else iprop(emp)
theorem parked_all : bigSep Finset.univ parked = (BI.own (ER (launchOf barCells dmaCells toks)) : sProp 𝕄) := by
  rw [bigSep_univ_at _ (0 : Dev nD), bigSep_congr (s := Finset.univ.erase (0 : Dev nD)) (Ψ := fun _ => (BI.emp : sProp 𝕄))
    fun c hc => by unfold parked; rw [if_neg (Finset.ne_of_mem_erase hc)]; rfl, BI.bigSep_emp_const]
  unfold parked
  rw [if_pos rfl]
  exact BI.equiv_iff.mp sep_emp

theorem launch_elem : (ownU (u₀ : UU) : sProp 𝕄)
    ⊢ |={Set.univ}=> iprop(BI.own (EP (initOf (Pipeline.cells cfgs cellOf_inj) (Pipeline.launchToks cfgs cellOf_inj))) ∗ bigSep Finset.univ parked) := by
  rw [parked_all]
  unfold u₀
  iintro H
  ihave H := (ownU_pair _ _) $$ H
  imodintro
  iexact H

theorem bar_of_unscoped (c : Dev nD) : (unscopedSems0 c : sProp 𝕄) = semVal (barCell c) 0 := by
  unfold unscopedSems0
  rw [show (Finset.univ.filter fun sm : SemLoc sig => ¬ sm.isScoped .tc) = {SemLoc.reg barrier0} from by decide, bigSep_singleton]

theorem kept_core {P o r : sProp 𝕄} {lc p cb cs kk : sProp 𝕄} [BI.Persistent P] (hl : lc ⊢ iprop(cb ∗ cs)) (hk : iprop(P ∗ r) ⊢ kk) :
    iprop(P ∗ r ∗ o ∗ lc ∗ p) ⊢ iprop(p ∗ (kk ∗ cb ∗ cs) ∗ o) := by
  iintro ⟨HP, Hr, Ho, Hl, Hp⟩
  ihave Hl := hl $$ Hl
  icases Hl with ⟨Hb, Hs⟩
  isplitl [Hp]; · iexact Hp
  isplitl [HP Hr Hb Hs]
  · isplitl [HP Hr]; · iapply hk; isplitl [HP] <;> iassumption
    isplitl [Hb] <;> iassumption
  iexact Ho

theorem deal_one (G : Gx F) (K : GSem nD τ sig → ℕ) (c : Dev nD) :
    iprop((invs G K ∗ marks) ∗ own0 c ∗ (∃ W, owes (c : Thread nD τ) (O₀ c) W) ∗ Pipeline.launchCred O₀ c ∗ ∃ r, prngReg c r)
    ⊢ iprop((∃ r, prngReg c r) ∗ Kept G c ∗ ∃ W, owes (c : Thread nD τ) (O₀ c) W) := by
  unfold Kept
  have h : iprop((invs G K ∗ marks) ∗ own0 c) ⊢ (iprop(∃ K, (invs G K ∗ marks) ∗ own0 c) : sProp 𝕄) := by
    iintro H; iexists K; iexact H
  exact kept_core (launch_credit c) h

theorem deal : iprop((bigSep Finset.univ fun c : Dev nD => iprop(unscopedSems0 c ∗ owes (c : Thread nD τ) (O₀ c) ∅ ∗ Pipeline.launchCred O₀ c ∗ prngReg c (ρ c) ∗ parked c)) ∗ levAts L lv)
    ⊢ (|={Set.univ}=> bigSep Finset.univ (E m 0) : sProp 𝕄) := by
  have h1 : (bigSep Finset.univ fun c : Dev nD => iprop(unscopedSems0 c ∗ owes (c : Thread nD τ) (O₀ c) ∅ ∗ Pipeline.launchCred O₀ c ∗ prngReg c (ρ c) ∗ parked c))
      ⊢ (iprop(((bigSep Finset.univ fun c : Dev nD => semVal (barCell c) 0) ∗ bigSep Finset.univ parked)
        ∗ bigSep Finset.univ fun c : Dev nD => iprop((∃ W, owes (c : Thread nD τ) (O₀ c) W) ∗ Pipeline.launchCred O₀ c ∗ ∃ r, prngReg c r)) : sProp 𝕄) := by
    rw [← bigSep_sep', ← bigSep_sep']
    refine bigSep_mono fun c _ => ?_
    rw [bar_of_unscoped]
    show (iprop(_ ∗ _ ∗ _ ∗ _ ∗ _) : sProp 𝕄) ⊢ iprop((_ ∗ _) ∗ (∃ W, owes (c : Thread nD τ) (O₀ c) W) ∗ _ ∗ ∃ r, prngReg c r)
    iintro ⟨Hb, HO, Hc, Hp, Hk⟩
    isplitl [Hb Hk]; · isplitl [Hb] <;> iassumption
    isplitl [HO]; · iexists ∅; iexact HO
    isplitl [Hc]; · iexact Hc
    iexists (ρ c); iexact Hp
  have h2 : ∀ K, iprop((invs (gath m) K ∗ marks) ∗ bigSep Finset.univ fun c : Dev nD => iprop(own0 c ∗ (∃ W, owes (c : Thread nD τ) (O₀ c) W) ∗ Pipeline.launchCred O₀ c ∗ ∃ r, prngReg c r))
      ⊢ (bigSep Finset.univ (E m 0) : sProp 𝕄) := fun K =>
    bigSep_with_persistent fun c _ => by unfold E; exact deal_one (gath m) K c
  rw [parked_all] at h1
  iintro ⟨H, -⟩
  ihave H := h1 $$ H
  icases H with ⟨Hf, Hr⟩
  imod (fund (gath m)) $$ Hf with ⟨%K, HI, Ho⟩
  imodintro
  iapply (h2 K)
  isplitl [HI]; · iexact HI
  rw [bigSep_sep' _ (fun c : Dev nD => own0 c)]
  isplitl [Ho] <;> iassumption

/-! ## The run -/

/-- What a final memory holds on device `c`. -/
def Final (c : Dev nD) (s : MemSt nD τ sig (Elt F)) : Prop :=
  (s.mem ((c.tc : Thread nD τ).loc main_v6) = outOf m c
    ∧ s.mem ((c.tc : Thread nD τ).loc main_arg0) = m ((c.tc : Thread nD τ).loc main_arg0)
    ∧ s.mem ((c.tc : Thread nD τ).loc main_arg1) = m ((c.tc : Thread nD τ).loc main_arg1))
  ∧ ∀ sm : SemLoc sig, sm.isScoped .tc = false → s.sem ((c.tc : Thread nD τ), sm) = 0

theorem read_final (c : Dev nD) (s' : Phys nD τ sig (Elt F)) :
    iprop((StableHlo.held (c : Thread nD τ) (Pipeline.ucRefs τ sig) (V3 m (outs m) c) ∗ barZero c) ∗ SI s')
      ⊢ |={Set.univ}=> (iprop(⌜Final m c s'.mem⌝ ∗ SI s') : sProp 𝕄) := by
  have hz : (barZero c : sProp 𝕄) ⊢ |={Set.univ}=> (unscopedSems0 c : sProp 𝕄) := by
    rw [bar_of_unscoped]; iintro H; imodintro; iexact H
  unfold StableHlo.held
  iintro ⟨⟨Hh, Hb⟩, HSI⟩
  ihave Hr := (pointsTo_read_all (Pipeline.ucRefs τ sig) (fun b => ((c : Thread nD τ).1, b)) (V3 m (outs m) c) s') $$ [Hh HSI]
  · isplitl [Hh] <;> iassumption
  icases Hr with ⟨%h, HSI⟩
  imod (Pipeline.unscopedSems0_read hz s') $$ [Hb HSI] with ⟨%hs, HSI⟩
  · isplitl [Hb] <;> iassumption
  imodintro
  isplitr
  · ipureintro
    exact ⟨⟨(h (Proc.devRef .tc main_v6) (Finset.mem_filter.mpr ⟨StableHlo.devRef_mem_tcRefs main_v6, by decide⟩)).trans ((Function.update_self _ _ _).trans (outs_out m c)),
      (h (Proc.devRef .tc main_arg0) (Finset.mem_filter.mpr ⟨StableHlo.devRef_mem_tcRefs main_arg0, by decide⟩)).trans (V3_main_arg0 m (outs m) c),
      (h (Proc.devRef .tc main_arg1) (Finset.mem_filter.mpr ⟨StableHlo.devRef_mem_tcRefs main_arg1, by decide⟩)).trans (V3_main_arg1 m (outs m) c)⟩, hs⟩
  · iexact HSI

set_option backward.isDefEq.respectTransparency.types false in
/-- Every run ends, with the result in place on every device, the arguments as they were and every counter at zero. -/
theorem run_main : θ_run defs (onTc (τ := τ) (main (F := F))) ⟨m, fun _ => 0, ρ⟩ (fun r => (∀ c : Dev nD,
      r.2.mem ((c.tc : Thread nD τ).loc main_v6) = outOf m c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine Pipeline.θ_run_regions_kit_dev_sems (pcfgs (F := F)) adm (dats m) () cellOf_inj EP defs₀ 𝒱₀ L lv m ρ main
    (segs m 𝒱₀ L lv (E m) () (dats m) (reg m))
    (fun c Q => by
      rewrite [main_chain c, Seg.run_eq_chain,
        show (segs m 𝒱₀ L lv (E m) () (dats m) (reg m) c).map Seg.prog = [
          StableHlo.seq (hostOps0 c),
          StableHlo.seq hostOps0_1,
          Prog.lift (.customCall (Pipeline.entry 0) ()) ] from rfl]
      dsimp (config := { failIfUnchanged := false }) only
      exact .rfl)
    (fun c => by simp only [segs, Seg.pipes_host, Seg.pipes_region, Seg.pipes_nil]; decide) O₀ L_of_ne parked u₀ launch_elem
    (T₀ := fun c => iprop(StableHlo.held (c : Thread nD τ) (Pipeline.ucRefs τ sig) (V0 m c) ∗ E m 0 c))
    (Tₙ := fun c => iprop(StableHlo.held (c : Thread nD τ) (Pipeline.ucRefs τ sig) (V3 m (outs m) c) ∗ barZero c))
    (hch := fun c => ⟨.rfl, .rfl, to_region m c, (of_region m c).trans (by
      unfold E
      iintro ⟨Hh, Hb, HO⟩
      isplitl [Hh Hb]; · isplitl [Hh] <;> iassumption
      iexact HO)⟩)
    (hinit := ?_) (QY := Final m) (hfin := read_final m)
    (hQ := fun s h hs => ⟨fun c => (h c).1, sem_eq_zero hs fun c => (h c).2⟩)
  have hsplit : (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ parked c))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) (O₀ c) ∅ ∗ Pipeline.launchCred O₀ c ∗ prngReg c (ρ c) ∗ parked c))
          : sProp 𝕄) := by
    rw [← bigSep_sep']
    exact bigSep_mono fun c _ => by rw [← Pipeline.unscopedBufs_held c (V0 m c)]; exact BI.Entails.refl _
  iintro ⟨H, HL⟩
  ihave H := hsplit $$ H
  icases H with ⟨Hh, Hr⟩
  imod (deal m ρ) $$ [Hr HL] with HE
  · isplitl [Hr] <;> iassumption
  imodintro
  rw [bigSep_sep']
  isplitl [Hh] <;> iassumption

end Cert.KernelIdeal.Gather
-- ==== Proof.Value.lean ====
/-
  The kernel's result over the extended reals: on device `c` it is block `c` of the reference's.
-/
module

public import proofs.«01_k».proof.Proof.KernelIdeal.Run
public import proofs.«01_k».proof.Proof.Gen.ReferenceIdeal.Run
public import Idealize.ShloMosaic.Lib.Pointwise
public import Idealize.ShloMosaic.Lib.Layout

@[expose] public section

set_option maxRecDepth 16384

noncomputable section

namespace Cert.Value

open Idealize.ShloMosaic Idealize.ShloMosaic.TcCoe Idealize.SL.Sem
/-- A whole square matrix. -/
abbrev Sq : Shape := ⟨2, ![2048, 2048]⟩

section

open Cert.ReferenceIdeal Cert.ReferenceIdeal.Gen

/-- The product the reference computes, rounded and widened again. -/
abbrev prod (X W : Sq.Idx → Elt Ideal .bf16) : FVec Ideal S2048x2048 .f32 :=
  extf .f32 (truncf .bf16 (Host.dotGeneral (F := Ideal) (φ₁ := .bf16) (φ₂ := .bf16) dot_S2048x2048_S2048x2048_S2048x2048_1_0_0_1_n_n none X W) bitsLt_bf16_f32) bitsLt_bf16_f32
/-- The reference's result. -/
def refOut (X W : Sq.Idx → Elt Ideal .bf16) : FVec Ideal S2048x2048 .f32 :=
  mulf (mulf (broadcastInDim S2048x2048 ![] bcast_S_S2048x2048 (constant S_ .f32 0x3F000000#32)) (prod X W))
    (addf (broadcastInDim S2048x2048 ![] bcast_S_S2048x2048 (constant S_ .f32 0x3F800000#32))
      (Host.tanh (mulf (broadcastInDim S2048x2048 ![] bcast_S_S2048x2048 (constant S_ .f32 0x3F4C422A#32))
        (addf (prod X W) (mulf (broadcastInDim S2048x2048 ![] bcast_S_S2048x2048 (constant S_ .f32 0x3D372713#32))
          (mulf (mulf (prod X W) (prod X W)) (prod X W)))))))

end

open Cert.KernelIdeal Cert.KernelIdeal.Gen Cert.KernelIdeal.Gather

/-- The parts of a whole square matrix by rows and by columns. -/
abbrev rowsOf (c : Fin 32) (X : Sq.Idx → Elt Ideal .bf16) : S64x2048.Idx → Elt Ideal .bf16 := Layout.block ⟨2, ![64, 2048]⟩ Sq 0 32 c X
abbrev colsOf {α : Type} (c : Fin 32) (X : Sq.Idx → α) : S2048x64.Idx → α := Layout.block ⟨2, ![2048, 64]⟩ Sq 1 32 c X

variable (m : (ℓ : Loc nD τ sig) → Buf (Elt Ideal) ℓ)

/-- The gathered buffer is the whole of `x`. -/
theorem gathered (X : Sq.Idx → Elt Ideal .bf16) (hx : ∀ c : Dev nD, xOf m c = rowsOf c X) : gath m = X := by
  funext i
  unfold gath
  rw [hx]
  unfold k0_pay1
  pointwise
  refine congrArg X (funext fun a => Fin.ext ?_)
  fin_cases a
  · show (i 0).val / 64 * 64 + (i 0).val % 64 = _
    exact Nat.div_add_mod' _ _
  · rfl

/-- The activation of one number, as the reference writes it. -/
def act (y : EReal) : EReal :=
  Ideal.ofBits .f32 0x3F000000#32 * y * (1 + Ideal.tanh (Ideal.ofBits .f32 0x3F4C422A#32 * (y + Ideal.ofBits .f32 0x3D372713#32 * (y * y * y))))

/-- The reference's result at one place. -/
theorem refOut_at (X W : Sq.Idx → Elt Ideal .bf16) (r s : Fin 2048) :
    refOut X W (ix2 r s) = act (∑ x : Fin 2048, X (ix2 r x) * W (ix2 x s)) := by
  unfold refOut act
  pointwise

/-- Where column `s` of block `c` lies in the whole. -/
def colAt (c : Fin 32) (s : Fin 64) : Fin 2048 := ⟨c.val * 64 + s.val, by omega⟩

theorem colsOf_at {α : Type} (c : Fin 32) (V : Sq.Idx → α) (r : Fin 2048) (s : Fin 64) :
    colsOf c V (ix2 r s) = V (ix2 r (colAt c s)) := by
  refine congrArg V (funext fun a => Fin.ext ?_)
  fin_cases a <;> rfl

/-- The last result of the body, of a block of columns, is the block of the reference's result. -/
theorem pay_eq (X W : Sq.Idx → Elt Ideal .bf16) (c : Fin 32) : k0_pay2 (F := Ideal) (colsOf c W) X = colsOf c (refOut X W) := by
  funext j
  idx_vars j
  refine Eq.trans ?_ (colsOf_at c (refOut X W) j0 j1).symm
  rw [refOut_at]
  unfold k0_pay2 act
  pointwise
  simp only [colsOf_at, mul_assoc]

/-- What the kernel leaves on device `c` is block `c` of the reference's result. -/
theorem out_block (X W : Sq.Idx → Elt Ideal .bf16) (hx : ∀ c : Dev nD, xOf m c = rowsOf c X) (c : Dev nD) (hw : wOf m c = colsOf c W) :
    outOf m c = colsOf c (refOut X W) := by
  unfold outOf
  rw [gathered m X hx, hw]
  exact pay_eq X W c

end Cert.Value

end
-- ==== Proof.lean ====
/-
  The claims: the kernel and the reference run with their arguments unchanged and every counter at
  zero at the end; the two prints of the kernel are one program; and over the extended reals the
  kernel's result on each device is that device's block of the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

theorem kernel_quiet : Cert.quiescent_Kernel := fun m g _ =>
  (θ_run _ _ _).mono (fun _ h => ⟨fun c => ⟨(h.1 c).2.1, (h.1 c).2.2⟩, h.2⟩)
    (Cert.Kernel.Gather.run_main (F := Bits) m g)

theorem ideal_quiet : Cert.quiescent_KernelIdeal := fun m g _ =>
  (θ_run _ _ _).mono (fun _ h => ⟨fun c => ⟨(h.1 c).2.1, (h.1 c).2.2⟩, h.2⟩)
    (Cert.KernelIdeal.Gather.run_main (F := Ideal) m g)

/-- The reference has no semaphore, so none of them can be left above zero. -/
theorem reference_quiet : Cert.quiescent_ReferenceIdeal := fun m g _ =>
  (θ_run _ _ _).mono (fun r h => ⟨fun c => ⟨(h c).2.1, (h c).2.2⟩, sem_eq_zero_of_no_sems rfl r.2⟩)
    (Cert.ReferenceIdeal.Value.run (F := Ideal) m g)

/-- The common value is the reference's result of the whole matrices; device `c` holds its block of columns. -/
theorem value_eq : Cert.algebraic_KernelIdeal_ReferenceIdeal := fun m g m' g' _ hm => by
  refine ⟨Cert.Value.refOut
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · exact (θ_run _ _ _).mono
      (fun _ h c => ⟨(h.1 c).1.trans (Cert.Value.out_block m _ _ (fun d => (hm d).1) c (hm c).2), (h.1 c).2.1, (h.1 c).2.2⟩)
      (Cert.KernelIdeal.Gather.run_main (F := Ideal) m g)
  · exact (θ_run _ _ _).mono (fun _ h => ⟨(h 0).1, (h 0).2.1, (h 0).2.2⟩)
      (Cert.ReferenceIdeal.Value.run (F := Ideal) m' g')

theorem claim : Cert.Claim :=
  ⟨Cert.Kernel.Gen.facts, Cert.KernelIdeal.Gen.facts, Cert.ReferenceIdeal.Gen.facts,
    kernel_quiet, ideal_quiet, reference_quiet, trivial, value_eq⟩

end Cert.Proof

end
